-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v31_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v71_1)) (v1 : (c : Dev Cert.Kernel7Ideal.nD) → Buf (Elt Ideal) ((c.tc : Thread Cert.Kernel7Ideal.nD Cert.Kernel7Ideal.τ).loc Cert.Kernel7Ideal.main_v71_2)) (v2 : (c : Dev Cert.Kernel7Ideal.nD) → Buf (Elt Ideal) ((c.tc : Thread Cert.Kernel7Ideal.nD Cert.Kernel7Ideal.τ).loc Cert.Kernel7Ideal.main_v72)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v71_1) = v0 c
          ∧ r.2.mem ((c.tc : Thread Cert.Kernel7Ideal.nD Cert.Kernel7Ideal.τ).loc Cert.Kernel7Ideal.main_v71_2) = v1 c
          ∧ r.2.mem ((c.tc : Thread Cert.Kernel7Ideal.nD Cert.Kernel7Ideal.τ).loc Cert.Kernel7Ideal.main_v72) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v90) = v0 c
          ∧ r.2.mem ((c.tc : Thread Cert.Reference7Ideal.nD Cert.Reference7Ideal.τ).loc Cert.Reference7Ideal.main_v91) = v1 c
          ∧ r.2.mem ((c.tc : Thread Cert.Reference7Ideal.nD Cert.Reference7Ideal.τ).loc Cert.Reference7Ideal.main_v92) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v74_1)) (v1 : (c : Dev Cert.Kernel8Ideal.nD) → Buf (Elt Ideal) ((c.tc : Thread Cert.Kernel8Ideal.nD Cert.Kernel8Ideal.τ).loc Cert.Kernel8Ideal.main_v74_2)) (v2 : (c : Dev Cert.Kernel8Ideal.nD) → Buf (Elt Ideal) ((c.tc : Thread Cert.Kernel8Ideal.nD Cert.Kernel8Ideal.τ).loc Cert.Kernel8Ideal.main_v75)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v74_1) = v0 c
          ∧ r.2.mem ((c.tc : Thread Cert.Kernel8Ideal.nD Cert.Kernel8Ideal.τ).loc Cert.Kernel8Ideal.main_v74_2) = v1 c
          ∧ r.2.mem ((c.tc : Thread Cert.Kernel8Ideal.nD Cert.Kernel8Ideal.τ).loc Cert.Kernel8Ideal.main_v75) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v92) = v0 c
          ∧ r.2.mem ((c.tc : Thread Cert.Reference8Ideal.nD Cert.Reference8Ideal.τ).loc Cert.Reference8Ideal.main_v93) = v1 c
          ∧ r.2.mem ((c.tc : Thread Cert.Reference8Ideal.nD Cert.Reference8Ideal.τ).loc Cert.Reference8Ideal.main_v94) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S32x4x512 : Shape := ⟨3, ![32, 4, 512]⟩
abbrev S32x32x64 : Shape := ⟨3, ![32, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x512 : Shape := ⟨2, ![512, 512]⟩
abbrev S32x1 : Shape := ⟨2, ![32, 1]⟩
abbrev S_ : Shape := ⟨0, ![]⟩
abbrev S32x64x1 : Shape := ⟨3, ![32, 64, 1]⟩
abbrev S32x32 : Shape := ⟨2, ![32, 32]⟩
abbrev S1x2048 : Shape := ⟨2, ![1, 2048]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S1x512 : Shape := ⟨2, ![1, 512]⟩
abbrev S4x32x512 : Shape := ⟨3, ![4, 32, 512]⟩
abbrev S32x2048 : Shape := ⟨2, ![32, 2048]⟩
abbrev S128x2048 : Shape := ⟨2, ![128, 2048]⟩
abbrev S128x512 : Shape := ⟨2, ![128, 512]⟩
abbrev S128x256 : Shape := ⟨2, ![128, 256]⟩
abbrev S256x1024 : Shape := ⟨2, ![256, 1024]⟩
abbrev S128x1024 : Shape := ⟨2, ![128, 1024]⟩
abbrev S1x256 : Shape := ⟨2, ![1, 256]⟩
abbrev S32x256 : Shape := ⟨2, ![32, 256]⟩
abbrev S1024x256 : Shape := ⟨2, ![1024, 256]⟩

abbrev nBuf : Space → Nat
  | .hbm => 103
  | .vmem => 18
  | .smem => 0
  | _ => 0

abbrev bufTy : (tb : Table) → Fin (tcTables nBuf tb) → BufTy
  | .hbm, ⟨0, _⟩ => ⟨S32x4x512, .f32⟩
  | .hbm, ⟨1, _⟩ => ⟨S32x32x64, .f32⟩
  | .hbm, ⟨2, _⟩ => ⟨S32x32x64, .f32⟩
  | .hbm, ⟨3, _⟩ => ⟨S32x64, .f32⟩
  | .hbm, ⟨4, _⟩ => ⟨S32x64, .f32⟩
  | .hbm, ⟨5, _⟩ => ⟨S32, .f32⟩
  | .hbm, ⟨6, _⟩ => ⟨S32x64x16, .f32⟩
  | .hbm, ⟨7, _⟩ => ⟨S32x64x16, .f32⟩
  | .hbm, ⟨8, _⟩ => ⟨S32x16x64, .f32⟩
  | .hbm, ⟨9, _⟩ => ⟨S32x16x64, .f32⟩
  | .hbm, ⟨10, _⟩ => ⟨S512, .f32⟩
  | .hbm, ⟨11, _⟩ => ⟨S512x512, .f32⟩
  | .hbm, ⟨12, _⟩ => ⟨S32, .f32⟩
  | .hbm, ⟨13, _⟩ => ⟨S32x1, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64x1, .f32⟩
  | .hbm, ⟨41, _⟩ => ⟨S32x64x16, .f32⟩
  | .hbm, ⟨42, _⟩ => ⟨S32x64x16, .f32⟩
  | .hbm, ⟨43, _⟩ => ⟨S32x64x1, .f32⟩
  | .hbm, ⟨44, _⟩ => ⟨S32x64x16, .f32⟩
  | .hbm, ⟨45, _⟩ => ⟨S32x64x16, .f32⟩
  | .hbm, ⟨46, _⟩ => ⟨S32x64x16, .f32⟩
  | .hbm, ⟨47, _⟩ => ⟨S32x64x1, .f32⟩
  | .hbm, ⟨48, _⟩ => ⟨S32x64x16, .f32⟩
  | .hbm, ⟨49, _⟩ => ⟨S32x64x16, .f32⟩
  | .hbm, ⟨50, _⟩ => ⟨S32x64x1, .f32⟩
  | .hbm, ⟨51, _⟩ => ⟨S32x64x16, .f32⟩
  | .hbm, ⟨52, _⟩ => ⟨S32x64x16, .f32⟩
  | .hbm, ⟨53, _⟩ => ⟨S32x64x16, .f32⟩
  | .hbm, ⟨54, _⟩ => ⟨S32x32, .i32⟩
  | .hbm, ⟨55, _⟩ => ⟨S32x32, .i32⟩
  | .hbm, ⟨56, _⟩ => ⟨S_, .i32⟩
  | .hbm, ⟨57, _⟩ => ⟨S32x32, .i32⟩
  | .hbm, ⟨58, _⟩ => ⟨S32x32, .i32⟩
  | .hbm, ⟨59, _⟩ => ⟨S32x32, .i1⟩
  | .hbm, ⟨60, _⟩ => ⟨S32x32, .f32⟩
  | .hbm, ⟨61, _⟩ => ⟨S1x2048, .f32⟩
  | .hbm, ⟨62, _⟩ => ⟨S1x2048, .f32⟩
  | .hbm, ⟨63, _⟩ => ⟨S32x16x64, .f32⟩
  | .hbm, ⟨64, _⟩ => ⟨S32x16x1x64, .f32⟩
  | .hbm, ⟨65, _⟩ => ⟨S32x1x32x1, .f32⟩
  | .hbm, ⟨66, _⟩ => ⟨S32x16x32x64, .f32⟩
  | .hbm, ⟨67, _⟩ => ⟨S32x16x32x64, .f32⟩
  | .hbm, ⟨68, _⟩ => ⟨S32x16x32x64, .f32⟩
  | .hbm, ⟨69, _⟩ => ⟨S512x2048, .f32⟩
  | .hbm, ⟨70, _⟩ => ⟨S512x2048, .bf16⟩
  | .hbm, ⟨71, _⟩ => ⟨S32x16x64, .f32⟩
  | .hbm, ⟨72, _⟩ => ⟨S32x16x1x64, .f32⟩
  | .hbm, ⟨73, _⟩ => ⟨S32x1x32x1, .f32⟩
  | .hbm, ⟨74, _⟩ => ⟨S32x16x32x64, .f32⟩
  | .hbm, ⟨75, _⟩ => ⟨S32x16x32x64, .f32⟩
  | .hbm, ⟨76, _⟩ => ⟨S32x16x32x64, .f32⟩
  | .hbm, ⟨77, _⟩ => ⟨S512x2048, .f32⟩
  | .hbm, ⟨78, _⟩ => ⟨S512x2048, .bf16⟩
  | .hbm, ⟨79, _⟩ => ⟨S32x64x16, .f32⟩
  | .hbm, ⟨80, _⟩ => ⟨S32x64x1x16, .f32⟩
  | .hbm, ⟨81, _⟩ => ⟨S32x1x32x1, .f32⟩
  | .hbm, ⟨82, _⟩ => ⟨S32x64x32x16, .f32⟩
  | .hbm, ⟨83, _⟩ => ⟨S32x64x32x16, .f32⟩
  | .hbm, ⟨84, _⟩ => ⟨S32x64x32x16, .f32⟩
  | .hbm, ⟨85, _⟩ => ⟨S2048x512, .f32⟩
  | .hbm, ⟨86, _⟩ => ⟨S2048x512, .bf16⟩
  | .hbm, ⟨87, _⟩ => ⟨S32x64x16, .f32⟩
  | .hbm, ⟨88, _⟩ => ⟨S32x64x1x16, .f32⟩
  | .hbm, ⟨89, _⟩ => ⟨S32x1x32x1, .f32⟩
  | .hbm, ⟨90, _⟩ => ⟨S32x64x32x16, .f32⟩
  | .hbm, ⟨91, _⟩ => ⟨S32x64x32x16, .f32⟩
  | .hbm, ⟨92, _⟩ => ⟨S32x64x32x16, .f32⟩
  | .hbm, ⟨93, _⟩ => ⟨S2048x512, .f32⟩
  | .hbm, ⟨94, _⟩ => ⟨S2048x512, .bf16⟩
  | .hbm, ⟨95, _⟩ => ⟨S1x512, .f32⟩
  | .hbm, ⟨96, _⟩ => ⟨S512x512, .bf16⟩
  | .hbm, ⟨97, _⟩ => ⟨S4x32x512, .f32⟩
  | .hbm, ⟨98, _⟩ => ⟨S32x2048, .f32⟩
  | .hbm, ⟨99, _⟩ => ⟨S32x2048, .f32⟩
  | .hbm, ⟨100, _⟩ => ⟨S4x32x512, .bf16⟩
  | .hbm, ⟨101, _⟩ => ⟨S32x2048, .f32⟩
  | .hbm, ⟨102, _⟩ => ⟨S32x2048, .f32⟩
  | .local _ .vmem, ⟨0, _⟩ => ⟨S4x32x512, .f32⟩
  | .local _ .vmem, ⟨1, _⟩ => ⟨S32x2048, .f32⟩
  | .local _ .vmem, ⟨2, _⟩ => ⟨S32x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S512x512, .bf16⟩
  | .local _ .vmem, ⟨11, _⟩ => ⟨S4x32x512, .bf16⟩
  | .local _ .vmem, ⟨12, _⟩ => ⟨S32x2048, .f32⟩
  | .local _ .vmem, ⟨13, _⟩ => ⟨S32x2048, .f32⟩
  | .local _ .vmem, ⟨14, _⟩ => ⟨S128x2048, .f32⟩
  | .local _ .vmem, ⟨15, _⟩ => ⟨S128x2048, .f32⟩
  | .local _ .vmem, ⟨16, _⟩ => ⟨S32x2048, .f32⟩
  | .local _ .vmem, ⟨17, _⟩ => ⟨S32x2048, .f32⟩
  | _, _ => ⟨S32x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85_0 : Ref sig .tc := ⟨.hbm, 100, rfl⟩
abbrev main_v85_1 : Ref sig .tc := ⟨.hbm, 101, rfl⟩
abbrev main_v85_2 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_28 : BitVec 32 := 0#32
  let c4_i32 : BitVec 32 := 4#32
  let v45 : BitVec 32 := Scalar.addi c0_i32_28 c4_i32
  let c1_i32 : BitVec 32 := 1#32
  ⟨c0_i32_28, v45, c1_i32⟩
def k0_mult1 (k0_t1 : Fin k0_t1_loop.trips) : BitVec 32 :=
  let c0_i32_28 : BitVec 32 := 0#32
  let c1_i32 : BitVec 32 := 1#32
  let arg19 : BitVec 32 := Scf.iv c0_i32_28 c1_i32 k0_t1
  let c32_i32 : BitVec 32 := 32#32
  let v239 : BitVec 32 := Scalar.muli arg19 c32_i32
  v239
def k0_off1 (k0_t1 : Fin k0_t1_loop.trips) : Fin 2 → Nat :=
  let c0_i32_28 : BitVec 32 := 0#32
  let c1_i32 : BitVec 32 := 1#32
  let arg19 : BitVec 32 := Scf.iv c0_i32_28 c1_i32 k0_t1
  let c32_i32 : BitVec 32 := 32#32
  let v239 : BitVec 32 := Scalar.muli arg19 c32_i32
  let v240 : BitVec 32 := v239
  let v244 : Index := Scalar.indexCast v240
  let c0_184 : Index := 0#32
  ![v244.toNat, 0]
@[reducible] def k0_t2_loop : Scf.Loop 32 :=
  let c0_i32_42 : BitVec 32 := 0#32
  let c4_i32_43 : BitVec 32 := 4#32
  let v63 : BitVec 32 := Scalar.addi c0_i32_42 c4_i32_43
  let c1_i32_44 : BitVec 32 := 1#32
  ⟨c0_i32_42, v63, c1_i32_44⟩
def k0_mult2 (k0_t2 : Fin k0_t2_loop.trips) : BitVec 32 :=
  let c0_i32_42 : BitVec 32 := 0#32
  let c1_i32_44 : BitVec 32 := 1#32
  let arg19 : BitVec 32 := Scf.iv c0_i32_42 c1_i32_44 k0_t2
  let c32_i32 : BitVec 32 := 32#32
  let v239 : BitVec 32 := Scalar.muli arg19 c32_i32
  v239
def k0_off2 (k0_t2 : Fin k0_t2_loop.trips) : Fin 2 → Nat :=
  let c0_i32_42 : BitVec 32 := 0#32
  let c1_i32_44 : BitVec 32 := 1#32
  let arg19 : BitVec 32 := Scf.iv c0_i32_42 c1_i32_44 k0_t2
  let c32_i32 : BitVec 32 := 32#32
  let v239 : BitVec 32 := Scalar.muli arg19 c32_i32
  let v240 : BitVec 32 := v239
  let v244 : Index := Scalar.indexCast v240
  let c256_184 : Index := 256#32
  ![v244.toNat, 256]
@[reducible] def k0_t3_loop : Scf.Loop 32 :=
  let c0_i32_57 : BitVec 32 := 0#32
  let c4_i32_58 : BitVec 32 := 4#32
  let v81 : BitVec 32 := Scalar.addi c0_i32_57 c4_i32_58
  let c1_i32_59 : BitVec 32 := 1#32
  ⟨c0_i32_57, v81, c1_i32_59⟩
def k0_mult3 (k0_t3 : Fin k0_t3_loop.trips) : BitVec 32 :=
  let c0_i32_57 : BitVec 32 := 0#32
  let c1_i32_59 : BitVec 32 := 1#32
  let arg19 : BitVec 32 := Scf.iv c0_i32_57 c1_i32_59 k0_t3
  let c32_i32 : BitVec 32 := 32#32
  let v239 : BitVec 32 := Scalar.muli arg19 c32_i32
  v239
def k0_off3 (k0_t3 : Fin k0_t3_loop.trips) : Fin 2 → Nat :=
  let c0_i32_57 : BitVec 32 := 0#32
  let c1_i32_59 : BitVec 32 := 1#32
  let arg19 : BitVec 32 := Scf.iv c0_i32_57 c1_i32_59 k0_t3
  let c32_i32 : BitVec 32 := 32#32
  let v239 : BitVec 32 := Scalar.muli arg19 c32_i32
  let v240 : BitVec 32 := v239
  let v244 : Index := Scalar.indexCast v240
  let c512_184 : Index := 512#32
  ![v244.toNat, 512]
@[reducible] def k0_t4_loop : Scf.Loop 32 :=
  let c0_i32_72 : BitVec 32 := 0#32
  let c4_i32_73 : BitVec 32 := 4#32
  let v99 : BitVec 32 := Scalar.addi c0_i32_72 c4_i32_73
  let c1_i32_74 : BitVec 32 := 1#32
  ⟨c0_i32_72, v99, c1_i32_74⟩
def k0_mult4 (k0_t4 : Fin k0_t4_loop.trips) : BitVec 32 :=
  let c0_i32_72 : BitVec 32 := 0#32
  let c1_i32_74 : BitVec 32 := 1#32
  let arg19 : BitVec 32 := Scf.iv c0_i32_72 c1_i32_74 k0_t4
  let c32_i32 : BitVec 32 := 32#32
  let v239 : BitVec 32 := Scalar.muli arg19 c32_i32
  v239
def k0_off4 (k0_t4 : Fin k0_t4_loop.trips) : Fin 2 → Nat :=
  let c0_i32_72 : BitVec 32 := 0#32
  let c1_i32_74 : BitVec 32 := 1#32
  let arg19 : BitVec 32 := Scf.iv c0_i32_72 c1_i32_74 k0_t4
  let c32_i32 : BitVec 32 := 32#32
  let v239 : BitVec 32 := Scalar.muli arg19 c32_i32
  let v240 : BitVec 32 := v239
  let v244 : Index := Scalar.indexCast v240
  let c768_184 : Index := 768#32
  ![v244.toNat, 768]
@[reducible] def k0_t5_loop : Scf.Loop 32 :=
  let c0_i32_88 : BitVec 32 := 0#32
  let c4_i32_89 : BitVec 32 := 4#32
  let v117 : BitVec 32 := Scalar.addi c0_i32_88 c4_i32_89
  let c1_i32_90 : BitVec 32 := 1#32
  ⟨c0_i32_88, v117, c1_i32_90⟩
def k0_mult5 (k0_t5 : Fin k0_t5_loop.trips) : BitVec 32 :=
  let c0_i32_88 : BitVec 32 := 0#32
  let c1_i32_90 : BitVec 32 := 1#32
  let arg19 : BitVec 32 := Scf.iv c0_i32_88 c1_i32_90 k0_t5
  let c32_i32 : BitVec 32 := 32#32
  let v239 : BitVec 32 := Scalar.muli arg19 c32_i32
  v239
def k0_off5 (k0_t5 : Fin k0_t5_loop.trips) : Fin 2 → Nat :=
  let c0_i32_88 : BitVec 32 := 0#32
  let c1_i32_90 : BitVec 32 := 1#32
  let arg19 : BitVec 32 := Scf.iv c0_i32_88 c1_i32_90 k0_t5
  let c32_i32 : BitVec 32 := 32#32
  let v239 : BitVec 32 := Scalar.muli arg19 c32_i32
  let v240 : BitVec 32 := v239
  let v244 : Index := Scalar.indexCast v240
  let c1024_184 : Index := 1024#32
  ![v244.toNat, 1024]
@[reducible] def k0_t6_loop : Scf.Loop 32 :=
  let c0_i32_103 : BitVec 32 := 0#32
  let c4_i32_104 : BitVec 32 := 4#32
  let v135 : BitVec 32 := Scalar.addi c0_i32_103 c4_i32_104
  let c1_i32_105 : BitVec 32 := 1#32
  ⟨c0_i32_103, v135, c1_i32_105⟩
def k0_mult6 (k0_t6 : Fin k0_t6_loop.trips) : BitVec 32 :=
  let c0_i32_103 : BitVec 32 := 0#32
  let c1_i32_105 : BitVec 32 := 1#32
  let arg19 : BitVec 32 := Scf.iv c0_i32_103 c1_i32_105 k0_t6
  let c32_i32 : BitVec 32 := 32#32
  let v239 : BitVec 32 := Scalar.muli arg19 c32_i32
  v239
def k0_off6 (k0_t6 : Fin k0_t6_loop.trips) : Fin 2 → Nat :=
  let c0_i32_103 : BitVec 32 := 0#32
  let c1_i32_105 : BitVec 32 := 1#32
  let arg19 : BitVec 32 := Scf.iv c0_i32_103 c1_i32_105 k0_t6
  let c32_i32 : BitVec 32 := 32#32
  let v239 : BitVec 32 := Scalar.muli arg19 c32_i32
  let v240 : BitVec 32 := v239
  let v244 : Index := Scalar.indexCast v240
  let c1280_184 : Index := 1280#32
  ![v244.toNat, 1280]
@[reducible] def k0_t7_loop : Scf.Loop 32 :=
  let c0_i32_118 : BitVec 32 := 0#32
  let c4_i32_119 : BitVec 32 := 4#32
  let v153 : BitVec 32 := Scalar.addi c0_i32_118 c4_i32_119
  let c1_i32_120 : BitVec 32 := 1#32
  ⟨c0_i32_118, v153, c1_i32_120⟩
def k0_mult7 (k0_t7 : Fin k0_t7_loop.trips) : BitVec 32 :=
  let c0_i32_118 : BitVec 32 := 0#32
  let c1_i32_120 : BitVec 32 := 1#32
  let arg19 : BitVec 32 := Scf.iv c0_i32_118 c1_i32_120 k0_t7
  let c32_i32 : BitVec 32 := 32#32
  let v239 : BitVec 32 := Scalar.muli arg19 c32_i32
  v239
def k0_off7 (k0_t7 : Fin k0_t7_loop.trips) : Fin 2 → Nat :=
  let c0_i32_118 : BitVec 32 := 0#32
  let c1_i32_120 : BitVec 32 := 1#32
  let arg19 : BitVec 32 := Scf.iv c0_i32_118 c1_i32_120 k0_t7
  let c32_i32 : BitVec 32 := 32#32
  let v239 : BitVec 32 := Scalar.muli arg19 c32_i32
  let v240 : BitVec 32 := v239
  let v244 : Index := Scalar.indexCast v240
  let c1536_184 : Index := 1536#32
  ![v244.toNat, 1536]
@[reducible] def k0_t8_loop : Scf.Loop 32 :=
  let c0_i32_133 : BitVec 32 := 0#32
  let c4_i32_134 : BitVec 32 := 4#32
  let v171 : BitVec 32 := Scalar.addi c0_i32_133 c4_i32_134
  let c1_i32_135 : BitVec 32 := 1#32
  ⟨c0_i32_133, v171, c1_i32_135⟩
def k0_mult8 (k0_t8 : Fin k0_t8_loop.trips) : BitVec 32 :=
  let c0_i32_133 : BitVec 32 := 0#32
  let c1_i32_135 : BitVec 32 := 1#32
  let arg19 : BitVec 32 := Scf.iv c0_i32_133 c1_i32_135 k0_t8
  let c32_i32 : BitVec 32 := 32#32
  let v239 : BitVec 32 := Scalar.muli arg19 c32_i32
  v239
def k0_off8 (k0_t8 : Fin k0_t8_loop.trips) : Fin 2 → Nat :=
  let c0_i32_133 : BitVec 32 := 0#32
  let c1_i32_135 : BitVec 32 := 1#32
  let arg19 : BitVec 32 := Scf.iv c0_i32_133 c1_i32_135 k0_t8
  let c32_i32 : BitVec 32 := 32#32
  let v239 : BitVec 32 := Scalar.muli arg19 c32_i32
  let v240 : BitVec 32 := v239
  let v244 : Index := Scalar.indexCast v240
  let c1792_184 : Index := 1792#32
  ![v244.toNat, 1792]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x32x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S32x4x512 : Shape := ⟨3, ![32, 4, 512]⟩
abbrev S32x32x64 : Shape := ⟨3, ![32, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x512 : Shape := ⟨2, ![512, 512]⟩
abbrev S32x4x32x16 : Shape := ⟨4, ![32, 4, 32, 16]⟩
abbrev S32x1 : Shape := ⟨2, ![32, 1]⟩
abbrev S_ : Shape := ⟨0, ![]⟩
abbrev S32x64x1 : Shape := ⟨3, ![32, 64, 1]⟩
abbrev S32x64x32x4 : Shape := ⟨4, ![32, 64, 32, 4]⟩
abbrev S32x4x32x64 : Shape := ⟨4, ![32, 4, 32, 64]⟩
abbrev S1x32x64 : Shape := ⟨3, ![1, 32, 64]⟩
abbrev S32x1x32x64 : Shape := ⟨4, ![32, 1, 32, 64]⟩
abbrev S1x32x32x64 : Shape := ⟨4, ![1, 32, 32, 64]⟩
abbrev S4x32x32x64 : Shape := ⟨4, ![4, 32, 32, 64]⟩
abbrev S32x16x4x32 : Shape := ⟨4, ![32, 16, 4, 32]⟩
abbrev S4x32x32x16 : Shape := ⟨4, ![4, 32, 32, 16]⟩
abbrev S32x16 : Shape := ⟨2, ![32, 16]⟩
abbrev S1x1x32x16 : Shape := ⟨4, ![1, 1, 32, 16]⟩
abbrev S4x32x512 : Shape := ⟨3, ![4, 32, 512]⟩
abbrev S32x2048 : Shape := ⟨2, ![32, 2048]⟩

abbrev nBuf : Space → Nat
  | .hbm => 191
  | .vmem => 0
  | .smem => 0
  | _ => 0

abbrev hbmTy0_0 (i : Nat) : BufTy := match i % 128 with
  | 0 => ⟨S32x4x512, .f32⟩
  | 1 => ⟨S32x32x64, .f32⟩
  | 2 => ⟨S32x32x64, .f32⟩
  | 3 => ⟨S32x64, .f32⟩
  | 4 => ⟨S32x64, .f32⟩
  | 5 => ⟨S32, .f32⟩
  | 6 => ⟨S32x64x16, .f32⟩
  | 7 => ⟨S32x64x16, .f32⟩
  | 8 => ⟨S32x16x64, .f32⟩
  | 9 => ⟨S32x16x64, .f32⟩
  | 10 => ⟨S512, .f32⟩
  | 11 => ⟨S512x512, .f32⟩
  | 12 => ⟨S32x4x32x16, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64x1, .f32⟩
  | 42 => ⟨S32x64x16, .f32⟩
  | 43 => ⟨S32x64x16, .f32⟩
  | 44 => ⟨S32x64x1, .f32⟩
  | 45 => ⟨S32x64x16, .f32⟩
  | 46 => ⟨S32x64x16, .f32⟩
  | 47 => ⟨S32x64x16, .f32⟩
  | 48 => ⟨S32x64x1, .f32⟩
  | 49 => ⟨S32x64x16, .f32⟩
  | 50 => ⟨S32x64x16, .f32⟩
  | 51 => ⟨S32x64x1, .f32⟩
  | 52 => ⟨S32x64x16, .f32⟩
  | 53 => ⟨S32x64x16, .f32⟩
  | 54 => ⟨S32x64x16, .f32⟩
  | 55 => ⟨S32x64x32x4, .f32⟩
  | 56 => ⟨S32x4x32x64, .f32⟩
  | 57 => ⟨S32x64x32x4, .f32⟩
  | 58 => ⟨S32x4x32x64, .f32⟩
  | 59 => ⟨S1x32x64, .f32⟩
  | 60 => ⟨S32x32x64, .f32⟩
  | 61 => ⟨S32x32x64, .f32⟩
  | 62 => ⟨S1x32x64, .f32⟩
  | 63 => ⟨S32x32x64, .f32⟩
  | 64 => ⟨S32x32x64, .f32⟩
  | 65 => ⟨S32x32x64, .f32⟩
  | 66 => ⟨S32x1x32x64, .f32⟩
  | 67 => ⟨S32x32x64, .f32⟩
  | 68 => ⟨S32x32x64, .f32⟩
  | 69 => ⟨S1x32x64, .f32⟩
  | 70 => ⟨S32x32x64, .f32⟩
  | 71 => ⟨S32x32x64, .f32⟩
  | 72 => ⟨S1x32x64, .f32⟩
  | 73 => ⟨S32x32x64, .f32⟩
  | 74 => ⟨S32x32x64, .f32⟩
  | 75 => ⟨S32x32x64, .f32⟩
  | 76 => ⟨S32x1x32x64, .f32⟩
  | 77 => ⟨S32x32x64, .f32⟩
  | 78 => ⟨S32x32x64, .f32⟩
  | 79 => ⟨S1x32x64, .f32⟩
  | 80 => ⟨S32x32x64, .f32⟩
  | 81 => ⟨S32x32x64, .f32⟩
  | 82 => ⟨S1x32x64, .f32⟩
  | 83 => ⟨S32x32x64, .f32⟩
  | 84 => ⟨S32x32x64, .f32⟩
  | 85 => ⟨S32x32x64, .f32⟩
  | 86 => ⟨S32x1x32x64, .f32⟩
  | 87 => ⟨S32x32x64, .f32⟩
  | 88 => ⟨S32x32x64, .f32⟩
  | 89 => ⟨S1x32x64, .f32⟩
  | 90 => ⟨S32x32x64, .f32⟩
  | 91 => ⟨S32x32x64, .f32⟩
  | 92 => ⟨S1x32x64, .f32⟩
  | 93 => ⟨S32x32x64, .f32⟩
  | 94 => ⟨S32x32x64, .f32⟩
  | 95 => ⟨S32x32x64, .f32⟩
  | 96 => ⟨S32x1x32x64, .f32⟩
  | 97 => ⟨S32x32x64, .f32⟩
  | 98 => ⟨S32x32x64, .f32⟩
  | 99 => ⟨S1x32x64, .f32⟩
  | 100 => ⟨S32x32x64, .f32⟩
  | 101 => ⟨S32x32x64, .f32⟩
  | 102 => ⟨S1x32x64, .f32⟩
  | 103 => ⟨S32x32x64, .f32⟩
  | 104 => ⟨S32x32x64, .f32⟩
  | 105 => ⟨S32x32x64, .f32⟩
  | 106 => ⟨S32x1x32x64, .f32⟩
  | 107 => ⟨S32x32x64, .f32⟩
  | 108 => ⟨S32x32x64, .f32⟩
  | 109 => ⟨S1x32x64, .f32⟩
  | 110 => ⟨S32x32x64, .f32⟩
  | 111 => ⟨S32x32x64, .f32⟩
  | 112 => ⟨S1x32x64, .f32⟩
  | 113 => ⟨S32x32x64, .f32⟩
  | 114 => ⟨S32x32x64, .f32⟩
  | 115 => ⟨S32x32x64, .f32⟩
  | 116 => ⟨S32x1x32x64, .f32⟩
  | 117 => ⟨S32x32x64, .f32⟩
  | 118 => ⟨S32x32x64, .f32⟩
  | 119 => ⟨S1x32x64, .f32⟩
  | 120 => ⟨S32x32x64, .f32⟩
  | 121 => ⟨S32x32x64, .f32⟩
  | 122 => ⟨S1x32x64, .f32⟩
  | 123 => ⟨S32x32x64, .f32⟩
  | 124 => ⟨S32x32x64, .f32⟩
  | 125 => ⟨S32x32x64, .f32⟩
  | 126 => ⟨S32x1x32x64, .f32⟩
  | 127 => ⟨S32x32x64, .f32⟩
  | _ => ⟨S32x4x512, .f32⟩

abbrev hbmTy0_1 (i : Nat) : BufTy := match i % 128 with
  | 0 => ⟨S32x32x64, .f32⟩
  | 1 => ⟨S1x32x64, .f32⟩
  | 2 => ⟨S32x32x64, .f32⟩
  | 3 => ⟨S32x32x64, .f32⟩
  | 4 => ⟨S1x32x64, .f32⟩
  | 5 => ⟨S32x32x64, .f32⟩
  | 6 => ⟨S32x32x64, .f32⟩
  | 7 => ⟨S32x32x64, .f32⟩
  | 8 => ⟨S32x1x32x64, .f32⟩
  | 9 => ⟨S32x32x64, .f32⟩
  | 10 => ⟨S32x32x64, .f32⟩
  | 11 => ⟨S1x32x32x64, .f32⟩
  | 12 => ⟨S1x32x32x64, .f32⟩
  | 13 => ⟨S1x32x32x64, .f32⟩
  | 14 => ⟨S1x32x32x64, .f32⟩
  | 15 => ⟨S4x32x32x64, .f32⟩
  | 16 => ⟨S1x32x32x64, .f32⟩
  | 17 => ⟨S1x32x32x64, .f32⟩
  | 18 => ⟨S1x32x32x64, .f32⟩
  | 19 => ⟨S1x32x32x64, .f32⟩
  | 20 => ⟨S4x32x32x64, .f32⟩
  | 21 => ⟨S32x16x4x32, .f32⟩
  | 22 => ⟨S4x32x32x16, .f32⟩
  | 23 => ⟨S32x16x4x32, .f32⟩
  | 24 => ⟨S4x32x32x16, .f32⟩
  | 25 => ⟨S4x32x32x16, .f32⟩
  | 26 => ⟨S4x32x32x16, .f32⟩
  | 27 => ⟨S32x16, .f32⟩
  | 28 => ⟨S1x1x32x16, .f32⟩
  | 29 => ⟨S4x32x32x16, .f32⟩
  | 30 => ⟨S4x32x32x16, .f32⟩
  | 31 => ⟨S4x32x32x16, .f32⟩
  | 32 => ⟨S4x32x512, .f32⟩
  | 33 => ⟨S4x32x512, .f32⟩
  | 34 => ⟨S4x32x512, .f32⟩
  | 35 => ⟨S_, .f32⟩
  | 36 => ⟨S4x32x512, .f32⟩
  | 37 => ⟨S4x32x512, .f32⟩
  | 38 => ⟨S4x32x512, .f32⟩
  | 39 => ⟨S_, .f32⟩
  | 40 => ⟨S4x32x512, .f32⟩
  | 41 => ⟨S4x32x512, .f32⟩
  | 42 => ⟨S4x32x512, .f32⟩
  | 43 => ⟨S_, .f32⟩
  | 44 => ⟨S4x32x512, .f32⟩
  | 45 => ⟨S4x32x512, .f32⟩
  | 46 => ⟨S_, .f32⟩
  | 47 => ⟨S4x32x512, .f32⟩
  | 48 => ⟨S4x32x512, .f32⟩
  | 49 => ⟨S4x32x512, .f32⟩
  | 50 => ⟨S4x32x512, .f32⟩
  | 51 => ⟨S4x32x512, .f32⟩
  | 52 => ⟨S4x32x512, .f32⟩
  | 53 => ⟨S_, .f32⟩
  | 54 => ⟨S4x32x512, .f32⟩
  | 55 => ⟨S4x32x512, .f32⟩
  | 56 => ⟨S_, .f32⟩
  | 57 => ⟨S4x32x512, .f32⟩
  | 58 => ⟨S4x32x512, .f32⟩
  | 59 => ⟨S4x32x512, .f32⟩
  | 60 => ⟨S4x32x512, .bf16⟩
  | 61 => ⟨S32x2048, .f32⟩
  | 62 => ⟨S32x2048, .f32⟩
  | _ => ⟨S32x4x512, .f32⟩

abbrev hbmTy (i : Nat) : BufTy := match i / 128 with
  | 0 => hbmTy0_0 i
  | 1 => hbmTy0_1 i
  | _ => ⟨S32x4x512, .f32⟩

abbrev bufTy : (tb : Table) → Fin (tcTables nBuf tb) → BufTy
  | .hbm, ⟨i, _⟩ => hbmTy i
  | _, _ => ⟨S32x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_cst_1 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_cst_2 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_cst_3 : Ref sig .tc := ⟨.hbm, 171, rfl⟩
abbrev main_v155 : Ref sig .tc := ⟨.hbm, 172, rfl⟩
abbrev main_v156 : Ref sig .tc := ⟨.hbm, 173, rfl⟩
abbrev main_cst_4 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_cst_5 : Ref sig .tc := ⟨.hbm, 181, rfl⟩
abbrev main_v163 : Ref sig .tc := ⟨.hbm, 182, rfl⟩
abbrev main_v164 : Ref sig .tc := ⟨.hbm, 183, rfl⟩
abbrev main_cst_6 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩

abbrev nD : Nat := 1
abbrev τ : Topo := Topo.v7x

variable {F : FTy → Type} [FloatOps F]
-- ==== Kernel2.lean ====
abbrev S32768x2048 : Shape := ⟨2, ![32768, 2048]⟩
abbrev S16x2048x256 : Shape := ⟨3, ![16, 2048, 256]⟩
abbrev S2048 : Shape := ⟨1, ![2048]⟩
abbrev S2048x2048 : Shape := ⟨2, ![2048, 2048]⟩
abbrev S256x2048 : Shape := ⟨2, ![256, 2048]⟩
abbrev S32768x256 : Shape := ⟨2, ![32768, 256]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S16x2048x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S32768x256, .f32⟩
  | .hbm, ⟨7, _⟩ => ⟨S1x2048, .f32⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x2048 : Shape := ⟨2, ![32768, 2048]⟩
abbrev S16x2048x256 : Shape := ⟨3, ![16, 2048, 256]⟩
abbrev S2048 : Shape := ⟨1, ![2048]⟩
abbrev S2048x2048 : Shape := ⟨2, ![2048, 2048]⟩
abbrev S256x2048 : Shape := ⟨2, ![256, 2048]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x2048x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S32768x256, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768x2048, .f32⟩
  | .hbm, ⟨45, _⟩ => ⟨S32768x2048, .f32⟩
  | .hbm, ⟨46, _⟩ => ⟨S_, .f32⟩
  | .hbm, ⟨47, _⟩ => ⟨S32768x2048, .f32⟩
  | .hbm, ⟨48, _⟩ => ⟨S32768x2048, .f32⟩
  | .hbm, ⟨49, _⟩ => ⟨S32768x2048, .f32⟩
  | .hbm, ⟨50, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S16x2048x2048 : Shape := ⟨3, ![16, 2048, 2048]⟩
abbrev S2048 : Shape := ⟨1, ![2048]⟩
abbrev S2048x7248 : Shape := ⟨2, ![2048, 7248]⟩
abbrev S1024x2048 : Shape := ⟨2, ![1024, 2048]⟩
abbrev S512x2048 : Shape := ⟨2, ![512, 2048]⟩
abbrev S2048x2048 : Shape := ⟨2, ![2048, 2048]⟩
abbrev S2048x4096 : Shape := ⟨2, ![2048, 4096]⟩
abbrev S2048x16x512 : Shape := ⟨3, ![2048, 16, 512]⟩
abbrev S32768x1024 : Shape := ⟨2, ![32768, 1024]⟩
abbrev S2048x8192 : Shape := ⟨2, ![2048, 8192]⟩
abbrev S32768x2048 : Shape := ⟨2, ![32768, 2048]⟩
abbrev S1x2048 : Shape := ⟨2, ![1, 2048]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 21
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x2048, .f32⟩
  | .hbm, ⟨3, _⟩ => ⟨S2048, .f32⟩
  | .hbm, ⟨4, _⟩ => ⟨S2048x7248, .f32⟩
  | .hbm, ⟨5, _⟩ => ⟨S1024x2048, .f32⟩
  | .hbm, ⟨6, _⟩ => ⟨S512x2048, .f32⟩
  | .hbm, ⟨7, _⟩ => ⟨S2048x2048, .f32⟩
  | .hbm, ⟨8, _⟩ => ⟨S2048x4096, .f32⟩
  | .hbm, ⟨9, _⟩ => ⟨S2048x16x512, .f32⟩
  | .hbm, ⟨10, _⟩ => ⟨S32768x1024, .f32⟩
  | .hbm, ⟨11, _⟩ => ⟨S32768x1024, .bf16⟩
  | .hbm, ⟨12, _⟩ => ⟨S2048x8192, .f32⟩
  | .hbm, ⟨13, _⟩ => ⟨S2048x8192, .bf16⟩
  | .hbm, ⟨14, _⟩ => ⟨S32768x2048, .f32⟩
  | .hbm, ⟨15, _⟩ => ⟨S1x2048, .f32⟩
  | .hbm, ⟨16, _⟩ => ⟨S2048x4096, .bf16⟩
  | .hbm, ⟨17, _⟩ => ⟨S1024x2048, .bf16⟩
  | .hbm, ⟨18, _⟩ => ⟨S512x2048, .bf16⟩
  | .hbm, ⟨19, _⟩ => ⟨S2048x2048, .bf16⟩
  | .hbm, ⟨20, _⟩ => ⟨S32768x2048, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S2048x4096, .bf16⟩
  | .local _ .vmem, ⟨8, _⟩ => ⟨S1024x2048, .bf16⟩
  | .local _ .vmem, ⟨9, _⟩ => ⟨S512x2048, .bf16⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16x2048x1024 : Shape := ⟨3, ![16, 2048, 1024]⟩
abbrev S16x2048x512 : Shape := ⟨3, ![16, 2048, 512]⟩
abbrev S16x2048x2048 : Shape := ⟨3, ![16, 2048, 2048]⟩
abbrev S2048 : Shape := ⟨1, ![2048]⟩
abbrev S2048x7248 : Shape := ⟨2, ![2048, 7248]⟩
abbrev S1024x2048 : Shape := ⟨2, ![1024, 2048]⟩
abbrev S512x2048 : Shape := ⟨2, ![512, 2048]⟩
abbrev S2048x2048 : Shape := ⟨2, ![2048, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x7248 : Shape := ⟨3, ![16, 2048, 7248]⟩
abbrev S32768x2048 : Shape := ⟨2, ![32768, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x2048, .f32⟩
  | .hbm, ⟨3, _⟩ => ⟨S2048, .f32⟩
  | .hbm, ⟨4, _⟩ => ⟨S2048x7248, .f32⟩
  | .hbm, ⟨5, _⟩ => ⟨S1024x2048, .f32⟩
  | .hbm, ⟨6, _⟩ => ⟨S512x2048, .f32⟩
  | .hbm, ⟨7, _⟩ => ⟨S2048x2048, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S1x1x2048, .f32⟩
  | .hbm, ⟨22, _⟩ => ⟨S16x2048x2048, .f32⟩
  | .hbm, ⟨23, _⟩ => ⟨S16x2048x2048, .f32⟩
  | .hbm, ⟨24, _⟩ => ⟨S16x2048x7248, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S_, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S16x2048x2048, .f32⟩
  | .hbm, ⟨49, _⟩ => ⟨S16x2048x2048, .f32⟩
  | .hbm, ⟨50, _⟩ => ⟨S32768x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel4.lean ====
abbrev S16x2048x2048 : Shape := ⟨3, ![16, 2048, 2048]⟩
abbrev S2048 : Shape := ⟨1, ![2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S2048x5504 : Shape := ⟨2, ![2048, 5504]⟩
abbrev S_ : Shape := ⟨0, ![]⟩
abbrev S2048x5632 : Shape := ⟨2, ![2048, 5632]⟩
abbrev S2048x11x512 : Shape := ⟨3, ![2048, 11, 512]⟩
abbrev S2048x11x1024 : Shape := ⟨3, ![2048, 11, 1024]⟩
abbrev S2048x11264 : Shape := ⟨2, ![2048, 11264]⟩
abbrev S5632x2048 : Shape := ⟨2, ![5632, 2048]⟩
abbrev S11x512x2048 : Shape := ⟨3, ![11, 512, 2048]⟩
abbrev S3x5504 : Shape := ⟨2, ![3, 5504]⟩
abbrev S3x5632 : Shape := ⟨2, ![3, 5632]⟩
abbrev S3x11x512 : Shape := ⟨3, ![3, 11, 512]⟩
abbrev S3x11x1024 : Shape := ⟨3, ![3, 11, 1024]⟩
abbrev S11x3x1024 : Shape := ⟨3, ![11, 3, 1024]⟩
abbrev S5504 : Shape := ⟨1, ![5504]⟩
abbrev S5632 : Shape := ⟨1, ![5632]⟩
abbrev S11x512 : Shape := ⟨2, ![11, 512]⟩
abbrev S11x1024 : Shape := ⟨2, ![11, 1024]⟩
abbrev S11x1x1024 : Shape := ⟨3, ![11, 1, 1024]⟩
abbrev S32768x2048 : Shape := ⟨2, ![32768, 2048]⟩
abbrev S1x2048 : Shape := ⟨2, ![1, 2048]⟩
abbrev S2x11264 : Shape := ⟨2, ![2, 11264]⟩
abbrev S64x2x11264 : Shape := ⟨3, ![64, 2, 11264]⟩
abbrev S512x2048 : Shape := ⟨2, ![512, 2048]⟩
abbrev S2x1024 : Shape := ⟨2, ![2, 1024]⟩
abbrev S2048x1024 : Shape := ⟨2, ![2048, 1024]⟩
abbrev S1x3x1024 : Shape := ⟨3, ![1, 3, 1024]⟩
abbrev S1x1x1024 : Shape := ⟨3, ![1, 1, 1024]⟩
abbrev S1x512x2048 : Shape := ⟨3, ![1, 512, 2048]⟩
abbrev S1x2x1024 : Shape := ⟨3, ![1, 2, 1024]⟩
abbrev S11x2x1024 : Shape := ⟨3, ![11, 2, 1024]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S2x256 : Shape := ⟨2, ![2, 256]⟩
abbrev S1x256 : Shape := ⟨2, ![1, 256]⟩
abbrev S511x256 : Shape := ⟨2, ![511, 256]⟩
abbrev S510x256 : Shape := ⟨2, ![510, 256]⟩
abbrev S1x1x256 : Shape := ⟨3, ![1, 1, 256]⟩
abbrev S1x2x256 : Shape := ⟨3, ![1, 2, 256]⟩
abbrev S1x256x2048 : Shape := ⟨3, ![1, 256, 2048]⟩
abbrev S256x2048 : Shape := ⟨2, ![256, 2048]⟩

abbrev nBuf : Space → Nat
  | .hbm => 54
  | .vmem => 21
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S2048x5504, .f32⟩
  | .hbm, ⟨7, _⟩ => ⟨S_, .i32⟩
  | .hbm, ⟨8, _⟩ => ⟨S_, .f32⟩
  | .hbm, ⟨9, _⟩ => ⟨S2048x5632, .f32⟩
  | .hbm, ⟨10, _⟩ => ⟨S2048x11x512, .f32⟩
  | .hbm, ⟨11, _⟩ => ⟨S2048x5504, .f32⟩
  | .hbm, ⟨12, _⟩ => ⟨S_, .i32⟩
  | .hbm, ⟨13, _⟩ => ⟨S_, .f32⟩
  | .hbm, ⟨14, _⟩ => ⟨S2048x5632, .f32⟩
  | .hbm, ⟨15, _⟩ => ⟨S2048x11x512, .f32⟩
  | .hbm, ⟨16, _⟩ => ⟨S2048x11x1024, .f32⟩
  | .hbm, ⟨17, _⟩ => ⟨S2048x11264, .f32⟩
  | .hbm, ⟨18, _⟩ => ⟨S2048x11264, .bf16⟩
  | .hbm, ⟨19, _⟩ => ⟨S_, .i32⟩
  | .hbm, ⟨20, _⟩ => ⟨S_, .f32⟩
  | .hbm, ⟨21, _⟩ => ⟨S5632x2048, .f32⟩
  | .hbm, ⟨22, _⟩ => ⟨S11x512x2048, .f32⟩
  | .hbm, ⟨23, _⟩ => ⟨S11x512x2048, .bf16⟩
  | .hbm, ⟨24, _⟩ => ⟨S3x5504, .f32⟩
  | .hbm, ⟨25, _⟩ => ⟨S_, .i32⟩
  | .hbm, ⟨26, _⟩ => ⟨S_, .f32⟩
  | .hbm, ⟨27, _⟩ => ⟨S3x5632, .f32⟩
  | .hbm, ⟨28, _⟩ => ⟨S3x11x512, .f32⟩
  | .hbm, ⟨29, _⟩ => ⟨S3x5504, .f32⟩
  | .hbm, ⟨30, _⟩ => ⟨S_, .i32⟩
  | .hbm, ⟨31, _⟩ => ⟨S_, .f32⟩
  | .hbm, ⟨32, _⟩ => ⟨S3x5632, .f32⟩
  | .hbm, ⟨33, _⟩ => ⟨S3x11x512, .f32⟩
  | .hbm, ⟨34, _⟩ => ⟨S3x11x1024, .f32⟩
  | .hbm, ⟨35, _⟩ => ⟨S11x3x1024, .f32⟩
  | .hbm, ⟨36, _⟩ => ⟨S5504, .f32⟩
  | .hbm, ⟨37, _⟩ => ⟨S_, .i32⟩
  | .hbm, ⟨38, _⟩ => ⟨S_, .f32⟩
  | .hbm, ⟨39, _⟩ => ⟨S5632, .f32⟩
  | .hbm, ⟨40, _⟩ => ⟨S11x512, .f32⟩
  | .hbm, ⟨41, _⟩ => ⟨S5504, .f32⟩
  | .hbm, ⟨42, _⟩ => ⟨S_, .i32⟩
  | .hbm, ⟨43, _⟩ => ⟨S_, .f32⟩
  | .hbm, ⟨44, _⟩ => ⟨S5632, .f32⟩
  | .hbm, ⟨45, _⟩ => ⟨S11x512, .f32⟩
  | .hbm, ⟨46, _⟩ => ⟨S11x1024, .f32⟩
  | .hbm, ⟨47, _⟩ => ⟨S11x1x1024, .f32⟩
  | .hbm, ⟨48, _⟩ => ⟨S32768x2048, .f32⟩
  | .hbm, ⟨49, _⟩ => ⟨S1x2048, .f32⟩
  | .hbm, ⟨50, _⟩ => ⟨S_, .f32⟩
  | .hbm, ⟨51, _⟩ => ⟨S2x11264, .f32⟩
  | .hbm, ⟨52, _⟩ => ⟨S32768x2048, .f32⟩
  | .hbm, ⟨53, _⟩ => ⟨S64x2x11264, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2x1024, .f32⟩
  | .local _ .vmem, ⟨4, _⟩ => ⟨S2x1024, .f32⟩
  | .local _ .vmem, ⟨5, _⟩ => ⟨S2048x1024, .bf16⟩
  | .local _ .vmem, ⟨6, _⟩ => ⟨S2048x1024, .bf16⟩
  | .local _ .vmem, ⟨7, _⟩ => ⟨S1x3x1024, .f32⟩
  | .local _ .vmem, ⟨8, _⟩ => ⟨S1x3x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x2048, .bf16⟩
  | .local _ .vmem, ⟨12, _⟩ => ⟨S1x512x2048, .bf16⟩
  | .local _ .vmem, ⟨13, _⟩ => ⟨S512x2048, .f32⟩
  | .local _ .vmem, ⟨14, _⟩ => ⟨S512x2048, .f32⟩
  | .local _ .vmem, ⟨15, _⟩ => ⟨S1x2x1024, .f32⟩
  | .local _ .vmem, ⟨16, _⟩ => ⟨S1x2x1024, .f32⟩
  | .local _ .vmem, ⟨17, _⟩ => ⟨S512x2048, .bf16⟩
  | .local _ .vmem, ⟨18, _⟩ => ⟨S512x2048, .f32⟩
  | .local _ .vmem, ⟨19, _⟩ => ⟨S2x1024, .f32⟩
  | .local _ .vmem, ⟨20, _⟩ => ⟨S11x2x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_call3_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_call4_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_call5_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_call6_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![64, 11], ![false, false]⟩

def k0_cond3 (i : grid0.Coords) : BitVec 1 :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v_true : BitVec 1 := 1#1
  let v16 : BitVec 1 := Scalar.xori v13 v_true
  let v17 : BitVec 32 := Scalar.extui v16
  let c0_i32_7 : BitVec 32 := 0#32
  let v18 : BitVec 1 := Scalar.cmpi .ne v17 c0_i32_7
  v18

def k0_off1 (i : grid0.Coords) : Fin 3 → Nat :=
  let arg1 : BitVec 32 := BitVec.ofNat 32 (i 1).val
  let v208 : Index := Scalar.indexCast arg1
  let c0_118 : Index := 0#32
  let c0_119 : Index := 0#32
  ![v208.toNat, 0, 0]
def k0_off2 (i : grid0.Coords) : Fin 3 → Nat :=
  let arg1 : BitVec 32 := BitVec.ofNat 32 (i 1).val
  let v77 : Index := Scalar.indexCast arg1
  let c0_41 : Index := 0#32
  let c0_42 : Index := 0#32
  ![v77.toNat, 0, 0]
def k0_off3 (i : grid0.Coords) : Fin 3 → Nat :=
  let arg1 : BitVec 32 := BitVec.ofNat 32 (i 1).val
  let v84 : Index := Scalar.indexCast arg1
  let c0_46 : Index := 0#32
  let c512_47 : Index := 512#32
  ![v84.toNat, 0, 512]
def k0_off4 (i : grid0.Coords) : Fin 3 → Nat :=
  let arg1 : BitVec 32 := BitVec.ofNat 32 (i 1).val
  let v167 : Index := Scalar.indexCast arg1
  let c0_95 : Index := 0#32
  let c256_96 : Index := 256#32
  ![v167.toNat, 0, 256]
def k0_off5 (i : grid0.Coords) : Fin 3 → Nat :=
  let arg1 : BitVec 32 := BitVec.ofNat 32 (i 1).val
  let v174 : Index := Scalar.indexCast arg1
  let c0_100 : Index := 0#32
  let c768_101 : Index := 768#32
  ![v174.toNat, 0, 768]
def k0_cond4 (i : grid0.Coords) : BitVec 1 :=
  let arg1 : BitVec 32 := BitVec.ofNat 32 (i 1).val
  let c10_i32 : BitVec 32 := 10#32
  let v205 : BitVec 1 := Scalar.cmpi .eq arg1 c10_i32
  let v206 : BitVec 32 := Scalar.extui v205
  let c0_i32_117 : BitVec 32 := 0#32
  let v207 : BitVec 1 := Scalar.cmpi .ne v206 c0_i32_117
  v207

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S16x2048x2048 : Shape := ⟨3, ![16, 2048, 2048]⟩
abbrev S2048 : Shape := ⟨1, ![2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2x11008 : Shape := ⟨3, ![16, 2, 11008]⟩
abbrev S16x2048x11008 : Shape := ⟨3, ![16, 2048, 11008]⟩
abbrev S16x2050x11008 : Shape := ⟨3, ![16, 2050, 11008]⟩
abbrev S1x11008 : Shape := ⟨2, ![1, 11008]⟩
abbrev S1x1x11008 : Shape := ⟨3, ![1, 1, 11008]⟩
abbrev S16x2048x5504 : Shape := ⟨3, ![16, 2048, 5504]⟩
abbrev S32768x2048 : Shape := ⟨2, ![32768, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2x11008, .f32⟩
  | .hbm, ⟨24, _⟩ => ⟨S16x2048x11008, .f32⟩
  | .hbm, ⟨25, _⟩ => ⟨S16x2050x11008, .f32⟩
  | .hbm, ⟨26, _⟩ => ⟨S16x2048x11008, .f32⟩
  | .hbm, ⟨27, _⟩ => ⟨S1x11008, .f32⟩
  | .hbm, ⟨28, _⟩ => ⟨S11008, .f32⟩
  | .hbm, ⟨29, _⟩ => ⟨S1x1x11008, .f32⟩
  | .hbm, ⟨30, _⟩ => ⟨S16x2048x11008, .f32⟩
  | .hbm, ⟨31, _⟩ => ⟨S16x2048x11008, .f32⟩
  | .hbm, ⟨32, _⟩ => ⟨S_, .f32⟩
  | .hbm, ⟨33, _⟩ => ⟨S16x2048x11008, .f32⟩
  | .hbm, ⟨34, _⟩ => ⟨S16x2048x11008, .f32⟩
  | .hbm, ⟨35, _⟩ => ⟨S16x2048x11008, .f32⟩
  | .hbm, ⟨36, _⟩ => ⟨S1x11008, .f32⟩
  | .hbm, ⟨37, _⟩ => ⟨S11008, .f32⟩
  | .hbm, ⟨38, _⟩ => ⟨S1x1x11008, .f32⟩
  | .hbm, ⟨39, _⟩ => ⟨S16x2048x11008, .f32⟩
  | .hbm, ⟨40, _⟩ => ⟨S16x2048x11008, .f32⟩
  | .hbm, ⟨41, _⟩ => ⟨S16x2048x11008, .f32⟩
  | .hbm, ⟨42, _⟩ => ⟨S16x2048x11008, .f32⟩
  | .hbm, ⟨43, _⟩ => ⟨S1x11008, .f32⟩
  | .hbm, ⟨44, _⟩ => ⟨S11008, .f32⟩
  | .hbm, ⟨45, _⟩ => ⟨S1x1x11008, .f32⟩
  | .hbm, ⟨46, _⟩ => ⟨S16x2048x11008, .f32⟩
  | .hbm, ⟨47, _⟩ => ⟨S16x2048x11008, .f32⟩
  | .hbm, ⟨48, _⟩ => ⟨S16x2048x11008, .f32⟩
  | .hbm, ⟨49, _⟩ => ⟨S1x1x11008, .f32⟩
  | .hbm, ⟨50, _⟩ => ⟨S16x2048x11008, .f32⟩
  | .hbm, ⟨51, _⟩ => ⟨S16x2048x11008, .f32⟩
  | .hbm, ⟨52, _⟩ => ⟨S16x2048x5504, .f32⟩
  | .hbm, ⟨53, _⟩ => ⟨S16x2048x5504, .f32⟩
  | .hbm, ⟨54, _⟩ => ⟨S16x2048x5504, .f32⟩
  | .hbm, ⟨55, _⟩ => ⟨S16x2048x5504, .f32⟩
  | .hbm, ⟨56, _⟩ => ⟨S_, .f32⟩
  | .hbm, ⟨57, _⟩ => ⟨S16x2048x5504, .f32⟩
  | .hbm, ⟨58, _⟩ => ⟨S16x2048x5504, .f32⟩
  | .hbm, ⟨59, _⟩ => ⟨S16x2048x5504, .f32⟩
  | .hbm, ⟨60, _⟩ => ⟨S_, .f32⟩
  | .hbm, ⟨61, _⟩ => ⟨S16x2048x5504, .f32⟩
  | .hbm, ⟨62, _⟩ => ⟨S16x2048x5504, .f32⟩
  | .hbm, ⟨63, _⟩ => ⟨S16x2048x5504, .f32⟩
  | .hbm, ⟨64, _⟩ => ⟨S_, .f32⟩
  | .hbm, ⟨65, _⟩ => ⟨S16x2048x5504, .f32⟩
  | .hbm, ⟨66, _⟩ => ⟨S16x2048x5504, .f32⟩
  | .hbm, ⟨67, _⟩ => ⟨S_, .f32⟩
  | .hbm, ⟨68, _⟩ => ⟨S16x2048x5504, .f32⟩
  | .hbm, ⟨69, _⟩ => ⟨S16x2048x5504, .f32⟩
  | .hbm, ⟨70, _⟩ => ⟨S16x2048x5504, .f32⟩
  | .hbm, ⟨71, _⟩ => ⟨S16x2048x5504, .f32⟩
  | .hbm, ⟨72, _⟩ => ⟨S16x2048x2048, .f32⟩
  | .hbm, ⟨73, _⟩ => ⟨S16x2048x2048, .f32⟩
  | .hbm, ⟨74, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Kernel5.lean ====
abbrev S128x2048 : Shape := ⟨2, ![128, 2048]⟩
abbrev S32x4x256 : Shape := ⟨3, ![32, 4, 256]⟩
abbrev S2048 : Shape := ⟨1, ![2048]⟩
abbrev S2048x2048 : Shape := ⟨2, ![2048, 2048]⟩
abbrev S256x2048 : Shape := ⟨2, ![256, 2048]⟩
abbrev S128x256 : Shape := ⟨2, ![128, 256]⟩
abbrev S1x2048 : Shape := ⟨2, ![1, 2048]⟩
abbrev S128 : Shape := ⟨1, ![128]⟩
abbrev S128x1 : Shape := ⟨2, ![128, 1]⟩

abbrev nBuf : Space → Nat
  | .hbm => 12
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S32x4x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S128x256, .f32⟩
  | .hbm, ⟨7, _⟩ => ⟨S1x2048, .f32⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S128x2048, .f32⟩
  | .local _ .vmem, ⟨0, _⟩ => ⟨S128x2048, .f32⟩
  | .local _ .vmem, ⟨1, _⟩ => ⟨S128x256, .f32⟩
  | .local _ .vmem, ⟨2, _⟩ => ⟨S1x2048, .f32⟩
  | .local _ .vmem, ⟨3, _⟩ => ⟨S2048x2048, .bf16⟩
  | .local _ .vmem, ⟨4, _⟩ => ⟨S256x2048, .bf16⟩
  | .local _ .vmem, ⟨5, _⟩ => ⟨S1x2048, .f32⟩
  | .local _ .vmem, ⟨6, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference5Ideal.lean ====
abbrev S128x2048 : Shape := ⟨2, ![128, 2048]⟩
abbrev S32x4x256 : Shape := ⟨3, ![32, 4, 256]⟩
abbrev S2048 : Shape := ⟨1, ![2048]⟩
abbrev S2048x2048 : Shape := ⟨2, ![2048, 2048]⟩
abbrev S256x2048 : Shape := ⟨2, ![256, 2048]⟩
abbrev S128x256 : Shape := ⟨2, ![128, 256]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S32x4x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S128x256, .f32⟩
  | .hbm, ⟨7, _⟩ => ⟨S128x2048, .f32⟩
  | .hbm, ⟨8, _⟩ => ⟨S128x2048, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x2048, .f32⟩
  | .hbm, ⟨20, _⟩ => ⟨S128x2048, .f32⟩
  | .hbm, ⟨21, _⟩ => ⟨S1x2048, .f32⟩
  | .hbm, ⟨22, _⟩ => ⟨S128x2048, .f32⟩
  | .hbm, ⟨23, _⟩ => ⟨S128x2048, .f32⟩
  | .hbm, ⟨24, _⟩ => ⟨S128x2048, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x1, .f32⟩
  | .hbm, ⟨35, _⟩ => ⟨S128x2048, .f32⟩
  | .hbm, ⟨36, _⟩ => ⟨S128x2048, .f32⟩
  | .hbm, ⟨37, _⟩ => ⟨S1x2048, .f32⟩
  | .hbm, ⟨38, _⟩ => ⟨S128x2048, .f32⟩
  | .hbm, ⟨39, _⟩ => ⟨S128x2048, .f32⟩
  | .hbm, ⟨40, _⟩ => ⟨S128x2048, .f32⟩
  | .hbm, ⟨41, _⟩ => ⟨S128x2048, .f32⟩
  | .hbm, ⟨42, _⟩ => ⟨S128x2048, .f32⟩
  | .hbm, ⟨43, _⟩ => ⟨S_, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel6.lean ====
abbrev S32x4x1024 : Shape := ⟨3, ![32, 4, 1024]⟩
abbrev S32x4x512 : Shape := ⟨3, ![32, 4, 512]⟩
abbrev S32x4x2048 : Shape := ⟨3, ![32, 4, 2048]⟩
abbrev S2048 : Shape := ⟨1, ![2048]⟩
abbrev S2048x7248 : Shape := ⟨2, ![2048, 7248]⟩
abbrev S1024x2048 : Shape := ⟨2, ![1024, 2048]⟩
abbrev S512x2048 : Shape := ⟨2, ![512, 2048]⟩
abbrev S2048x2048 : Shape := ⟨2, ![2048, 2048]⟩
abbrev S2048x4096 : Shape := ⟨2, ![2048, 4096]⟩
abbrev S128x1024 : Shape := ⟨2, ![128, 1024]⟩
abbrev S128x512 : Shape := ⟨2, ![128, 512]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 20
  | .vmem => 10
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x2048, .f32⟩
  | .hbm, ⟨3, _⟩ => ⟨S2048, .f32⟩
  | .hbm, ⟨4, _⟩ => ⟨S2048x7248, .f32⟩
  | .hbm, ⟨5, _⟩ => ⟨S1024x2048, .f32⟩
  | .hbm, ⟨6, _⟩ => ⟨S512x2048, .f32⟩
  | .hbm, ⟨7, _⟩ => ⟨S2048x2048, .f32⟩
  | .hbm, ⟨8, _⟩ => ⟨S2048x4096, .f32⟩
  | .hbm, ⟨9, _⟩ => ⟨S128x1024, .f32⟩
  | .hbm, ⟨10, _⟩ => ⟨S128x1024, .bf16⟩
  | .hbm, ⟨11, _⟩ => ⟨S128x512, .f32⟩
  | .hbm, ⟨12, _⟩ => ⟨S128x512, .bf16⟩
  | .hbm, ⟨13, _⟩ => ⟨S128x2048, .f32⟩
  | .hbm, ⟨14, _⟩ => ⟨S1x2048, .f32⟩
  | .hbm, ⟨15, _⟩ => ⟨S2048x4096, .bf16⟩
  | .hbm, ⟨16, _⟩ => ⟨S1024x2048, .bf16⟩
  | .hbm, ⟨17, _⟩ => ⟨S512x2048, .bf16⟩
  | .hbm, ⟨18, _⟩ => ⟨S2048x2048, .bf16⟩
  | .hbm, ⟨19, _⟩ => ⟨S128x2048, .f32⟩
  | .local _ .vmem, ⟨0, _⟩ => ⟨S128x1024, .bf16⟩
  | .local _ .vmem, ⟨1, _⟩ => ⟨S128x512, .bf16⟩
  | .local _ .vmem, ⟨2, _⟩ => ⟨S128x2048, .f32⟩
  | .local _ .vmem, ⟨3, _⟩ => ⟨S1x2048, .f32⟩
  | .local _ .vmem, ⟨4, _⟩ => ⟨S2048x4096, .bf16⟩
  | .local _ .vmem, ⟨5, _⟩ => ⟨S1024x2048, .bf16⟩
  | .local _ .vmem, ⟨6, _⟩ => ⟨S512x2048, .bf16⟩
  | .local _ .vmem, ⟨7, _⟩ => ⟨S2048x2048, .bf16⟩
  | .local _ .vmem, ⟨8, _⟩ => ⟨S128x2048, .f32⟩
  | .local _ .vmem, ⟨9, _⟩ => ⟨S128x2048, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference6Ideal.lean ====
abbrev S32x4x1024 : Shape := ⟨3, ![32, 4, 1024]⟩
abbrev S32x4x512 : Shape := ⟨3, ![32, 4, 512]⟩
abbrev S32x4x2048 : Shape := ⟨3, ![32, 4, 2048]⟩
abbrev S2048 : Shape := ⟨1, ![2048]⟩
abbrev S2048x7248 : Shape := ⟨2, ![2048, 7248]⟩
abbrev S1024x2048 : Shape := ⟨2, ![1024, 2048]⟩
abbrev S512x2048 : Shape := ⟨2, ![512, 2048]⟩
abbrev S2048x2048 : Shape := ⟨2, ![2048, 2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x4x7248 : Shape := ⟨3, ![32, 4, 7248]⟩
abbrev S128x2048 : Shape := ⟨2, ![128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x2048, .f32⟩
  | .hbm, ⟨3, _⟩ => ⟨S2048, .f32⟩
  | .hbm, ⟨4, _⟩ => ⟨S2048x7248, .f32⟩
  | .hbm, ⟨5, _⟩ => ⟨S1024x2048, .f32⟩
  | .hbm, ⟨6, _⟩ => ⟨S512x2048, .f32⟩
  | .hbm, ⟨7, _⟩ => ⟨S2048x2048, .f32⟩
  | .hbm, ⟨8, _⟩ => ⟨S32x4x2048, .f32⟩
  | .hbm, ⟨9, _⟩ => ⟨S_, .f32⟩
  | .hbm, ⟨10, _⟩ => ⟨S32x4, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S32x4x1, .f32⟩
  | .hbm, ⟨19, _⟩ => ⟨S32x4x2048, .f32⟩
  | .hbm, ⟨20, _⟩ => ⟨S32x4x2048, .f32⟩
  | .hbm, ⟨21, _⟩ => ⟨S1x1x2048, .f32⟩
  | .hbm, ⟨22, _⟩ => ⟨S32x4x2048, .f32⟩
  | .hbm, ⟨23, _⟩ => ⟨S32x4x2048, .f32⟩
  | .hbm, ⟨24, _⟩ => ⟨S32x4x7248, .f32⟩
  | .hbm, ⟨25, _⟩ => ⟨S32x4x2048, .f32⟩
  | .hbm, ⟨26, _⟩ => ⟨S32x4x2048, .f32⟩
  | .hbm, ⟨27, _⟩ => ⟨S32x4x2048, .f32⟩
  | .hbm, ⟨28, _⟩ => ⟨S32x4x2048, .f32⟩
  | .hbm, ⟨29, _⟩ => ⟨S_, .f32⟩
  | .hbm, ⟨30, _⟩ => ⟨S32x4x2048, .f32⟩
  | .hbm, ⟨31, _⟩ => ⟨S32x4x2048, .f32⟩
  | .hbm, ⟨32, _⟩ => ⟨S_, .f32⟩
  | .hbm, ⟨33, _⟩ => ⟨S32x4x2048, .f32⟩
  | .hbm, ⟨34, _⟩ => ⟨S32x4x2048, .f32⟩
  | .hbm, ⟨35, _⟩ => ⟨S32x4x2048, .f32⟩
  | .hbm, ⟨36, _⟩ => ⟨S32x4x2048, .f32⟩
  | .hbm, ⟨37, _⟩ => ⟨S32x4x2048, .f32⟩
  | .hbm, ⟨38, _⟩ => ⟨S32x4x2048, .f32⟩
  | .hbm, ⟨39, _⟩ => ⟨S_, .f32⟩
  | .hbm, ⟨40, _⟩ => ⟨S32x4x2048, .f32⟩
  | .hbm, ⟨41, _⟩ => ⟨S32x4x2048, .f32⟩
  | .hbm, ⟨42, _⟩ => ⟨S_, .f32⟩
  | .hbm, ⟨43, _⟩ => ⟨S32x4x2048, .f32⟩
  | .hbm, ⟨44, _⟩ => ⟨S32x4x2048, .f32⟩
  | .hbm, ⟨45, _⟩ => ⟨S32x4x2048, .f32⟩
  | .hbm, ⟨46, _⟩ => ⟨S32x4x2048, .f32⟩
  | .hbm, ⟨47, _⟩ => ⟨S32x4x2048, .f32⟩
  | .hbm, ⟨48, _⟩ => ⟨S32x4x2048, .f32⟩
  | .hbm, ⟨49, _⟩ => ⟨S32x4x2048, .f32⟩
  | .hbm, ⟨50, _⟩ => ⟨S128x2048, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel7.lean ====
abbrev S16x2048x2048 : Shape := ⟨3, ![16, 2048, 2048]⟩
abbrev S2048 : Shape := ⟨1, ![2048]⟩
abbrev S2048x7248 : Shape := ⟨2, ![2048, 7248]⟩
abbrev S128 : Shape := ⟨1, ![128]⟩
abbrev S16 : Shape := ⟨1, ![16]⟩
abbrev S8 : Shape := ⟨1, ![8]⟩
abbrev S2048x1024 : Shape := ⟨2, ![2048, 1024]⟩
abbrev S2048x64 : Shape := ⟨2, ![2048, 64]⟩
abbrev S2048x16 : Shape := ⟨2, ![2048, 16]⟩
abbrev S2048x512 : Shape := ⟨2, ![2048, 512]⟩
abbrev S_ : Shape := ⟨0, ![]⟩
abbrev S2048x112 : Shape := ⟨2, ![2048, 112]⟩
abbrev S2048x1280 : Shape := ⟨2, ![2048, 1280]⟩
abbrev S2048x1 : Shape := ⟨2, ![2048, 1]⟩
abbrev S1x16 : Shape := ⟨2, ![1, 16]⟩
abbrev S2048x96 : Shape := ⟨2, ![2048, 96]⟩
abbrev S2048x128 : Shape := ⟨2, ![2048, 128]⟩
abbrev S1x2048x1x128 : Shape := ⟨4, ![1, 2048, 1, 128]⟩
abbrev S1x2048x128 : Shape := ⟨3, ![1, 2048, 128]⟩
abbrev S3x2048x128 : Shape := ⟨3, ![3, 2048, 128]⟩
abbrev S1x8 : Shape := ⟨2, ![1, 8]⟩
abbrev S2048x8 : Shape := ⟨2, ![2048, 8]⟩
abbrev S2048x48 : Shape := ⟨2, ![2048, 48]⟩
abbrev S1x2048x1x64 : Shape := ⟨4, ![1, 2048, 1, 64]⟩
abbrev S1x2048x2x64 : Shape := ⟨4, ![1, 2048, 2, 64]⟩
abbrev S32768x2048 : Shape := ⟨2, ![32768, 2048]⟩
abbrev S1x2048 : Shape := ⟨2, ![1, 2048]⟩
abbrev S2048x1536 : Shape := ⟨2, ![2048, 1536]⟩
abbrev S1x128 : Shape := ⟨2, ![1, 128]⟩
abbrev S32768x1024 : Shape := ⟨2, ![32768, 1024]⟩
abbrev S65536x128 : Shape := ⟨2, ![65536, 128]⟩
abbrev S32768x256 : Shape := ⟨2, ![32768, 256]⟩
abbrev S32768x128 : Shape := ⟨2, ![32768, 128]⟩
abbrev S2048x8192 : Shape := ⟨2, ![2048, 8192]⟩
abbrev S512x2048 : Shape := ⟨2, ![512, 2048]⟩
abbrev S3x512x128 : Shape := ⟨3, ![3, 512, 128]⟩
abbrev S512x1024 : Shape := ⟨2, ![512, 1024]⟩
abbrev S1024x128 : Shape := ⟨2, ![1024, 128]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩
abbrev S1x512x128 : Shape := ⟨3, ![1, 512, 128]⟩
abbrev S512x1280 : Shape := ⟨2, ![512, 1280]⟩
abbrev S32768x64 : Shape := ⟨2, ![32768, 64]⟩

abbrev nBuf : Space → Nat
  | .hbm => 96
  | .vmem => 32
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x7248, .f32⟩
  | .hbm, ⟨3, _⟩ => ⟨S128, .f32⟩
  | .hbm, ⟨4, _⟩ => ⟨S128, .f32⟩
  | .hbm, ⟨5, _⟩ => ⟨S16, .f32⟩
  | .hbm, ⟨6, _⟩ => ⟨S8, .f32⟩
  | .hbm, ⟨7, _⟩ => ⟨S2048x1024, .f32⟩
  | .hbm, ⟨8, _⟩ => ⟨S2048x64, .f32⟩
  | .hbm, ⟨9, _⟩ => ⟨S2048x16, .f32⟩
  | .hbm, ⟨10, _⟩ => ⟨S2048x512, .f32⟩
  | .hbm, ⟨11, _⟩ => ⟨S_, .f32⟩
  | .hbm, ⟨12, _⟩ => ⟨S2048x112, .f32⟩
  | .hbm, ⟨13, _⟩ => ⟨S2048x1280, .f32⟩
  | .hbm, ⟨14, _⟩ => ⟨S2048, .i32⟩
  | .hbm, ⟨15, _⟩ => ⟨S2048, .f32⟩
  | .hbm, ⟨16, _⟩ => ⟨S2048x1, .f32⟩
  | .hbm, ⟨17, _⟩ => ⟨S1x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S_, .f32⟩
  | .hbm, ⟨24, _⟩ => ⟨S2048x96, .f32⟩
  | .hbm, ⟨25, _⟩ => ⟨S_, .f32⟩
  | .hbm, ⟨26, _⟩ => ⟨S2048x96, .f32⟩
  | .hbm, ⟨27, _⟩ => ⟨S_, .f32⟩
  | .hbm, ⟨28, _⟩ => ⟨S2048x16, .f32⟩
  | .hbm, ⟨29, _⟩ => ⟨S2048x128, .f32⟩
  | .hbm, ⟨30, _⟩ => ⟨S2048x128, .f32⟩
  | .hbm, ⟨31, _⟩ => ⟨S2048x16, .f32⟩
  | .hbm, ⟨32, _⟩ => ⟨S2048x128, .f32⟩
  | .hbm, ⟨33, _⟩ => ⟨S1x2048x1x128, .f32⟩
  | .hbm, ⟨34, _⟩ => ⟨S1x2048x1x128, .f32⟩
  | .hbm, ⟨35, _⟩ => ⟨S2048x128, .f32⟩
  | .hbm, ⟨36, _⟩ => ⟨S1x2048x1x128, .f32⟩
  | .hbm, ⟨37, _⟩ => ⟨S1x2048x1x128, .f32⟩
  | .hbm, ⟨38, _⟩ => ⟨S2048x128, .f32⟩
  | .hbm, ⟨39, _⟩ => ⟨S1x2048x1x128, .f32⟩
  | .hbm, ⟨40, _⟩ => ⟨S1x2048x1x128, .f32⟩
  | .hbm, ⟨41, _⟩ => ⟨S2048x128, .f32⟩
  | .hbm, ⟨42, _⟩ => ⟨S1x2048x128, .f32⟩
  | .hbm, ⟨43, _⟩ => ⟨S1x2048x128, .f32⟩
  | .hbm, ⟨44, _⟩ => ⟨S1x2048x128, .f32⟩
  | .hbm, ⟨45, _⟩ => ⟨S3x2048x128, .f32⟩
  | .hbm, ⟨46, _⟩ => ⟨S2048, .f32⟩
  | .hbm, ⟨47, _⟩ => ⟨S2048x1, .f32⟩
  | .hbm, ⟨48, _⟩ => ⟨S1x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S2048x8, .f32⟩
  | .hbm, ⟨54, _⟩ => ⟨S_, .f32⟩
  | .hbm, ⟨55, _⟩ => ⟨S2048x48, .f32⟩
  | .hbm, ⟨56, _⟩ => ⟨S_, .f32⟩
  | .hbm, ⟨57, _⟩ => ⟨S2048x48, .f32⟩
  | .hbm, ⟨58, _⟩ => ⟨S_, .f32⟩
  | .hbm, ⟨59, _⟩ => ⟨S2048x8, .f32⟩
  | .hbm, ⟨60, _⟩ => ⟨S2048x64, .f32⟩
  | .hbm, ⟨61, _⟩ => ⟨S2048x64, .f32⟩
  | .hbm, ⟨62, _⟩ => ⟨S2048x8, .f32⟩
  | .hbm, ⟨63, _⟩ => ⟨S2048x64, .f32⟩
  | .hbm, ⟨64, _⟩ => ⟨S1x2048x1x64, .f32⟩
  | .hbm, ⟨65, _⟩ => ⟨S1x2048x2x64, .f32⟩
  | .hbm, ⟨66, _⟩ => ⟨S2048x128, .f32⟩
  | .hbm, ⟨67, _⟩ => ⟨S1x2048x1x64, .f32⟩
  | .hbm, ⟨68, _⟩ => ⟨S1x2048x2x64, .f32⟩
  | .hbm, ⟨69, _⟩ => ⟨S2048x128, .f32⟩
  | .hbm, ⟨70, _⟩ => ⟨S1x2048x1x64, .f32⟩
  | .hbm, ⟨71, _⟩ => ⟨S1x2048x2x64, .f32⟩
  | .hbm, ⟨72, _⟩ => ⟨S2048x128, .f32⟩
  | .hbm, ⟨73, _⟩ => ⟨S1x2048x128, .f32⟩
  | .hbm, ⟨74, _⟩ => ⟨S1x2048x128, .f32⟩
  | .hbm, ⟨75, _⟩ => ⟨S1x2048x128, .f32⟩
  | .hbm, ⟨76, _⟩ => ⟨S3x2048x128, .f32⟩
  | .hbm, ⟨77, _⟩ => ⟨S32768x2048, .f32⟩
  | .hbm, ⟨78, _⟩ => ⟨S1x2048, .f32⟩
  | .hbm, ⟨79, _⟩ => ⟨S2048x1536, .f32⟩
  | .hbm, ⟨80, _⟩ => ⟨S2048x1536, .bf16⟩
  | .hbm, ⟨81, _⟩ => ⟨S2048x1280, .bf16⟩
  | .hbm, ⟨82, _⟩ => ⟨S2048x512, .bf16⟩
  | .hbm, ⟨83, _⟩ => ⟨S1x128, .f32⟩
  | .hbm, ⟨84, _⟩ => ⟨S1x128, .f32⟩
  | .hbm, ⟨85, _⟩ => ⟨S32768x1024, .bf16⟩
  | .hbm, ⟨86, _⟩ => ⟨S65536x128, .f32⟩
  | .hbm, ⟨87, _⟩ => ⟨S65536x128, .f32⟩
  | .hbm, ⟨88, _⟩ => ⟨S32768x256, .bf16⟩
  | .hbm, ⟨89, _⟩ => ⟨S32768x256, .bf16⟩
  | .hbm, ⟨90, _⟩ => ⟨S32768x1024, .bf16⟩
  | .hbm, ⟨91, _⟩ => ⟨S32768x128, .f32⟩
  | .hbm, ⟨92, _⟩ => ⟨S32768x128, .bf16⟩
  | .hbm, ⟨93, _⟩ => ⟨S32768x128, .f32⟩
  | .hbm, ⟨94, _⟩ => ⟨S2048x8192, .f32⟩
  | .hbm, ⟨95, _⟩ => ⟨S32768x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1280, .bf16⟩
  | .local _ .vmem, ⟨5, _⟩ => ⟨S2048x512, .bf16⟩
  | .local _ .vmem, ⟨6, _⟩ => ⟨S1x128, .f32⟩
  | .local _ .vmem, ⟨7, _⟩ => ⟨S1x128, .f32⟩
  | .local _ .vmem, ⟨8, _⟩ => ⟨S3x512x128, .f32⟩
  | .local _ .vmem, ⟨9, _⟩ => ⟨S3x512x128, .f32⟩
  | .local _ .vmem, ⟨10, _⟩ => ⟨S3x512x128, .f32⟩
  | .local _ .vmem, ⟨11, _⟩ => ⟨S3x512x128, .f32⟩
  | .local _ .vmem, ⟨12, _⟩ => ⟨S512x1024, .bf16⟩
  | .local _ .vmem, ⟨13, _⟩ => ⟨S512x1024, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x1024, .bf16⟩
  | .local _ .vmem, ⟨23, _⟩ => ⟨S512x1024, .bf16⟩
  | .local _ .vmem, ⟨24, _⟩ => ⟨S512x128, .f32⟩
  | .local _ .vmem, ⟨25, _⟩ => ⟨S512x128, .f32⟩
  | .local _ .vmem, ⟨26, _⟩ => ⟨S512x128, .bf16⟩
  | .local _ .vmem, ⟨27, _⟩ => ⟨S512x128, .bf16⟩
  | .local _ .vmem, ⟨28, _⟩ => ⟨S512x128, .f32⟩
  | .local _ .vmem, ⟨29, _⟩ => ⟨S512x128, .f32⟩
  | .local _ .vmem, ⟨30, _⟩ => ⟨S512x512, .f32⟩
  | .local _ .vmem, ⟨31, _⟩ => ⟨S512x512, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71_0 : Ref sig .tc := ⟨.hbm, 85, rfl⟩
abbrev main_v71_1 : Ref sig .tc := ⟨.hbm, 86, rfl⟩
abbrev main_v71_2 : Ref sig .tc := ⟨.hbm, 87, rfl⟩
abbrev main_v71_3 : Ref sig .tc := ⟨.hbm, 88, rfl⟩
abbrev main_v71_4 : Ref sig .tc := ⟨.hbm, 89, rfl⟩
abbrev main_v71_5 : Ref sig .tc := ⟨.hbm, 90, rfl⟩
abbrev main_v71_6 : Ref sig .tc := ⟨.hbm, 91, rfl⟩
abbrev main_v71_7 : Ref sig .tc := ⟨.hbm, 92, rfl⟩
abbrev main_v71_8 : Ref sig .tc := ⟨.hbm, 93, rfl⟩
abbrev main_v71_9 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_8 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference7Ideal.lean ====
abbrev S16x2048x2048 : Shape := ⟨3, ![16, 2048, 2048]⟩
abbrev S2048 : Shape := ⟨1, ![2048]⟩
abbrev S2048x7248 : Shape := ⟨2, ![2048, 7248]⟩
abbrev S128 : Shape := ⟨1, ![128]⟩
abbrev S16 : Shape := ⟨1, ![16]⟩
abbrev S8 : Shape := ⟨1, ![8]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x7248 : Shape := ⟨3, ![16, 2048, 7248]⟩
abbrev S16x2048x256 : Shape := ⟨3, ![16, 2048, 256]⟩
abbrev S16x2048x2x128 : Shape := ⟨4, ![16, 2048, 2, 128]⟩
abbrev S16x2048x2 : Shape := ⟨3, ![16, 2048, 2]⟩
abbrev S16x2048x2x1 : Shape := ⟨4, ![16, 2048, 2, 1]⟩
abbrev S1x1x1x128 : Shape := ⟨4, ![1, 1, 1, 128]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x2x16 : Shape := ⟨4, ![16, 2048, 2, 16]⟩
abbrev S1x2048x1x16 : Shape := ⟨4, ![1, 2048, 1, 16]⟩
abbrev S16x2048x2x96 : Shape := ⟨4, ![16, 2048, 2, 96]⟩
abbrev S16x2048x64 : Shape := ⟨3, ![16, 2048, 64]⟩
abbrev S16x2048x1x64 : Shape := ⟨4, ![16, 2048, 1, 64]⟩
abbrev S1x8 : Shape := ⟨2, ![1, 8]⟩
abbrev S2048x8 : Shape := ⟨2, ![2048, 8]⟩
abbrev S2048x1x8 : Shape := ⟨3, ![2048, 1, 8]⟩
abbrev S16x2048x1x8 : Shape := ⟨4, ![16, 2048, 1, 8]⟩
abbrev S1x2048x1x8 : Shape := ⟨4, ![1, 2048, 1, 8]⟩
abbrev S16x2048x1x48 : Shape := ⟨4, ![16, 2048, 1, 48]⟩
abbrev S65536x128 : Shape := ⟨2, ![65536, 128]⟩
abbrev S32768x64 : Shape := ⟨2, ![32768, 64]⟩

abbrev nBuf : Space → Nat
  | .hbm => 106
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x7248, .f32⟩
  | .hbm, ⟨3, _⟩ => ⟨S128, .f32⟩
  | .hbm, ⟨4, _⟩ => ⟨S128, .f32⟩
  | .hbm, ⟨5, _⟩ => ⟨S16, .f32⟩
  | .hbm, ⟨6, _⟩ => ⟨S8, .f32⟩
  | .hbm, ⟨7, _⟩ => ⟨S2048, .i32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S1x1x2048, .f32⟩
  | .hbm, ⟨22, _⟩ => ⟨S16x2048x2048, .f32⟩
  | .hbm, ⟨23, _⟩ => ⟨S16x2048x2048, .f32⟩
  | .hbm, ⟨24, _⟩ => ⟨S16x2048x7248, .f32⟩
  | .hbm, ⟨25, _⟩ => ⟨S16x2048x256, .f32⟩
  | .hbm, ⟨26, _⟩ => ⟨S16x2048x256, .f32⟩
  | .hbm, ⟨27, _⟩ => ⟨S16x2048x2x128, .f32⟩
  | .hbm, ⟨28, _⟩ => ⟨S16x2048x2x128, .f32⟩
  | .hbm, ⟨29, _⟩ => ⟨S_, .f32⟩
  | .hbm, ⟨30, _⟩ => ⟨S16x2048x2, .f32⟩
  | .hbm, ⟨31, _⟩ => ⟨S16x2048x2x1, .f32⟩
  | .hbm, ⟨32, _⟩ => ⟨S_, .f32⟩
  | .hbm, ⟨33, _⟩ => ⟨S16x2048x2x1, .f32⟩
  | .hbm, ⟨34, _⟩ => ⟨S16x2048x2x1, .f32⟩
  | .hbm, ⟨35, _⟩ => ⟨S_, .f32⟩
  | .hbm, ⟨36, _⟩ => ⟨S16x2048x2x1, .f32⟩
  | .hbm, ⟨37, _⟩ => ⟨S16x2048x2x1, .f32⟩
  | .hbm, ⟨38, _⟩ => ⟨S16x2048x2x1, .f32⟩
  | .hbm, ⟨39, _⟩ => ⟨S16x2048x2x128, .f32⟩
  | .hbm, ⟨40, _⟩ => ⟨S16x2048x2x128, .f32⟩
  | .hbm, ⟨41, _⟩ => ⟨S1x1x1x128, .f32⟩
  | .hbm, ⟨42, _⟩ => ⟨S16x2048x2x128, .f32⟩
  | .hbm, ⟨43, _⟩ => ⟨S16x2048x2x128, .f32⟩
  | .hbm, ⟨44, _⟩ => ⟨S2048, .f32⟩
  | .hbm, ⟨45, _⟩ => ⟨S2048x1, .f32⟩
  | .hbm, ⟨46, _⟩ => ⟨S1x16, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x1x16, .f32⟩
  | .hbm, ⟨52, _⟩ => ⟨S2048x16, .f32⟩
  | .hbm, ⟨53, _⟩ => ⟨S2048x1x16, .f32⟩
  | .hbm, ⟨54, _⟩ => ⟨S16x2048x2x16, .f32⟩
  | .hbm, ⟨55, _⟩ => ⟨S16x2048x2x16, .f32⟩
  | .hbm, ⟨56, _⟩ => ⟨S1x2048x1x16, .f32⟩
  | .hbm, ⟨57, _⟩ => ⟨S16x2048x2x16, .f32⟩
  | .hbm, ⟨58, _⟩ => ⟨S16x2048x2x16, .f32⟩
  | .hbm, ⟨59, _⟩ => ⟨S1x2048x1x16, .f32⟩
  | .hbm, ⟨60, _⟩ => ⟨S16x2048x2x16, .f32⟩
  | .hbm, ⟨61, _⟩ => ⟨S16x2048x2x16, .f32⟩
  | .hbm, ⟨62, _⟩ => ⟨S16x2048x2x16, .f32⟩
  | .hbm, ⟨63, _⟩ => ⟨S1x2048x1x16, .f32⟩
  | .hbm, ⟨64, _⟩ => ⟨S16x2048x2x16, .f32⟩
  | .hbm, ⟨65, _⟩ => ⟨S16x2048x2x16, .f32⟩
  | .hbm, ⟨66, _⟩ => ⟨S1x2048x1x16, .f32⟩
  | .hbm, ⟨67, _⟩ => ⟨S16x2048x2x16, .f32⟩
  | .hbm, ⟨68, _⟩ => ⟨S16x2048x2x16, .f32⟩
  | .hbm, ⟨69, _⟩ => ⟨S16x2048x2x16, .f32⟩
  | .hbm, ⟨70, _⟩ => ⟨S16x2048x2x96, .f32⟩
  | .hbm, ⟨71, _⟩ => ⟨S16x2048x2x128, .f32⟩
  | .hbm, ⟨72, _⟩ => ⟨S16x2048x2x128, .f32⟩
  | .hbm, ⟨73, _⟩ => ⟨S16x2048x64, .f32⟩
  | .hbm, ⟨74, _⟩ => ⟨S16x2048x1x64, .f32⟩
  | .hbm, ⟨75, _⟩ => ⟨S2048, .f32⟩
  | .hbm, ⟨76, _⟩ => ⟨S2048x1, .f32⟩
  | .hbm, ⟨77, _⟩ => ⟨S1x8, .f32⟩
  | .hbm, ⟨78, _⟩ => ⟨S2048x8, .f32⟩
  | .hbm, ⟨79, _⟩ => ⟨S2048x8, .f32⟩
  | .hbm, ⟨80, _⟩ => ⟨S2048x8, .f32⟩
  | .hbm, ⟨81, _⟩ => ⟨S2048x8, .f32⟩
  | .hbm, ⟨82, _⟩ => ⟨S2048x1x8, .f32⟩
  | .hbm, ⟨83, _⟩ => ⟨S2048x8, .f32⟩
  | .hbm, ⟨84, _⟩ => ⟨S2048x1x8, .f32⟩
  | .hbm, ⟨85, _⟩ => ⟨S16x2048x1x8, .f32⟩
  | .hbm, ⟨86, _⟩ => ⟨S16x2048x1x8, .f32⟩
  | .hbm, ⟨87, _⟩ => ⟨S1x2048x1x8, .f32⟩
  | .hbm, ⟨88, _⟩ => ⟨S16x2048x1x8, .f32⟩
  | .hbm, ⟨89, _⟩ => ⟨S16x2048x1x8, .f32⟩
  | .hbm, ⟨90, _⟩ => ⟨S1x2048x1x8, .f32⟩
  | .hbm, ⟨91, _⟩ => ⟨S16x2048x1x8, .f32⟩
  | .hbm, ⟨92, _⟩ => ⟨S16x2048x1x8, .f32⟩
  | .hbm, ⟨93, _⟩ => ⟨S16x2048x1x8, .f32⟩
  | .hbm, ⟨94, _⟩ => ⟨S1x2048x1x8, .f32⟩
  | .hbm, ⟨95, _⟩ => ⟨S16x2048x1x8, .f32⟩
  | .hbm, ⟨96, _⟩ => ⟨S16x2048x1x8, .f32⟩
  | .hbm, ⟨97, _⟩ => ⟨S1x2048x1x8, .f32⟩
  | .hbm, ⟨98, _⟩ => ⟨S16x2048x1x8, .f32⟩
  | .hbm, ⟨99, _⟩ => ⟨S16x2048x1x8, .f32⟩
  | .hbm, ⟨100, _⟩ => ⟨S16x2048x1x8, .f32⟩
  | .hbm, ⟨101, _⟩ => ⟨S16x2048x1x48, .f32⟩
  | .hbm, ⟨102, _⟩ => ⟨S16x2048x1x64, .f32⟩
  | .hbm, ⟨103, _⟩ => ⟨S65536x128, .f32⟩
  | .hbm, ⟨104, _⟩ => ⟨S65536x128, .f32⟩
  | .hbm, ⟨105, _⟩ => ⟨S32768x64, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩

abbrev nD : Nat := 1
abbrev τ : Topo := Topo.v7x

variable {F : FTy → Type} [FloatOps F]
-- ==== Kernel8.lean ====
abbrev S32x4x2048 : Shape := ⟨3, ![32, 4, 2048]⟩
abbrev S2048 : Shape := ⟨1, ![2048]⟩
abbrev S2048x7248 : Shape := ⟨2, ![2048, 7248]⟩
abbrev S128 : Shape := ⟨1, ![128]⟩
abbrev S16 : Shape := ⟨1, ![16]⟩
abbrev S8 : Shape := ⟨1, ![8]⟩
abbrev S2048x1024 : Shape := ⟨2, ![2048, 1024]⟩
abbrev S2048x64 : Shape := ⟨2, ![2048, 64]⟩
abbrev S2048x16 : Shape := ⟨2, ![2048, 16]⟩
abbrev S2048x512 : Shape := ⟨2, ![2048, 512]⟩
abbrev S_ : Shape := ⟨0, ![]⟩
abbrev S2048x112 : Shape := ⟨2, ![2048, 112]⟩
abbrev S2048x1280 : Shape := ⟨2, ![2048, 1280]⟩
abbrev S128x1 : Shape := ⟨2, ![128, 1]⟩
abbrev S1x16 : Shape := ⟨2, ![1, 16]⟩
abbrev S128x16 : Shape := ⟨2, ![128, 16]⟩
abbrev S128x96 : Shape := ⟨2, ![128, 96]⟩
abbrev S128x128 : Shape := ⟨2, ![128, 128]⟩
abbrev S1x128x1x128 : Shape := ⟨4, ![1, 128, 1, 128]⟩
abbrev S1x128x128 : Shape := ⟨3, ![1, 128, 128]⟩
abbrev S3x128x128 : Shape := ⟨3, ![3, 128, 128]⟩
abbrev S1x8 : Shape := ⟨2, ![1, 8]⟩
abbrev S128x8 : Shape := ⟨2, ![128, 8]⟩
abbrev S128x48 : Shape := ⟨2, ![128, 48]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x2048 : Shape := ⟨2, ![128, 2048]⟩
abbrev S1x2048 : Shape := ⟨2, ![1, 2048]⟩
abbrev S2048x1536 : Shape := ⟨2, ![2048, 1536]⟩
abbrev S1x128 : Shape := ⟨2, ![1, 128]⟩
abbrev S128x1024 : Shape := ⟨2, ![128, 1024]⟩
abbrev S256x128 : Shape := ⟨2, ![256, 128]⟩
abbrev S128x256 : Shape := ⟨2, ![128, 256]⟩
abbrev S128x512 : Shape := ⟨2, ![128, 512]⟩
abbrev S128x1536 : Shape := ⟨2, ![128, 1536]⟩
abbrev S128x1280 : Shape := ⟨2, ![128, 1280]⟩

abbrev nBuf : Space → Nat
  | .hbm => 121
  | .vmem => 19
  | .smem => 0
  | _ => 0

abbrev bufTy : (tb : Table) → Fin (tcTables nBuf tb) → BufTy
  | .hbm, ⟨0, _⟩ => ⟨S32x4x2048, .f32⟩
  | .hbm, ⟨1, _⟩ => ⟨S2048, .f32⟩
  | .hbm, ⟨2, _⟩ => ⟨S2048x7248, .f32⟩
  | .hbm, ⟨3, _⟩ => ⟨S128, .f32⟩
  | .hbm, ⟨4, _⟩ => ⟨S128, .f32⟩
  | .hbm, ⟨5, _⟩ => ⟨S16, .f32⟩
  | .hbm, ⟨6, _⟩ => ⟨S8, .f32⟩
  | .hbm, ⟨7, _⟩ => ⟨S2048x1024, .f32⟩
  | .hbm, ⟨8, _⟩ => ⟨S2048x64, .f32⟩
  | .hbm, ⟨9, _⟩ => ⟨S2048x16, .f32⟩
  | .hbm, ⟨10, _⟩ => ⟨S2048x512, .f32⟩
  | .hbm, ⟨11, _⟩ => ⟨S_, .f32⟩
  | .hbm, ⟨12, _⟩ => ⟨S2048x112, .f32⟩
  | .hbm, ⟨13, _⟩ => ⟨S2048x1280, .f32⟩
  | .hbm, ⟨14, _⟩ => ⟨S128, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .i32⟩
  | .hbm, ⟨30, _⟩ => ⟨S_, .i1⟩
  | .hbm, ⟨31, _⟩ => ⟨S128, .i1⟩
  | .hbm, ⟨32, _⟩ => ⟨S128, .i1⟩
  | .hbm, ⟨33, _⟩ => ⟨S128, .i1⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .f32⟩
  | .hbm, ⟨41, _⟩ => ⟨S128x1, .f32⟩
  | .hbm, ⟨42, _⟩ => ⟨S1x16, .f32⟩
  | .hbm, ⟨43, _⟩ => ⟨S128x16, .f32⟩
  | .hbm, ⟨44, _⟩ => ⟨S128x16, .f32⟩
  | .hbm, ⟨45, _⟩ => ⟨S128x16, .f32⟩
  | .hbm, ⟨46, _⟩ => ⟨S128x16, .f32⟩
  | .hbm, ⟨47, _⟩ => ⟨S128x16, .f32⟩
  | .hbm, ⟨48, _⟩ => ⟨S_, .f32⟩
  | .hbm, ⟨49, _⟩ => ⟨S128x96, .f32⟩
  | .hbm, ⟨50, _⟩ => ⟨S_, .f32⟩
  | .hbm, ⟨51, _⟩ => ⟨S128x96, .f32⟩
  | .hbm, ⟨52, _⟩ => ⟨S_, .f32⟩
  | .hbm, ⟨53, _⟩ => ⟨S128x16, .f32⟩
  | .hbm, ⟨54, _⟩ => ⟨S128x128, .f32⟩
  | .hbm, ⟨55, _⟩ => ⟨S128x128, .f32⟩
  | .hbm, ⟨56, _⟩ => ⟨S128x16, .f32⟩
  | .hbm, ⟨57, _⟩ => ⟨S128x128, .f32⟩
  | .hbm, ⟨58, _⟩ => ⟨S1x128x1x128, .f32⟩
  | .hbm, ⟨59, _⟩ => ⟨S1x128x1x128, .f32⟩
  | .hbm, ⟨60, _⟩ => ⟨S128x128, .f32⟩
  | .hbm, ⟨61, _⟩ => ⟨S1x128x1x128, .f32⟩
  | .hbm, ⟨62, _⟩ => ⟨S1x128x1x128, .f32⟩
  | .hbm, ⟨63, _⟩ => ⟨S128x128, .f32⟩
  | .hbm, ⟨64, _⟩ => ⟨S1x128x1x128, .f32⟩
  | .hbm, ⟨65, _⟩ => ⟨S1x128x1x128, .f32⟩
  | .hbm, ⟨66, _⟩ => ⟨S128x128, .f32⟩
  | .hbm, ⟨67, _⟩ => ⟨S1x128x128, .f32⟩
  | .hbm, ⟨68, _⟩ => ⟨S1x128x128, .f32⟩
  | .hbm, ⟨69, _⟩ => ⟨S1x128x128, .f32⟩
  | .hbm, ⟨70, _⟩ => ⟨S3x128x128, .f32⟩
  | .hbm, ⟨71, _⟩ => ⟨S128, .f32⟩
  | .hbm, ⟨72, _⟩ => ⟨S128x1, .f32⟩
  | .hbm, ⟨73, _⟩ => ⟨S1x8, .f32⟩
  | .hbm, ⟨74, _⟩ => ⟨S128x8, .f32⟩
  | .hbm, ⟨75, _⟩ => ⟨S128x8, .f32⟩
  | .hbm, ⟨76, _⟩ => ⟨S128x8, .f32⟩
  | .hbm, ⟨77, _⟩ => ⟨S128x8, .f32⟩
  | .hbm, ⟨78, _⟩ => ⟨S128x8, .f32⟩
  | .hbm, ⟨79, _⟩ => ⟨S_, .f32⟩
  | .hbm, ⟨80, _⟩ => ⟨S128x48, .f32⟩
  | .hbm, ⟨81, _⟩ => ⟨S_, .f32⟩
  | .hbm, ⟨82, _⟩ => ⟨S128x48, .f32⟩
  | .hbm, ⟨83, _⟩ => ⟨S_, .f32⟩
  | .hbm, ⟨84, _⟩ => ⟨S128x8, .f32⟩
  | .hbm, ⟨85, _⟩ => ⟨S128x64, .f32⟩
  | .hbm, ⟨86, _⟩ => ⟨S128x64, .f32⟩
  | .hbm, ⟨87, _⟩ => ⟨S128x8, .f32⟩
  | .hbm, ⟨88, _⟩ => ⟨S128x64, .f32⟩
  | .hbm, ⟨89, _⟩ => ⟨S1x128x1x64, .f32⟩
  | .hbm, ⟨90, _⟩ => ⟨S1x128x2x64, .f32⟩
  | .hbm, ⟨91, _⟩ => ⟨S128x128, .f32⟩
  | .hbm, ⟨92, _⟩ => ⟨S1x128x1x64, .f32⟩
  | .hbm, ⟨93, _⟩ => ⟨S1x128x2x64, .f32⟩
  | .hbm, ⟨94, _⟩ => ⟨S128x128, .f32⟩
  | .hbm, ⟨95, _⟩ => ⟨S1x128x1x64, .f32⟩
  | .hbm, ⟨96, _⟩ => ⟨S1x128x2x64, .f32⟩
  | .hbm, ⟨97, _⟩ => ⟨S128x128, .f32⟩
  | .hbm, ⟨98, _⟩ => ⟨S1x128x128, .f32⟩
  | .hbm, ⟨99, _⟩ => ⟨S1x128x128, .f32⟩
  | .hbm, ⟨100, _⟩ => ⟨S1x128x128, .f32⟩
  | .hbm, ⟨101, _⟩ => ⟨S3x128x128, .f32⟩
  | .hbm, ⟨102, _⟩ => ⟨S128x2048, .f32⟩
  | .hbm, ⟨103, _⟩ => ⟨S1x2048, .f32⟩
  | .hbm, ⟨104, _⟩ => ⟨S2048x1536, .f32⟩
  | .hbm, ⟨105, _⟩ => ⟨S2048x1536, .bf16⟩
  | .hbm, ⟨106, _⟩ => ⟨S2048x1280, .bf16⟩
  | .hbm, ⟨107, _⟩ => ⟨S2048x512, .bf16⟩
  | .hbm, ⟨108, _⟩ => ⟨S1x128, .f32⟩
  | .hbm, ⟨109, _⟩ => ⟨S1x128, .f32⟩
  | .hbm, ⟨110, _⟩ => ⟨S128x1024, .bf16⟩
  | .hbm, ⟨111, _⟩ => ⟨S256x128, .f32⟩
  | .hbm, ⟨112, _⟩ => ⟨S256x128, .f32⟩
  | .hbm, ⟨113, _⟩ => ⟨S128x256, .bf16⟩
  | .hbm, ⟨114, _⟩ => ⟨S128x256, .bf16⟩
  | .hbm, ⟨115, _⟩ => ⟨S128x1024, .bf16⟩
  | .hbm, ⟨116, _⟩ => ⟨S128x128, .f32⟩
  | .hbm, ⟨117, _⟩ => ⟨S128x128, .bf16⟩
  | .hbm, ⟨118, _⟩ => ⟨S128x128, .f32⟩
  | .hbm, ⟨119, _⟩ => ⟨S128x512, .f32⟩
  | .hbm, ⟨120, _⟩ => ⟨S128x64, .f32⟩
  | .local _ .vmem, ⟨0, _⟩ => ⟨S128x2048, .f32⟩
  | .local _ .vmem, ⟨1, _⟩ => ⟨S1x2048, .f32⟩
  | .local _ .vmem, ⟨2, _⟩ => ⟨S2048x1536, .bf16⟩
  | .local _ .vmem, ⟨3, _⟩ => ⟨S2048x1280, .bf16⟩
  | .local _ .vmem, ⟨4, _⟩ => ⟨S2048x512, .bf16⟩
  | .local _ .vmem, ⟨5, _⟩ => ⟨S1x128, .f32⟩
  | .local _ .vmem, ⟨6, _⟩ => ⟨S1x128, .f32⟩
  | .local _ .vmem, ⟨7, _⟩ => ⟨S3x128x128, .f32⟩
  | .local _ .vmem, ⟨8, _⟩ => ⟨S3x128x128, .f32⟩
  | .local _ .vmem, ⟨9, _⟩ => ⟨S128x1024, .bf16⟩
  | .local _ .vmem, ⟨10, _⟩ => ⟨S256x128, .f32⟩
  | .local _ .vmem, ⟨11, _⟩ => ⟨S256x128, .f32⟩
  | .local _ .vmem, ⟨12, _⟩ => ⟨S128x256, .bf16⟩
  | .local _ .vmem, ⟨13, _⟩ => ⟨S128x256, .bf16⟩
  | .local _ .vmem, ⟨14, _⟩ => ⟨S128x1024, .bf16⟩
  | .local _ .vmem, ⟨15, _⟩ => ⟨S128x128, .f32⟩
  | .local _ .vmem, ⟨16, _⟩ => ⟨S128x128, .bf16⟩
  | .local _ .vmem, ⟨17, _⟩ => ⟨S128x128, .f32⟩
  | .local _ .vmem, ⟨18, _⟩ => ⟨S128x512, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v7 : Ref sig .tc := ⟨.hbm, 36, rfl⟩
abbrev main_c_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_cst_5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_6 : Ref sig .tc := ⟨.hbm, 79, rfl⟩
abbrev main_v46 : Ref sig .tc := ⟨.hbm, 80, rfl⟩
abbrev main_cst_7 : Ref sig .tc := ⟨.hbm, 81, rfl⟩
abbrev main_v47 : Ref sig .tc := ⟨.hbm, 82, rfl⟩
abbrev main_cst_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74_0 : Ref sig .tc := ⟨.hbm, 110, rfl⟩
abbrev main_v74_1 : Ref sig .tc := ⟨.hbm, 111, rfl⟩
abbrev main_v74_2 : Ref sig .tc := ⟨.hbm, 112, rfl⟩
abbrev main_v74_3 : Ref sig .tc := ⟨.hbm, 113, rfl⟩
abbrev main_v74_4 : Ref sig .tc := ⟨.hbm, 114, rfl⟩
abbrev main_v74_5 : Ref sig .tc := ⟨.hbm, 115, rfl⟩
abbrev main_v74_6 : Ref sig .tc := ⟨.hbm, 116, rfl⟩
abbrev main_v74_7 : Ref sig .tc := ⟨.hbm, 117, rfl⟩
abbrev main_v74_8 : Ref sig .tc := ⟨.hbm, 118, rfl⟩
abbrev main_v74_9 : Ref sig .tc := ⟨.hbm, 119, rfl⟩
abbrev main_v75 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Reference8Ideal.lean ====
abbrev S32x4x2048 : Shape := ⟨3, ![32, 4, 2048]⟩
abbrev S2048 : Shape := ⟨1, ![2048]⟩
abbrev S2048x7248 : Shape := ⟨2, ![2048, 7248]⟩
abbrev S128 : Shape := ⟨1, ![128]⟩
abbrev S16 : Shape := ⟨1, ![16]⟩
abbrev S8 : Shape := ⟨1, ![8]⟩
abbrev S4 : Shape := ⟨1, ![4]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x4x7248 : Shape := ⟨3, ![32, 4, 7248]⟩
abbrev S32x4x256 : Shape := ⟨3, ![32, 4, 256]⟩
abbrev S32x4x2x128 : Shape := ⟨4, ![32, 4, 2, 128]⟩
abbrev S32x4x2 : Shape := ⟨3, ![32, 4, 2]⟩
abbrev S32x4x2x1 : Shape := ⟨4, ![32, 4, 2, 1]⟩
abbrev S1x1x1x128 : Shape := ⟨4, ![1, 1, 1, 128]⟩
abbrev S4x1 : Shape := ⟨2, ![4, 1]⟩
abbrev S1x16 : Shape := ⟨2, ![1, 16]⟩
abbrev S4x16 : Shape := ⟨2, ![4, 16]⟩
abbrev S4x1x16 : Shape := ⟨3, ![4, 1, 16]⟩
abbrev S32x4x2x16 : Shape := ⟨4, ![32, 4, 2, 16]⟩
abbrev S1x4x1x16 : Shape := ⟨4, ![1, 4, 1, 16]⟩
abbrev S32x4x2x96 : Shape := ⟨4, ![32, 4, 2, 96]⟩
abbrev S32x4x64 : Shape := ⟨3, ![32, 4, 64]⟩
abbrev S32x4x1x64 : Shape := ⟨4, ![32, 4, 1, 64]⟩
abbrev S1x8 : Shape := ⟨2, ![1, 8]⟩
abbrev S4x8 : Shape := ⟨2, ![4, 8]⟩
abbrev S4x1x8 : Shape := ⟨3, ![4, 1, 8]⟩
abbrev S32x4x1x8 : Shape := ⟨4, ![32, 4, 1, 8]⟩
abbrev S1x4x1x8 : Shape := ⟨4, ![1, 4, 1, 8]⟩
abbrev S32x4x1x48 : Shape := ⟨4, ![32, 4, 1, 48]⟩
abbrev S256x128 : Shape := ⟨2, ![256, 128]⟩
abbrev S128x64 : Shape := ⟨2, ![128, 64]⟩

abbrev nBuf : Space → Nat
  | .hbm => 109
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S2048, .f32⟩
  | .hbm, ⟨2, _⟩ => ⟨S2048x7248, .f32⟩
  | .hbm, ⟨3, _⟩ => ⟨S128, .f32⟩
  | .hbm, ⟨4, _⟩ => ⟨S128, .f32⟩
  | .hbm, ⟨5, _⟩ => ⟨S16, .f32⟩
  | .hbm, ⟨6, _⟩ => ⟨S8, .f32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S32x4x2048, .f32⟩
  | .hbm, ⟨12, _⟩ => ⟨S_, .f32⟩
  | .hbm, ⟨13, _⟩ => ⟨S32x4, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S_, .f32⟩
  | .hbm, ⟨19, _⟩ => ⟨S32x4x1, .f32⟩
  | .hbm, ⟨20, _⟩ => ⟨S32x4x1, .f32⟩
  | .hbm, ⟨21, _⟩ => ⟨S32x4x1, .f32⟩
  | .hbm, ⟨22, _⟩ => ⟨S32x4x2048, .f32⟩
  | .hbm, ⟨23, _⟩ => ⟨S32x4x2048, .f32⟩
  | .hbm, ⟨24, _⟩ => ⟨S1x1x2048, .f32⟩
  | .hbm, ⟨25, _⟩ => ⟨S32x4x2048, .f32⟩
  | .hbm, ⟨26, _⟩ => ⟨S32x4x2048, .f32⟩
  | .hbm, ⟨27, _⟩ => ⟨S32x4x7248, .f32⟩
  | .hbm, ⟨28, _⟩ => ⟨S32x4x256, .f32⟩
  | .hbm, ⟨29, _⟩ => ⟨S32x4x256, .f32⟩
  | .hbm, ⟨30, _⟩ => ⟨S32x4x2x128, .f32⟩
  | .hbm, ⟨31, _⟩ => ⟨S32x4x2x128, .f32⟩
  | .hbm, ⟨32, _⟩ => ⟨S_, .f32⟩
  | .hbm, ⟨33, _⟩ => ⟨S32x4x2, .f32⟩
  | .hbm, ⟨34, _⟩ => ⟨S32x4x2x1, .f32⟩
  | .hbm, ⟨35, _⟩ => ⟨S_, .f32⟩
  | .hbm, ⟨36, _⟩ => ⟨S32x4x2x1, .f32⟩
  | .hbm, ⟨37, _⟩ => ⟨S32x4x2x1, .f32⟩
  | .hbm, ⟨38, _⟩ => ⟨S_, .f32⟩
  | .hbm, ⟨39, _⟩ => ⟨S32x4x2x1, .f32⟩
  | .hbm, ⟨40, _⟩ => ⟨S32x4x2x1, .f32⟩
  | .hbm, ⟨41, _⟩ => ⟨S32x4x2x1, .f32⟩
  | .hbm, ⟨42, _⟩ => ⟨S32x4x2x128, .f32⟩
  | .hbm, ⟨43, _⟩ => ⟨S32x4x2x128, .f32⟩
  | .hbm, ⟨44, _⟩ => ⟨S1x1x1x128, .f32⟩
  | .hbm, ⟨45, _⟩ => ⟨S32x4x2x128, .f32⟩
  | .hbm, ⟨46, _⟩ => ⟨S32x4x2x128, .f32⟩
  | .hbm, ⟨47, _⟩ => ⟨S4, .f32⟩
  | .hbm, ⟨48, _⟩ => ⟨S4x1, .f32⟩
  | .hbm, ⟨49, _⟩ => ⟨S1x16, .f32⟩
  | .hbm, ⟨50, _⟩ => ⟨S4x16, .f32⟩
  | .hbm, ⟨51, _⟩ => ⟨S4x16, .f32⟩
  | .hbm, ⟨52, _⟩ => ⟨S4x16, .f32⟩
  | .hbm, ⟨53, _⟩ => ⟨S4x16, .f32⟩
  | .hbm, ⟨54, _⟩ => ⟨S4x1x16, .f32⟩
  | .hbm, ⟨55, _⟩ => ⟨S4x16, .f32⟩
  | .hbm, ⟨56, _⟩ => ⟨S4x1x16, .f32⟩
  | .hbm, ⟨57, _⟩ => ⟨S32x4x2x16, .f32⟩
  | .hbm, ⟨58, _⟩ => ⟨S32x4x2x16, .f32⟩
  | .hbm, ⟨59, _⟩ => ⟨S1x4x1x16, .f32⟩
  | .hbm, ⟨60, _⟩ => ⟨S32x4x2x16, .f32⟩
  | .hbm, ⟨61, _⟩ => ⟨S32x4x2x16, .f32⟩
  | .hbm, ⟨62, _⟩ => ⟨S1x4x1x16, .f32⟩
  | .hbm, ⟨63, _⟩ => ⟨S32x4x2x16, .f32⟩
  | .hbm, ⟨64, _⟩ => ⟨S32x4x2x16, .f32⟩
  | .hbm, ⟨65, _⟩ => ⟨S32x4x2x16, .f32⟩
  | .hbm, ⟨66, _⟩ => ⟨S1x4x1x16, .f32⟩
  | .hbm, ⟨67, _⟩ => ⟨S32x4x2x16, .f32⟩
  | .hbm, ⟨68, _⟩ => ⟨S32x4x2x16, .f32⟩
  | .hbm, ⟨69, _⟩ => ⟨S1x4x1x16, .f32⟩
  | .hbm, ⟨70, _⟩ => ⟨S32x4x2x16, .f32⟩
  | .hbm, ⟨71, _⟩ => ⟨S32x4x2x16, .f32⟩
  | .hbm, ⟨72, _⟩ => ⟨S32x4x2x16, .f32⟩
  | .hbm, ⟨73, _⟩ => ⟨S32x4x2x96, .f32⟩
  | .hbm, ⟨74, _⟩ => ⟨S32x4x2x128, .f32⟩
  | .hbm, ⟨75, _⟩ => ⟨S32x4x2x128, .f32⟩
  | .hbm, ⟨76, _⟩ => ⟨S32x4x64, .f32⟩
  | .hbm, ⟨77, _⟩ => ⟨S32x4x1x64, .f32⟩
  | .hbm, ⟨78, _⟩ => ⟨S4, .f32⟩
  | .hbm, ⟨79, _⟩ => ⟨S4x1, .f32⟩
  | .hbm, ⟨80, _⟩ => ⟨S1x8, .f32⟩
  | .hbm, ⟨81, _⟩ => ⟨S4x8, .f32⟩
  | .hbm, ⟨82, _⟩ => ⟨S4x8, .f32⟩
  | .hbm, ⟨83, _⟩ => ⟨S4x8, .f32⟩
  | .hbm, ⟨84, _⟩ => ⟨S4x8, .f32⟩
  | .hbm, ⟨85, _⟩ => ⟨S4x1x8, .f32⟩
  | .hbm, ⟨86, _⟩ => ⟨S4x8, .f32⟩
  | .hbm, ⟨87, _⟩ => ⟨S4x1x8, .f32⟩
  | .hbm, ⟨88, _⟩ => ⟨S32x4x1x8, .f32⟩
  | .hbm, ⟨89, _⟩ => ⟨S32x4x1x8, .f32⟩
  | .hbm, ⟨90, _⟩ => ⟨S1x4x1x8, .f32⟩
  | .hbm, ⟨91, _⟩ => ⟨S32x4x1x8, .f32⟩
  | .hbm, ⟨92, _⟩ => ⟨S32x4x1x8, .f32⟩
  | .hbm, ⟨93, _⟩ => ⟨S1x4x1x8, .f32⟩
  | .hbm, ⟨94, _⟩ => ⟨S32x4x1x8, .f32⟩
  | .hbm, ⟨95, _⟩ => ⟨S32x4x1x8, .f32⟩
  | .hbm, ⟨96, _⟩ => ⟨S32x4x1x8, .f32⟩
  | .hbm, ⟨97, _⟩ => ⟨S1x4x1x8, .f32⟩
  | .hbm, ⟨98, _⟩ => ⟨S32x4x1x8, .f32⟩
  | .hbm, ⟨99, _⟩ => ⟨S32x4x1x8, .f32⟩
  | .hbm, ⟨100, _⟩ => ⟨S1x4x1x8, .f32⟩
  | .hbm, ⟨101, _⟩ => ⟨S32x4x1x8, .f32⟩
  | .hbm, ⟨102, _⟩ => ⟨S32x4x1x8, .f32⟩
  | .hbm, ⟨103, _⟩ => ⟨S32x4x1x8, .f32⟩
  | .hbm, ⟨104, _⟩ => ⟨S32x4x1x48, .f32⟩
  | .hbm, ⟨105, _⟩ => ⟨S32x4x1x64, .f32⟩
  | .hbm, ⟨106, _⟩ => ⟨S256x128, .f32⟩
  | .hbm, ⟨107, _⟩ => ⟨S256x128, .f32⟩
  | .hbm, ⟨108, _⟩ => ⟨S128x64, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩

abbrev nD : Nat := 1
abbrev τ : Topo := Topo.v7x

variable {F : FTy → Type} [FloatOps F]
-- ==== Proof.Ple.lean ====
module
public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.Kernel2Ideal.Ple
open Cert.Kernel2Ideal Cert.Kernel2Ideal.Gen
variable (m : (ℓ : Loc nD τ sig) → Buf (Elt Ideal) ℓ)
abbrev REF (x : FVec Ideal S32768x2048 .f32) (p : FVec Ideal S16x2048x256 .f32) (gpg : FVec Ideal S2048 .f32)
    (wpg : FVec Ideal S2048x2048 .f32) (wple : FVec Ideal S256x2048 .f32) (gple : FVec Ideal S2048 .f32) :
    FVec Ideal S32768x2048 .f32 :=
  addf x (mulf (Host.divf (broadcastInDim Cert.Reference2Ideal.S32768x2048 ![] Cert.Reference2Ideal.Gen.bcast_S_S32768x2048 (constant Cert.Reference2Ideal.S_ .f32 0x3F800000#32)) (addf (broadcastInDim Cert.Reference2Ideal.S32768x2048 ![] Cert.Reference2Ideal.Gen.bcast_S_S32768x2048 (constant Cert.Reference2Ideal.S_ .f32 0x3F800000#32)) (Host.exp (Host.negf (Host.dotGeneral Cert.Reference2Ideal.dot_S32768x2048_S2048x2048_S32768x2048_1_0_0_1_n_n none (mulf (mulf x (broadcastInDim Cert.Reference2Ideal.S32768x2048 ![0, 1] Cert.Reference2Ideal.Gen.bcast_S32768x1_S32768x2048_0_1 (Host.rsqrt (addf (Host.divf (broadcastInDim Cert.Reference2Ideal.S32768x1 ![0] Cert.Reference2Ideal.Gen.bcast_S32768_S32768x1_0 (Host.reduceAdd (mulf x x) (constant Cert.Reference2Ideal.S_ .f32 0x00000000#32) Cert.Reference2Ideal.Gen.reducesTo_S32768x2048_S32768_d1 Cert.Reference2Ideal.Gen.h_S_)) (broadcastInDim Cert.Reference2Ideal.S32768x1 ![] Cert.Reference2Ideal.Gen.bcast_S_S32768x1 (constant Cert.Reference2Ideal.S_ .f32 0x45000000#32))) (broadcastInDim Cert.Reference2Ideal.S32768x1 ![] Cert.Reference2Ideal.Gen.bcast_S_S32768x1 (constant Cert.Reference2Ideal.S_ .f32 0x358637BD#32)))))) (broadcastInDim Cert.Reference2Ideal.S32768x2048 ![0, 1] Cert.Reference2Ideal.Gen.bcast_S1x2048_S32768x2048_0_1 (broadcastInDim Cert.Reference2Ideal.S1x2048 ![1] Cert.Reference2Ideal.Gen.bcast_S2048_S1x2048_1 gpg))) wpg))))) (mulf (mulf (Host.dotGeneral Cert.Reference2Ideal.dot_S32768x256_S256x2048_S32768x2048_1_0_0_1_n_n none (shapeCast _ p Cert.Reference2Ideal.Gen.shapeCasts_S16x2048x256_S32768x256) wple) (broadcastInDim Cert.Reference2Ideal.S32768x2048 ![0, 1] Cert.Reference2Ideal.Gen.bcast_S32768x1_S32768x2048_0_1 (Host.rsqrt (addf (Host.divf (broadcastInDim Cert.Reference2Ideal.S32768x1 ![0] Cert.Reference2Ideal.Gen.bcast_S32768_S32768x1_0 (Host.reduceAdd (mulf (Host.dotGeneral Cert.Reference2Ideal.dot_S32768x256_S256x2048_S32768x2048_1_0_0_1_n_n none (shapeCast _ p Cert.Reference2Ideal.Gen.shapeCasts_S16x2048x256_S32768x256) wple) (Host.dotGeneral Cert.Reference2Ideal.dot_S32768x256_S256x2048_S32768x2048_1_0_0_1_n_n none (shapeCast _ p Cert.Reference2Ideal.Gen.shapeCasts_S16x2048x256_S32768x256) wple)) (constant Cert.Reference2Ideal.S_ .f32 0x00000000#32) Cert.Reference2Ideal.Gen.reducesTo_S32768x2048_S32768_d1 Cert.Reference2Ideal.Gen.h_S_)) (broadcastInDim Cert.Reference2Ideal.S32768x1 ![] Cert.Reference2Ideal.Gen.bcast_S_S32768x1 (constant Cert.Reference2Ideal.S_ .f32 0x45000000#32))) (broadcastInDim Cert.Reference2Ideal.S32768x1 ![] Cert.Reference2Ideal.Gen.bcast_S_S32768x1 (constant Cert.Reference2Ideal.S_ .f32 0x358637BD#32)))))) (broadcastInDim Cert.Reference2Ideal.S32768x2048 ![0, 1] Cert.Reference2Ideal.Gen.bcast_S1x2048_S32768x2048_0_1 (broadcastInDim Cert.Reference2Ideal.S1x2048 ![1] Cert.Reference2Ideal.Gen.bcast_S2048_S1x2048_1 gple))))
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)
theorem neg_eq (x : EReal) : 0 - x = -x := zero_sub x
theorem rd2 (c : Dev nD) (t : Fin cfg0.N) (l : Fin 2048) :
    iblk m c 2 t (ix2 (0 : Fin 1) l) = m ((c : Thread nD τ).loc main_arg2) (ix1 l) := by
  have e : ((cfg0.win 2).blk t).view.emb (ix2 (0 : Fin 1) l) = ix2 (0 : Fin 1) l := by blk_ext [idx t]
  blk_simp [iblk]
  entry_read
  erw [e]
  pointwise
theorem rd3 (c : Dev nD) (t : Fin cfg0.N) (k l : Fin 2048) :
    iblk m c 3 t (ix2 k l) = m ((c : Thread nD τ).loc main_arg3) (ix2 k l) := by
  have e : ((cfg0.win 3).blk t).view.emb (ix2 k l) = ix2 k l := by blk_ext [idx t]
  blk_simp [iblk]
  entry_read
  erw [e]
  pointwise
theorem rd4 (c : Dev nD) (t : Fin cfg0.N) (k : Fin 256) (l : Fin 2048) :
    iblk m c 4 t (ix2 k l) = m ((c : Thread nD τ).loc main_arg4) (ix2 k l) := by
  have e : ((cfg0.win 4).blk t).view.emb (ix2 k l) = ix2 k l := by blk_ext [idx t]
  blk_simp [iblk]
  entry_read
  erw [e]
  pointwise
theorem rd5 (c : Dev nD) (t : Fin cfg0.N) (l : Fin 2048) :
    iblk m c 5 t (ix2 (0 : Fin 1) l) = m ((c : Thread nD τ).loc main_arg5) (ix1 l) := by
  have e : ((cfg0.win 5).blk t).view.emb (ix2 (0 : Fin 1) l) = ix2 (0 : Fin 1) l := by blk_ext [idx t]
  blk_simp [iblk]
  entry_read
  erw [e]
  pointwise
set_option maxHeartbeats 1600000 in
theorem point (c : Dev nD) (t : Fin cfg0.N) (y) :
    k0_pay1 (iblk m c 0 t) (k0_pay2 (iblk m c 1 t) (iblk m c 4 t) (iblk m c 5 t)) (k0_pay3 (iblk m c 0 t) (iblk m c 2 t) (iblk m c 3 t)) y
    = REF (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5)) (((cfg0.win 6).blk t).view.emb y) := by
  pointwise [k0_pay1, k0_pay2, k0_pay3, REF]
  rw [neg_eq]
  reads_congr
  · blk_point [iblk, V, idx t]
  · blk_point [iblk, V, idx t]
  · exact rd2 m c t x
  · refine (rd3 m c t x (y 1)).trans ?_
    blk_ext [idx t]
  · have e : ((cfg0.win 1).blk t).view.emb (ix2 (y 0) x) = ix2 (((cfg0.win 6).blk t).view.emb y 0) x := by blk_ext [idx t]
    blk_simp [iblk]
    entry_read
    erw [e]
    pointwise
    blk_ext []
  · refine (rd4 m c t x (y 1)).trans ?_
    blk_ext [idx t]
  · have e : ((cfg0.win 1).blk t).view.emb (ix2 (y 0) x) = ix2 (((cfg0.win 6).blk t).view.emb y 0) x := by blk_ext [idx t]
    blk_simp [iblk]
    entry_read
    erw [e]
    pointwise
    blk_ext []
  · exact rd4 m c t x _
  · refine (rd5 m c t (y 1)).trans ?_
    blk_ext [idx t]
theorem final (c : Dev nD) : (dats m 0 c).arrAt 6 (cfgs 0).N
    = REF (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y
end Cert.Kernel2Ideal.Ple
theorem Cert.frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem Cert.algebraic2 : Cert.algebraic_Kernel2Ideal_Reference2Ideal := by
  pair_intro
  · run_from Cert.Kernel2Ideal.Gen.run_main m g
  · run_from Cert.Reference2Ideal.Value.run m' g'
    exact (Cert.Kernel2Ideal.Ple.final m c).symm
end
-- ==== Proof.Merge6.lean ====
module
public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.Kernel6Ideal.Merge
open Cert.Kernel6Ideal Cert.Kernel6Ideal.Gen
variable (m : (ℓ : Loc nD τ sig) → Buf (Elt Ideal) ℓ)
abbrev REF (o : FVec Ideal Cert.Reference6Ideal.S32x4x1024 .f32) (z : FVec Ideal Cert.Reference6Ideal.S32x4x512 .f32)
    (x : FVec Ideal Cert.Reference6Ideal.S32x4x2048 .f32) (g : FVec Ideal Cert.Reference6Ideal.S2048 .f32)
    (win : FVec Ideal Cert.Reference6Ideal.S2048x7248 .f32) (watt : FVec Ideal Cert.Reference6Ideal.S1024x2048 .f32)
    (wssm : FVec Ideal Cert.Reference6Ideal.S512x2048 .f32) (wo : FVec Ideal Cert.Reference6Ideal.S2048x2048 .f32) :
    FVec Ideal Cert.Reference6Ideal.S128x2048 .f32 :=
  shapeCast _ (addf x (Host.dotGeneral Cert.Reference6Ideal.dot_S32x4x2048_S2048x2048_S32x4x2048_2_0_01_1_n_n none (addf (mulf (Host.divf (broadcastInDim Cert.Reference6Ideal.S32x4x2048 ![] Cert.Reference6Ideal.Gen.bcast_S_S32x4x2048 (constant Cert.Reference6Ideal.S_ .f32 0x3F800000#32)) (addf (broadcastInDim Cert.Reference6Ideal.S32x4x2048 ![] Cert.Reference6Ideal.Gen.bcast_S_S32x4x2048 (constant Cert.Reference6Ideal.S_ .f32 0x3F800000#32)) (Host.exp (Host.negf (extractStridedSlice Cert.Reference6Ideal.S32x4x2048 ![0, 0, 3152] (Host.dotGeneral Cert.Reference6Ideal.dot_S32x4x2048_S2048x7248_S32x4x7248_2_0_01_1_n_n none (mulf (mulf x (broadcastInDim Cert.Reference6Ideal.S32x4x2048 ![0, 1, 2] Cert.Reference6Ideal.Gen.bcast_S32x4x1_S32x4x2048_0_1_2 (Host.rsqrt (addf (Host.divf (broadcastInDim Cert.Reference6Ideal.S32x4x1 ![0, 1] Cert.Reference6Ideal.Gen.bcast_S32x4_S32x4x1_0_1 (Host.reduceAdd (mulf x x) (constant Cert.Reference6Ideal.S_ .f32 0x00000000#32) Cert.Reference6Ideal.Gen.reducesTo_S32x4x2048_S32x4_d2 Cert.Reference6Ideal.Gen.h_S_)) (broadcastInDim Cert.Reference6Ideal.S32x4x1 ![] Cert.Reference6Ideal.Gen.bcast_S_S32x4x1 (constant Cert.Reference6Ideal.S_ .f32 0x45000000#32))) (broadcastInDim Cert.Reference6Ideal.S32x4x1 ![] Cert.Reference6Ideal.Gen.bcast_S_S32x4x1 (constant Cert.Reference6Ideal.S_ .f32 0x358637BD#32)))))) (broadcastInDim Cert.Reference6Ideal.S32x4x2048 ![0, 1, 2] Cert.Reference6Ideal.Gen.bcast_S1x1x2048_S32x4x2048_0_1_2 (broadcastInDim Cert.Reference6Ideal.S1x1x2048 ![2] Cert.Reference6Ideal.Gen.bcast_S2048_S1x1x2048_2 g))) win) Cert.Reference6Ideal.Gen.slices_S32x4x7248_S32x4x2048_0_0_3152))))) (Host.dotGeneral Cert.Reference6Ideal.dot_S32x4x1024_S1024x2048_S32x4x2048_2_0_01_1_n_n none o watt)) (mulf (Host.divf (broadcastInDim Cert.Reference6Ideal.S32x4x2048 ![] Cert.Reference6Ideal.Gen.bcast_S_S32x4x2048 (constant Cert.Reference6Ideal.S_ .f32 0x3F800000#32)) (addf (broadcastInDim Cert.Reference6Ideal.S32x4x2048 ![] Cert.Reference6Ideal.Gen.bcast_S_S32x4x2048 (constant Cert.Reference6Ideal.S_ .f32 0x3F800000#32)) (Host.exp (Host.negf (extractStridedSlice Cert.Reference6Ideal.S32x4x2048 ![0, 0, 5200] (Host.dotGeneral Cert.Reference6Ideal.dot_S32x4x2048_S2048x7248_S32x4x7248_2_0_01_1_n_n none (mulf (mulf x (broadcastInDim Cert.Reference6Ideal.S32x4x2048 ![0, 1, 2] Cert.Reference6Ideal.Gen.bcast_S32x4x1_S32x4x2048_0_1_2 (Host.rsqrt (addf (Host.divf (broadcastInDim Cert.Reference6Ideal.S32x4x1 ![0, 1] Cert.Reference6Ideal.Gen.bcast_S32x4_S32x4x1_0_1 (Host.reduceAdd (mulf x x) (constant Cert.Reference6Ideal.S_ .f32 0x00000000#32) Cert.Reference6Ideal.Gen.reducesTo_S32x4x2048_S32x4_d2 Cert.Reference6Ideal.Gen.h_S_)) (broadcastInDim Cert.Reference6Ideal.S32x4x1 ![] Cert.Reference6Ideal.Gen.bcast_S_S32x4x1 (constant Cert.Reference6Ideal.S_ .f32 0x45000000#32))) (broadcastInDim Cert.Reference6Ideal.S32x4x1 ![] Cert.Reference6Ideal.Gen.bcast_S_S32x4x1 (constant Cert.Reference6Ideal.S_ .f32 0x358637BD#32)))))) (broadcastInDim Cert.Reference6Ideal.S32x4x2048 ![0, 1, 2] Cert.Reference6Ideal.Gen.bcast_S1x1x2048_S32x4x2048_0_1_2 (broadcastInDim Cert.Reference6Ideal.S1x1x2048 ![2] Cert.Reference6Ideal.Gen.bcast_S2048_S1x1x2048_2 g))) win) Cert.Reference6Ideal.Gen.slices_S32x4x7248_S32x4x2048_0_0_5200))))) (Host.dotGeneral Cert.Reference6Ideal.dot_S32x4x512_S512x2048_S32x4x2048_2_0_01_1_n_n none z wssm))) wo)) Cert.Reference6Ideal.Gen.shapeCasts_S32x4x2048_S128x2048
theorem idx_lt1 (i : S128x2048.Idx) : (i 1).val < 2048 := (i 1).isLt
def hb (x : FVec Ideal S128x2048 .f32) (g : FVec Ideal S1x2048 .f32) (r : Fin 128) (k : Fin 2048) : EReal :=
  x (ix2 r k) * Ideal.rsqrt (Ideal.div (∑ q : Fin 2048, x (ix2 r q) * x (ix2 r q)) (Ideal.ofBits FTy.f32 1157627904#32)
    + Ideal.ofBits FTy.f32 897988541#32) * g (ix2 0 k)
def mg (o : FVec Ideal S128x1024 .bf16) (z : FVec Ideal S128x512 .bf16) (x : FVec Ideal S128x2048 .f32)
    (g : FVec Ideal S1x2048 .f32) (w : FVec Ideal S2048x4096 .bf16) (wa : FVec Ideal S1024x2048 .bf16)
    (ws : FVec Ideal S512x2048 .bf16) : FVec Ideal S128x2048 .bf16 := fun i =>
  Ideal.div 1 (1 + Ideal.exp (0 - ∑ k : Fin 2048, hb x g (i 0) k * w (ix2 k ⟨(i 1).val, by have := idx_lt1 i; omega⟩)))
      * (∑ k : Fin 1024, o (ix2 (i 0) k) * wa (ix2 k (i 1)))
    + Ideal.div 1 (1 + Ideal.exp (0 - ∑ k : Fin 2048, hb x g (i 0) k * w (ix2 k ⟨2048 + (i 1).val, by have := idx_lt1 i; omega⟩)))
      * (∑ k : Fin 512, z (ix2 (i 0) k) * ws (ix2 k (i 1)))
theorem pay4_at (b2 : FVec Ideal S128x2048 .f32) (b3 : FVec Ideal S1x2048 .f32) (r : Fin 128) (k : Fin 2048) :
    k0_pay4 (F := Ideal) b2 b3 (ix2 r k) = hb b2 b3 r k := by
  pointwise [k0_pay4, k0_pay3, hb]
def gate (h : Fin 2048 → EReal) (w : Fin 2048 → EReal) (d : EReal) : EReal :=
  Ideal.div 1 (1 + Ideal.exp (0 - ∑ k : Fin 2048, h k * w k)) * d
theorem t1_at (b0 : FVec Ideal S128x1024 .bf16) (b1 : FVec Ideal S128x512 .bf16) (b2 : FVec Ideal S128x2048 .f32) (b3 : FVec Ideal S1x2048 .f32)
    (u v : FVec Ideal S2048x512 .bf16) (wa : FVec Ideal S1024x512 .bf16) (ws : FVec Ideal S512x512 .bf16) (r : Fin 128) (l : Fin 512) :
    k0_pay1 (F := Ideal) (k0_pay22 (k0_pay6 b1) ws) (k0_pay23 (k0_pay4 b2 b3) (k0_pay5 b0) u wa) (k0_pay24 (k0_pay4 b2 b3) v) (ix2 r l)
    = gate (hb b2 b3 r) (fun k => u (ix2 k l)) (∑ k : Fin 1024, b0 (ix2 r k) * wa (ix2 k l))
      + gate (hb b2 b3 r) (fun k => v (ix2 k l)) (∑ k : Fin 512, b1 (ix2 r k) * ws (ix2 k l)) := by
  pointwise [k0_pay1, k0_pay22, k0_pay23, k0_pay24, k0_pay5, k0_pay6, pay4_at, gate]
theorem t2_at (b0 : FVec Ideal S128x1024 .bf16) (b1 : FVec Ideal S128x512 .bf16) (b2 : FVec Ideal S128x2048 .f32) (b3 : FVec Ideal S1x2048 .f32)
    (u v : FVec Ideal S2048x512 .bf16) (wa : FVec Ideal S1024x512 .bf16) (ws : FVec Ideal S512x512 .bf16) (r : Fin 128) (l : Fin 512) :
    k0_pay21 (F := Ideal) (k0_pay18 (k0_pay6 b1) ws) (k0_pay19 (k0_pay4 b2 b3) (k0_pay5 b0) u wa) (k0_pay20 (k0_pay4 b2 b3) v) (ix2 r l)
    = gate (hb b2 b3 r) (fun k => u (ix2 k l)) (∑ k : Fin 1024, b0 (ix2 r k) * wa (ix2 k l))
      + gate (hb b2 b3 r) (fun k => v (ix2 k l)) (∑ k : Fin 512, b1 (ix2 r k) * ws (ix2 k l)) := by
  pointwise [k0_pay21, k0_pay18, k0_pay19, k0_pay20, k0_pay5, k0_pay6, pay4_at, gate]
theorem t3_at (b0 : FVec Ideal S128x1024 .bf16) (b1 : FVec Ideal S128x512 .bf16) (b2 : FVec Ideal S128x2048 .f32) (b3 : FVec Ideal S1x2048 .f32)
    (u v : FVec Ideal S2048x512 .bf16) (wa : FVec Ideal S1024x512 .bf16) (ws : FVec Ideal S512x512 .bf16) (r : Fin 128) (l : Fin 512) :
    k0_pay17 (F := Ideal) (k0_pay12 (k0_pay4 b2 b3) v) (k0_pay13 (k0_pay5 b0) wa) (k0_pay14 (k0_pay6 b1) ws) (k0_pay15 (k0_pay4 b2 b3) u) k0_pay16 (ix2 r l)
    = gate (hb b2 b3 r) (fun k => u (ix2 k l)) (∑ k : Fin 1024, b0 (ix2 r k) * wa (ix2 k l))
      + gate (hb b2 b3 r) (fun k => v (ix2 k l)) (∑ k : Fin 512, b1 (ix2 r k) * ws (ix2 k l)) := by
  pointwise [k0_pay17, k0_pay12, k0_pay13, k0_pay14, k0_pay15, k0_pay16, k0_pay5, k0_pay6, pay4_at, gate]
theorem t4_at (b0 : FVec Ideal S128x1024 .bf16) (b1 : FVec Ideal S128x512 .bf16) (b2 : FVec Ideal S128x2048 .f32) (b3 : FVec Ideal S1x2048 .f32)
    (u v : FVec Ideal S2048x512 .bf16) (wa : FVec Ideal S1024x512 .bf16) (ws : FVec Ideal S512x512 .bf16) (r : Fin 128) (l : Fin 512) :
    k0_pay11 (F := Ideal) (k0_pay7 b2 b3 v) (k0_pay8 b0 wa) (k0_pay9 b1 ws) (k0_pay10 b2 b3 u) (ix2 r l)
    = gate (hb b2 b3 r) (fun k => u (ix2 k l)) (∑ k : Fin 1024, b0 (ix2 r k) * wa (ix2 k l))
      + gate (hb b2 b3 r) (fun k => v (ix2 k l)) (∑ k : Fin 512, b1 (ix2 r k) * ws (ix2 k l)) := by
  pointwise [k0_pay11, k0_pay7, k0_pay8, k0_pay9, k0_pay10, k0_pay5, k0_pay6, pay4_at, gate]
theorem pay2_congr (x : FVec Ideal S128x2048 .f32) (w : Vec Ideal S2048x2048 .bf16) {s s' : Vec Ideal S128x2048 .bf16} (h : s = s') (y : S128x2048.Idx) :
    k0_pay2 (F := Ideal) x s w y = k0_pay2 x s' w y := by rw [h]
theorem readCov_whole (v : View sig .tc .vmem S128x2048 .bf16) (L : List (View.Piece (Elt Ideal) S128x2048 .bf16)) :
    v.readCov L (Rect.unit ![0, 0] ![128, 2048] inb_S128x2048_S128x2048_0_0).toLoadRect = View.canon L := by
  rw [View.readCov_eq_canon']
  exact View.ld_unit_zero (by funext a; fin_cases a <;> rfl) _ _
theorem flush (c : Dev nD) (t : Fin cfg0.N) (y : S128x2048.Idx) : outsAt0 m c t y =
    k0_pay2 (k0_pay3 (iblk m c 2 t)) (mg (iblk m c 0 t) (iblk m c 1 t) (iblk m c 2 t) (iblk m c 3 t) (iblk m c 4 t) (iblk m c 5 t) (iblk m c 6 t)) (iblk m c 7 t) y := by
  unfold outsAt0; frame_out
  refine pay2_congr _ _ ?_ y
  refine (readCov_whole _ _).trans ?_
  funext i
  canon_tiles x h
  · refine (t1_at _ _ _ _ _ _ _ _ (x 0) (x 1)).trans ?_
    have e0 : i 0 = x 0 := Fin.ext h0
    pointwise [mg, gate]
    rw [e0]
    blk_point []
  · refine (t2_at _ _ _ _ _ _ _ _ (x 0) (x 1)).trans ?_
    have e0 : i 0 = x 0 := Fin.ext h0
    pointwise [mg, gate]
    rw [e0]
    blk_point []
  · refine (t3_at _ _ _ _ _ _ _ _ (x 0) (x 1)).trans ?_
    have e0 : i 0 = x 0 := Fin.ext h0
    pointwise [mg, gate]
    rw [e0]
    blk_point []
  · refine (t4_at _ _ _ _ _ _ _ _ (x 0) (x 1)).trans ?_
    have e0 : i 0 = x 0 := Fin.ext h0
    pointwise [mg, gate]
    rw [e0]
    blk_point []
theorem neg_eq (x : EReal) : 0 - x = -x := by rw [sub_eq_add_neg, zero_add]
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)
theorem lt_N (t : Fin cfg0.N) : t.val < 1 := lt_of_lt_of_eq t.isLt N_0
theorem rd0 (c : Dev nD) (t : Fin cfg0.N) (r : Fin 128) (k : Fin 1024) :
    iblk m c 0 t (ix2 r k) = m ((c : Thread nD τ).loc main_arg0) (ix3 (⟨(t.val * 128 + r.val) / 4, by have := lt_N t; omega⟩ : Fin 32) (⟨(t.val * 128 + r.val) % 4, by omega⟩ : Fin 4) k) := by
  have ht := lt_N t
  have e : ((cfg0.win 0).blk t).view.emb (ix2 r k) = ix2 (⟨t.val * 128 + r.val, by omega⟩ : Fin 128) k := by blk_ext [idx t]
  blk_simp [iblk]
  entry_read
  erw [e]
  pointwise
theorem rd2 (c : Dev nD) (t : Fin cfg0.N) (r : Fin 128) (k : Fin 2048) :
    iblk m c 2 t (ix2 r k) = m ((c : Thread nD τ).loc main_arg2) (ix3 (⟨(t.val * 128 + r.val) / 4, by have := lt_N t; omega⟩ : Fin 32) (⟨(t.val * 128 + r.val) % 4, by omega⟩ : Fin 4) k) := by
  have ht := lt_N t
  have e : ((cfg0.win 2).blk t).view.emb (ix2 r k) = ix2 (⟨t.val * 128 + r.val, by omega⟩ : Fin 128) k := by blk_ext [idx t]
  blk_simp [iblk]
  entry_read
  erw [e]
  pointwise
theorem rd1 (c : Dev nD) (t : Fin cfg0.N) (r : Fin 128) (k : Fin 512) :
    iblk m c 1 t (ix2 r k) = m ((c : Thread nD τ).loc main_arg1) (ix3 (⟨(t.val * 128 + r.val) / 4, by have := lt_N t; omega⟩ : Fin 32) (⟨(t.val * 128 + r.val) % 4, by omega⟩ : Fin 4) k) := by
  have ht := lt_N t
  have e : ((cfg0.win 1).blk t).view.emb (ix2 r k) = ix2 (⟨t.val * 128 + r.val, by omega⟩ : Fin 128) k := by blk_ext [idx t]
  blk_simp [iblk]
  entry_read
  erw [e]
  pointwise
  blk_ext []
theorem rd3 (c : Dev nD) (t : Fin cfg0.N) (k : Fin 2048) :
    iblk m c 3 t (ix2 (0 : Fin 1) k) = m ((c : Thread nD τ).loc main_arg3) (ix1 k) := by
  have ht := lt_N t
  have e : ((cfg0.win 3).blk t).view.emb (ix2 (0 : Fin 1) k) = ix2 (0 : Fin 1) k := by blk_ext [idx t]
  blk_simp [iblk]
  entry_read
  erw [e]
  pointwise
theorem rd4 (c : Dev nD) (t : Fin cfg0.N) (k : Fin 2048) (l : Fin 4096) :
    iblk m c 4 t (ix2 k l) = m ((c : Thread nD τ).loc main_arg4) (ix2 k (⟨3152 + l.val, by omega⟩ : Fin 7248)) := by
  have ht := lt_N t
  have e : ((cfg0.win 4).blk t).view.emb (ix2 k l) = ix2 k l := by blk_ext [idx t]
  blk_simp [iblk]
  entry_read
  erw [e]
  pointwise
theorem rd5 (c : Dev nD) (t : Fin cfg0.N) (k : Fin 1024) (l : Fin 2048) :
    iblk m c 5 t (ix2 k l) = m ((c : Thread nD τ).loc main_arg5) (ix2 k l) := by
  have ht := lt_N t
  have e : ((cfg0.win 5).blk t).view.emb (ix2 k l) = ix2 k l := by blk_ext [idx t]
  blk_simp [iblk]
  entry_read
  erw [e]
  pointwise
theorem rd6 (c : Dev nD) (t : Fin cfg0.N) (k : Fin 512) (l : Fin 2048) :
    iblk m c 6 t (ix2 k l) = m ((c : Thread nD τ).loc main_arg6) (ix2 k l) := by
  have ht := lt_N t
  have e : ((cfg0.win 6).blk t).view.emb (ix2 k l) = ix2 k l := by blk_ext [idx t]
  blk_simp [iblk]
  entry_read
  erw [e]
  pointwise
theorem rd7 (c : Dev nD) (t : Fin cfg0.N) (k : Fin 2048) (l : Fin 2048) :
    iblk m c 7 t (ix2 k l) = m ((c : Thread nD τ).loc main_arg7) (ix2 k l) := by
  have ht := lt_N t
  have e : ((cfg0.win 7).blk t).view.emb (ix2 k l) = ix2 k l := by blk_ext [idx t]
  blk_simp [iblk]
  entry_read
  erw [e]
  pointwise
set_option maxHeartbeats 1600000 in
theorem point (c : Dev nD) (t : Fin cfg0.N) (y) :
    k0_pay2 (k0_pay3 (iblk m c 2 t)) (mg (iblk m c 0 t) (iblk m c 1 t) (iblk m c 2 t) (iblk m c 3 t) (iblk m c 4 t) (iblk m c 5 t) (iblk m c 6 t)) (iblk m c 7 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb y) := by
  pointwise [k0_pay2, k0_pay3, mg, hb, REF]
  simp only [neg_eq]
  reads_congr
  · have hy : y = ix2 (y 0) (y 1) := by blk_ext []
    refine ((congrArg (iblk m c 2 t) hy).trans (rd2 m c t (y 0) (y 1))).trans ?_
    blk_ext [idx t]
  · refine (rd2 m c t (y 0) x).trans ?_
    blk_ext [idx t]
  · refine (rd2 m c t (y 0) x).trans ?_
    blk_ext [idx t]
  · exact rd3 m c t x
  · refine (rd4 m c t x _).trans ?_
    blk_ext [idx t]
  · refine (rd0 m c t (y 0) x).trans ?_
    blk_ext [idx t]
  · exact rd5 m c t x _
  · refine (rd2 m c t (y 0) x).trans ?_
    blk_ext [idx t]
  · refine (rd2 m c t (y 0) x).trans ?_
    blk_ext [idx t]
  · refine (rd4 m c t x _).trans ?_
    blk_ext [idx t]
  · refine (rd1 m c t (y 0) x).trans ?_
    blk_ext [idx t]
  · exact rd6 m c t x _
  · refine (rd7 m c t x (y 1)).trans ?_
    blk_ext [idx t]
theorem final (c : Dev nD) : (dats m 0 c).arrAt 8 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8, flush]
  exact point m c t y
end Cert.Kernel6Ideal.Merge
theorem Cert.frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem Cert.algebraic6 : Cert.algebraic_Kernel6Ideal_Reference6Ideal := by
  pair_intro
  · run_from Cert.Kernel6Ideal.Gen.run_main m g
  · run_from Cert.Reference6Ideal.Value.run m' g'
    exact (Cert.Kernel6Ideal.Merge.final m c).symm
end
-- ==== Proof.Ple5.lean ====
module
public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.Kernel5Ideal.Ple
open Cert.Kernel5Ideal Cert.Kernel5Ideal.Gen
variable (m : (ℓ : Loc nD τ sig) → Buf (Elt Ideal) ℓ)
abbrev REF (x : FVec Ideal S128x2048 .f32) (p : FVec Ideal S32x4x256 .f32) (gpg : FVec Ideal S2048 .f32)
    (wpg : FVec Ideal S2048x2048 .f32) (wple : FVec Ideal S256x2048 .f32) (gple : FVec Ideal S2048 .f32) :
    FVec Ideal S128x2048 .f32 :=
  addf x (mulf (Host.divf (broadcastInDim Cert.Reference5Ideal.S128x2048 ![] Cert.Reference5Ideal.Gen.bcast_S_S128x2048 (constant Cert.Reference5Ideal.S_ .f32 0x3F800000#32)) (addf (broadcastInDim Cert.Reference5Ideal.S128x2048 ![] Cert.Reference5Ideal.Gen.bcast_S_S128x2048 (constant Cert.Reference5Ideal.S_ .f32 0x3F800000#32)) (Host.exp (Host.negf (Host.dotGeneral Cert.Reference5Ideal.dot_S128x2048_S2048x2048_S128x2048_1_0_0_1_n_n none (mulf (mulf x (broadcastInDim Cert.Reference5Ideal.S128x2048 ![0, 1] Cert.Reference5Ideal.Gen.bcast_S128x1_S128x2048_0_1 (Host.rsqrt (addf (Host.divf (broadcastInDim Cert.Reference5Ideal.S128x1 ![0] Cert.Reference5Ideal.Gen.bcast_S128_S128x1_0 (Host.reduceAdd (mulf x x) (constant Cert.Reference5Ideal.S_ .f32 0x00000000#32) Cert.Reference5Ideal.Gen.reducesTo_S128x2048_S128_d1 Cert.Reference5Ideal.Gen.h_S_)) (broadcastInDim Cert.Reference5Ideal.S128x1 ![] Cert.Reference5Ideal.Gen.bcast_S_S128x1 (constant Cert.Reference5Ideal.S_ .f32 0x45000000#32))) (broadcastInDim Cert.Reference5Ideal.S128x1 ![] Cert.Reference5Ideal.Gen.bcast_S_S128x1 (constant Cert.Reference5Ideal.S_ .f32 0x358637BD#32)))))) (broadcastInDim Cert.Reference5Ideal.S128x2048 ![0, 1] Cert.Reference5Ideal.Gen.bcast_S1x2048_S128x2048_0_1 (broadcastInDim Cert.Reference5Ideal.S1x2048 ![1] Cert.Reference5Ideal.Gen.bcast_S2048_S1x2048_1 gpg))) wpg))))) (mulf (mulf (Host.dotGeneral Cert.Reference5Ideal.dot_S128x256_S256x2048_S128x2048_1_0_0_1_n_n none (shapeCast _ p Cert.Reference5Ideal.Gen.shapeCasts_S32x4x256_S128x256) wple) (broadcastInDim Cert.Reference5Ideal.S128x2048 ![0, 1] Cert.Reference5Ideal.Gen.bcast_S128x1_S128x2048_0_1 (Host.rsqrt (addf (Host.divf (broadcastInDim Cert.Reference5Ideal.S128x1 ![0] Cert.Reference5Ideal.Gen.bcast_S128_S128x1_0 (Host.reduceAdd (mulf (Host.dotGeneral Cert.Reference5Ideal.dot_S128x256_S256x2048_S128x2048_1_0_0_1_n_n none (shapeCast _ p Cert.Reference5Ideal.Gen.shapeCasts_S32x4x256_S128x256) wple) (Host.dotGeneral Cert.Reference5Ideal.dot_S128x256_S256x2048_S128x2048_1_0_0_1_n_n none (shapeCast _ p Cert.Reference5Ideal.Gen.shapeCasts_S32x4x256_S128x256) wple)) (constant Cert.Reference5Ideal.S_ .f32 0x00000000#32) Cert.Reference5Ideal.Gen.reducesTo_S128x2048_S128_d1 Cert.Reference5Ideal.Gen.h_S_)) (broadcastInDim Cert.Reference5Ideal.S128x1 ![] Cert.Reference5Ideal.Gen.bcast_S_S128x1 (constant Cert.Reference5Ideal.S_ .f32 0x45000000#32))) (broadcastInDim Cert.Reference5Ideal.S128x1 ![] Cert.Reference5Ideal.Gen.bcast_S_S128x1 (constant Cert.Reference5Ideal.S_ .f32 0x358637BD#32)))))) (broadcastInDim Cert.Reference5Ideal.S128x2048 ![0, 1] Cert.Reference5Ideal.Gen.bcast_S1x2048_S128x2048_0_1 (broadcastInDim Cert.Reference5Ideal.S1x2048 ![1] Cert.Reference5Ideal.Gen.bcast_S2048_S1x2048_1 gple))))
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)
theorem neg_eq (x : EReal) : 0 - x = -x := zero_sub x
theorem rd2 (c : Dev nD) (t : Fin cfg0.N) (l : Fin 2048) :
    iblk m c 2 t (ix2 (0 : Fin 1) l) = m ((c : Thread nD τ).loc main_arg2) (ix1 l) := by
  have e : ((cfg0.win 2).blk t).view.emb (ix2 (0 : Fin 1) l) = ix2 (0 : Fin 1) l := by blk_ext [idx t]
  blk_simp [iblk]
  entry_read
  erw [e]
  pointwise
theorem rd3 (c : Dev nD) (t : Fin cfg0.N) (k l : Fin 2048) :
    iblk m c 3 t (ix2 k l) = m ((c : Thread nD τ).loc main_arg3) (ix2 k l) := by
  have e : ((cfg0.win 3).blk t).view.emb (ix2 k l) = ix2 k l := by blk_ext [idx t]
  blk_simp [iblk]
  entry_read
  erw [e]
  pointwise
theorem rd4 (c : Dev nD) (t : Fin cfg0.N) (k : Fin 256) (l : Fin 2048) :
    iblk m c 4 t (ix2 k l) = m ((c : Thread nD τ).loc main_arg4) (ix2 k l) := by
  have e : ((cfg0.win 4).blk t).view.emb (ix2 k l) = ix2 k l := by blk_ext [idx t]
  blk_simp [iblk]
  entry_read
  erw [e]
  pointwise
theorem rd5 (c : Dev nD) (t : Fin cfg0.N) (l : Fin 2048) :
    iblk m c 5 t (ix2 (0 : Fin 1) l) = m ((c : Thread nD τ).loc main_arg5) (ix1 l) := by
  have e : ((cfg0.win 5).blk t).view.emb (ix2 (0 : Fin 1) l) = ix2 (0 : Fin 1) l := by blk_ext [idx t]
  blk_simp [iblk]
  entry_read
  erw [e]
  pointwise
set_option maxHeartbeats 1600000 in
theorem point (c : Dev nD) (t : Fin cfg0.N) (y) :
    k0_pay1 (iblk m c 0 t) (k0_pay2 (iblk m c 1 t) (iblk m c 4 t) (iblk m c 5 t)) (k0_pay3 (iblk m c 0 t) (iblk m c 2 t) (iblk m c 3 t)) y
    = REF (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5)) (((cfg0.win 6).blk t).view.emb y) := by
  pointwise [k0_pay1, k0_pay2, k0_pay3, REF]
  rw [neg_eq]
  reads_congr
  · blk_point [iblk, V, idx t]
  · blk_point [iblk, V, idx t]
  · exact rd2 m c t x
  · refine (rd3 m c t x (y 1)).trans ?_
    blk_ext [idx t]
  · have e : ((cfg0.win 1).blk t).view.emb (ix2 (y 0) x) = ix2 (((cfg0.win 6).blk t).view.emb y 0) x := by blk_ext [idx t]
    blk_simp [iblk]
    entry_read
    erw [e]
    pointwise
    blk_ext []
  · refine (rd4 m c t x (y 1)).trans ?_
    blk_ext [idx t]
  · have e : ((cfg0.win 1).blk t).view.emb (ix2 (y 0) x) = ix2 (((cfg0.win 6).blk t).view.emb y 0) x := by blk_ext [idx t]
    blk_simp [iblk]
    entry_read
    erw [e]
    pointwise
    blk_ext []
  · exact rd4 m c t x _
  · refine (rd5 m c t (y 1)).trans ?_
    blk_ext [idx t]
theorem final (c : Dev nD) : (dats m 0 c).arrAt 6 (cfgs 0).N
    = REF (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y
end Cert.Kernel5Ideal.Ple
theorem Cert.frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem Cert.algebraic5 : Cert.algebraic_Kernel5Ideal_Reference5Ideal := by
  pair_intro
  · run_from Cert.Kernel5Ideal.Gen.run_main m g
  · run_from Cert.Reference5Ideal.Value.run m' g'
    exact (Cert.Kernel5Ideal.Ple.final m c).symm
end
-- ==== Proof.Merge.lean ====
module
public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.Kernel3Ideal.Merge
open Cert.Kernel3Ideal Cert.Kernel3Ideal.Gen
variable (m : (ℓ : Loc nD τ sig) → Buf (Elt Ideal) ℓ)
abbrev REF (o : FVec Ideal Cert.Reference3Ideal.S16x2048x1024 .f32) (z : FVec Ideal Cert.Reference3Ideal.S16x2048x512 .f32)
    (x : FVec Ideal Cert.Reference3Ideal.S16x2048x2048 .f32) (g : FVec Ideal Cert.Reference3Ideal.S2048 .f32)
    (win : FVec Ideal Cert.Reference3Ideal.S2048x7248 .f32) (watt : FVec Ideal Cert.Reference3Ideal.S1024x2048 .f32)
    (wssm : FVec Ideal Cert.Reference3Ideal.S512x2048 .f32) (wo : FVec Ideal Cert.Reference3Ideal.S2048x2048 .f32) :
    FVec Ideal Cert.Reference3Ideal.S32768x2048 .f32 :=
  shapeCast _ (addf x (Host.dotGeneral Cert.Reference3Ideal.dot_S16x2048x2048_S2048x2048_S16x2048x2048_2_0_01_1_n_n none (addf (mulf (Host.divf (broadcastInDim Cert.Reference3Ideal.S16x2048x2048 ![] Cert.Reference3Ideal.Gen.bcast_S_S16x2048x2048 (constant Cert.Reference3Ideal.S_ .f32 0x3F800000#32)) (addf (broadcastInDim Cert.Reference3Ideal.S16x2048x2048 ![] Cert.Reference3Ideal.Gen.bcast_S_S16x2048x2048 (constant Cert.Reference3Ideal.S_ .f32 0x3F800000#32)) (Host.exp (Host.negf (extractStridedSlice Cert.Reference3Ideal.S16x2048x2048 ![0, 0, 3152] (Host.dotGeneral Cert.Reference3Ideal.dot_S16x2048x2048_S2048x7248_S16x2048x7248_2_0_01_1_n_n none (mulf (mulf x (broadcastInDim Cert.Reference3Ideal.S16x2048x2048 ![0, 1, 2] Cert.Reference3Ideal.Gen.bcast_S16x2048x1_S16x2048x2048_0_1_2 (Host.rsqrt (addf (Host.divf (broadcastInDim Cert.Reference3Ideal.S16x2048x1 ![0, 1] Cert.Reference3Ideal.Gen.bcast_S16x2048_S16x2048x1_0_1 (Host.reduceAdd (mulf x x) (constant Cert.Reference3Ideal.S_ .f32 0x00000000#32) Cert.Reference3Ideal.Gen.reducesTo_S16x2048x2048_S16x2048_d2 Cert.Reference3Ideal.Gen.h_S_)) (broadcastInDim Cert.Reference3Ideal.S16x2048x1 ![] Cert.Reference3Ideal.Gen.bcast_S_S16x2048x1 (constant Cert.Reference3Ideal.S_ .f32 0x45000000#32))) (broadcastInDim Cert.Reference3Ideal.S16x2048x1 ![] Cert.Reference3Ideal.Gen.bcast_S_S16x2048x1 (constant Cert.Reference3Ideal.S_ .f32 0x358637BD#32)))))) (broadcastInDim Cert.Reference3Ideal.S16x2048x2048 ![0, 1, 2] Cert.Reference3Ideal.Gen.bcast_S1x1x2048_S16x2048x2048_0_1_2 (broadcastInDim Cert.Reference3Ideal.S1x1x2048 ![2] Cert.Reference3Ideal.Gen.bcast_S2048_S1x1x2048_2 g))) win) Cert.Reference3Ideal.Gen.slices_S16x2048x7248_S16x2048x2048_0_0_3152))))) (Host.dotGeneral Cert.Reference3Ideal.dot_S16x2048x1024_S1024x2048_S16x2048x2048_2_0_01_1_n_n none o watt)) (mulf (Host.divf (broadcastInDim Cert.Reference3Ideal.S16x2048x2048 ![] Cert.Reference3Ideal.Gen.bcast_S_S16x2048x2048 (constant Cert.Reference3Ideal.S_ .f32 0x3F800000#32)) (addf (broadcastInDim Cert.Reference3Ideal.S16x2048x2048 ![] Cert.Reference3Ideal.Gen.bcast_S_S16x2048x2048 (constant Cert.Reference3Ideal.S_ .f32 0x3F800000#32)) (Host.exp (Host.negf (extractStridedSlice Cert.Reference3Ideal.S16x2048x2048 ![0, 0, 5200] (Host.dotGeneral Cert.Reference3Ideal.dot_S16x2048x2048_S2048x7248_S16x2048x7248_2_0_01_1_n_n none (mulf (mulf x (broadcastInDim Cert.Reference3Ideal.S16x2048x2048 ![0, 1, 2] Cert.Reference3Ideal.Gen.bcast_S16x2048x1_S16x2048x2048_0_1_2 (Host.rsqrt (addf (Host.divf (broadcastInDim Cert.Reference3Ideal.S16x2048x1 ![0, 1] Cert.Reference3Ideal.Gen.bcast_S16x2048_S16x2048x1_0_1 (Host.reduceAdd (mulf x x) (constant Cert.Reference3Ideal.S_ .f32 0x00000000#32) Cert.Reference3Ideal.Gen.reducesTo_S16x2048x2048_S16x2048_d2 Cert.Reference3Ideal.Gen.h_S_)) (broadcastInDim Cert.Reference3Ideal.S16x2048x1 ![] Cert.Reference3Ideal.Gen.bcast_S_S16x2048x1 (constant Cert.Reference3Ideal.S_ .f32 0x45000000#32))) (broadcastInDim Cert.Reference3Ideal.S16x2048x1 ![] Cert.Reference3Ideal.Gen.bcast_S_S16x2048x1 (constant Cert.Reference3Ideal.S_ .f32 0x358637BD#32)))))) (broadcastInDim Cert.Reference3Ideal.S16x2048x2048 ![0, 1, 2] Cert.Reference3Ideal.Gen.bcast_S1x1x2048_S16x2048x2048_0_1_2 (broadcastInDim Cert.Reference3Ideal.S1x1x2048 ![2] Cert.Reference3Ideal.Gen.bcast_S2048_S1x1x2048_2 g))) win) Cert.Reference3Ideal.Gen.slices_S16x2048x7248_S16x2048x2048_0_0_5200))))) (Host.dotGeneral Cert.Reference3Ideal.dot_S16x2048x512_S512x2048_S16x2048x2048_2_0_01_1_n_n none z wssm))) wo)) Cert.Reference3Ideal.Gen.shapeCasts_S16x2048x2048_S32768x2048
theorem idx_lt1 (i : S256x2048.Idx) : (i 1).val < 2048 := (i 1).isLt
def hb (x : FVec Ideal S256x2048 .f32) (g : FVec Ideal S1x2048 .f32) (r : Fin 256) (k : Fin 2048) : EReal :=
  x (ix2 r k) * Ideal.rsqrt (Ideal.div (∑ q : Fin 2048, x (ix2 r q) * x (ix2 r q)) (Ideal.ofBits FTy.f32 1157627904#32)
    + Ideal.ofBits FTy.f32 897988541#32) * g (ix2 0 k)
def mg (o : FVec Ideal S256x1024 .bf16) (z : FVec Ideal S256x512 .bf16) (x : FVec Ideal S256x2048 .f32)
    (g : FVec Ideal S1x2048 .f32) (w : FVec Ideal S2048x4096 .bf16) (wa : FVec Ideal S1024x2048 .bf16)
    (ws : FVec Ideal S512x2048 .bf16) : FVec Ideal S256x2048 .bf16 := fun i =>
  Ideal.div 1 (1 + Ideal.exp (0 - ∑ k : Fin 2048, hb x g (i 0) k * w (ix2 k ⟨(i 1).val, by have := idx_lt1 i; omega⟩)))
      * (∑ k : Fin 1024, o (ix2 (i 0) k) * wa (ix2 k (i 1)))
    + Ideal.div 1 (1 + Ideal.exp (0 - ∑ k : Fin 2048, hb x g (i 0) k * w (ix2 k ⟨2048 + (i 1).val, by have := idx_lt1 i; omega⟩)))
      * (∑ k : Fin 512, z (ix2 (i 0) k) * ws (ix2 k (i 1)))
theorem pay4_at (b2 : FVec Ideal S256x2048 .f32) (b3 : FVec Ideal S1x2048 .f32) (r : Fin 256) (k : Fin 2048) :
    k0_pay4 (F := Ideal) b2 b3 (ix2 r k) = hb b2 b3 r k := by
  pointwise [k0_pay4, k0_pay3, hb]
def gate (h : Fin 2048 → EReal) (w : Fin 2048 → EReal) (d : EReal) : EReal :=
  Ideal.div 1 (1 + Ideal.exp (0 - ∑ k : Fin 2048, h k * w k)) * d
theorem t1_at (b0 : FVec Ideal S256x1024 .bf16) (b1 : FVec Ideal S256x512 .bf16) (b2 : FVec Ideal S256x2048 .f32) (b3 : FVec Ideal S1x2048 .f32)
    (u v : FVec Ideal S2048x512 .bf16) (wa : FVec Ideal S1024x512 .bf16) (ws : FVec Ideal S512x512 .bf16) (r : Fin 256) (l : Fin 512) :
    k0_pay1 (F := Ideal) (k0_pay22 (k0_pay6 b1) ws) (k0_pay23 (k0_pay4 b2 b3) (k0_pay5 b0) u wa) (k0_pay24 (k0_pay4 b2 b3) v) (ix2 r l)
    = gate (hb b2 b3 r) (fun k => u (ix2 k l)) (∑ k : Fin 1024, b0 (ix2 r k) * wa (ix2 k l))
      + gate (hb b2 b3 r) (fun k => v (ix2 k l)) (∑ k : Fin 512, b1 (ix2 r k) * ws (ix2 k l)) := by
  pointwise [k0_pay1, k0_pay22, k0_pay23, k0_pay24, k0_pay5, k0_pay6, pay4_at, gate]
theorem t2_at (b0 : FVec Ideal S256x1024 .bf16) (b1 : FVec Ideal S256x512 .bf16) (b2 : FVec Ideal S256x2048 .f32) (b3 : FVec Ideal S1x2048 .f32)
    (u v : FVec Ideal S2048x512 .bf16) (wa : FVec Ideal S1024x512 .bf16) (ws : FVec Ideal S512x512 .bf16) (r : Fin 256) (l : Fin 512) :
    k0_pay21 (F := Ideal) (k0_pay18 (k0_pay6 b1) ws) (k0_pay19 (k0_pay4 b2 b3) (k0_pay5 b0) u wa) (k0_pay20 (k0_pay4 b2 b3) v) (ix2 r l)
    = gate (hb b2 b3 r) (fun k => u (ix2 k l)) (∑ k : Fin 1024, b0 (ix2 r k) * wa (ix2 k l))
      + gate (hb b2 b3 r) (fun k => v (ix2 k l)) (∑ k : Fin 512, b1 (ix2 r k) * ws (ix2 k l)) := by
  pointwise [k0_pay21, k0_pay18, k0_pay19, k0_pay20, k0_pay5, k0_pay6, pay4_at, gate]
theorem t3_at (b0 : FVec Ideal S256x1024 .bf16) (b1 : FVec Ideal S256x512 .bf16) (b2 : FVec Ideal S256x2048 .f32) (b3 : FVec Ideal S1x2048 .f32)
    (u v : FVec Ideal S2048x512 .bf16) (wa : FVec Ideal S1024x512 .bf16) (ws : FVec Ideal S512x512 .bf16) (r : Fin 256) (l : Fin 512) :
    k0_pay17 (F := Ideal) (k0_pay12 (k0_pay4 b2 b3) v) (k0_pay13 (k0_pay5 b0) wa) (k0_pay14 (k0_pay6 b1) ws) (k0_pay15 (k0_pay4 b2 b3) u) k0_pay16 (ix2 r l)
    = gate (hb b2 b3 r) (fun k => u (ix2 k l)) (∑ k : Fin 1024, b0 (ix2 r k) * wa (ix2 k l))
      + gate (hb b2 b3 r) (fun k => v (ix2 k l)) (∑ k : Fin 512, b1 (ix2 r k) * ws (ix2 k l)) := by
  pointwise [k0_pay17, k0_pay12, k0_pay13, k0_pay14, k0_pay15, k0_pay16, k0_pay5, k0_pay6, pay4_at, gate]
theorem t4_at (b0 : FVec Ideal S256x1024 .bf16) (b1 : FVec Ideal S256x512 .bf16) (b2 : FVec Ideal S256x2048 .f32) (b3 : FVec Ideal S1x2048 .f32)
    (u v : FVec Ideal S2048x512 .bf16) (wa : FVec Ideal S1024x512 .bf16) (ws : FVec Ideal S512x512 .bf16) (r : Fin 256) (l : Fin 512) :
    k0_pay11 (F := Ideal) (k0_pay7 b2 b3 v) (k0_pay8 b0 wa) (k0_pay9 b1 ws) (k0_pay10 b2 b3 u) (ix2 r l)
    = gate (hb b2 b3 r) (fun k => u (ix2 k l)) (∑ k : Fin 1024, b0 (ix2 r k) * wa (ix2 k l))
      + gate (hb b2 b3 r) (fun k => v (ix2 k l)) (∑ k : Fin 512, b1 (ix2 r k) * ws (ix2 k l)) := by
  pointwise [k0_pay11, k0_pay7, k0_pay8, k0_pay9, k0_pay10, k0_pay5, k0_pay6, pay4_at, gate]
theorem pay2_congr (x : FVec Ideal S256x2048 .f32) (w : Vec Ideal S2048x2048 .bf16) {s s' : Vec Ideal S256x2048 .bf16} (h : s = s') (y : S256x2048.Idx) :
    k0_pay2 (F := Ideal) x s w y = k0_pay2 x s' w y := by rw [h]
theorem readCov_whole (v : View sig .tc .vmem S256x2048 .bf16) (L : List (View.Piece (Elt Ideal) S256x2048 .bf16)) :
    v.readCov L (Rect.unit ![0, 0] ![256, 2048] inb_S256x2048_S256x2048_0_0).toLoadRect = View.canon L := by
  rw [View.readCov_eq_canon']
  exact View.ld_unit_zero (by funext a; fin_cases a <;> rfl) _ _
theorem flush (c : Dev nD) (t : Fin cfg0.N) (y : S256x2048.Idx) : outsAt0 m c t y =
    k0_pay2 (k0_pay3 (iblk m c 2 t)) (mg (iblk m c 0 t) (iblk m c 1 t) (iblk m c 2 t) (iblk m c 3 t) (iblk m c 4 t) (iblk m c 5 t) (iblk m c 6 t)) (iblk m c 7 t) y := by
  unfold outsAt0; frame_out
  refine pay2_congr _ _ ?_ y
  refine (readCov_whole _ _).trans ?_
  funext i
  canon_tiles x h
  · refine (t1_at _ _ _ _ _ _ _ _ (x 0) (x 1)).trans ?_
    have e0 : i 0 = x 0 := Fin.ext h0
    pointwise [mg, gate]
    rw [e0]
    blk_point []
  · refine (t2_at _ _ _ _ _ _ _ _ (x 0) (x 1)).trans ?_
    have e0 : i 0 = x 0 := Fin.ext h0
    pointwise [mg, gate]
    rw [e0]
    blk_point []
  · refine (t3_at _ _ _ _ _ _ _ _ (x 0) (x 1)).trans ?_
    have e0 : i 0 = x 0 := Fin.ext h0
    pointwise [mg, gate]
    rw [e0]
    blk_point []
  · refine (t4_at _ _ _ _ _ _ _ _ (x 0) (x 1)).trans ?_
    have e0 : i 0 = x 0 := Fin.ext h0
    pointwise [mg, gate]
    rw [e0]
    blk_point []
theorem neg_eq (x : EReal) : 0 - x = -x := by rw [sub_eq_add_neg, zero_add]
theorem idx : ∀ t : Fin cfg0.N, win0_0.index t = ![t.val, 0] ∧ win0_1.index t = ![t.val % 8, t.val / 8] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)
theorem lt_N (t : Fin cfg0.N) : t.val < 128 := lt_of_lt_of_eq t.isLt N_0
theorem rd0 (c : Dev nD) (t : Fin cfg0.N) (r : Fin 256) (k : Fin 1024) :
    iblk m c 0 t (ix2 r k) = m ((c : Thread nD τ).loc main_arg0) (ix3 (⟨(t.val * 256 + r.val) / 2048, by have := lt_N t; omega⟩ : Fin 16) (⟨(t.val * 256 + r.val) % 2048, by omega⟩ : Fin 2048) k) := by
  have ht := lt_N t
  have e : ((cfg0.win 0).blk t).view.emb (ix2 r k) = ix2 (⟨t.val * 256 + r.val, by omega⟩ : Fin 32768) k := by blk_ext [idx t]
  blk_simp [iblk]
  entry_read
  erw [e]
  pointwise
theorem rd2 (c : Dev nD) (t : Fin cfg0.N) (r : Fin 256) (k : Fin 2048) :
    iblk m c 2 t (ix2 r k) = m ((c : Thread nD τ).loc main_arg2) (ix3 (⟨(t.val * 256 + r.val) / 2048, by have := lt_N t; omega⟩ : Fin 16) (⟨(t.val * 256 + r.val) % 2048, by omega⟩ : Fin 2048) k) := by
  have ht := lt_N t
  have e : ((cfg0.win 2).blk t).view.emb (ix2 r k) = ix2 (⟨t.val * 256 + r.val, by omega⟩ : Fin 32768) k := by blk_ext [idx t]
  blk_simp [iblk]
  entry_read
  erw [e]
  pointwise
theorem rd1 (c : Dev nD) (t : Fin cfg0.N) (r : Fin 256) (k : Fin 512) :
    iblk m c 1 t (ix2 r k) = m ((c : Thread nD τ).loc main_arg1) (ix3 (⟨(t.val * 256 + r.val) / 2048, by have := lt_N t; omega⟩ : Fin 16) (⟨(t.val * 256 + r.val) % 2048, by omega⟩ : Fin 2048) k) := by
  have ht := lt_N t
  have e : ((cfg0.win 1).blk t).view.emb (ix2 r k) = ix2 (⟨t.val % 8 * 256 + r.val, by omega⟩ : Fin 2048) (⟨t.val / 8 * 512 + k.val, by omega⟩ : Fin 8192) := by blk_ext [idx t]
  blk_simp [iblk]
  entry_read
  erw [e]
  pointwise
  blk_ext []
theorem rd3 (c : Dev nD) (t : Fin cfg0.N) (k : Fin 2048) :
    iblk m c 3 t (ix2 (0 : Fin 1) k) = m ((c : Thread nD τ).loc main_arg3) (ix1 k) := by
  have ht := lt_N t
  have e : ((cfg0.win 3).blk t).view.emb (ix2 (0 : Fin 1) k) = ix2 (0 : Fin 1) k := by blk_ext [idx t]
  blk_simp [iblk]
  entry_read
  erw [e]
  pointwise
theorem rd4 (c : Dev nD) (t : Fin cfg0.N) (k : Fin 2048) (l : Fin 4096) :
    iblk m c 4 t (ix2 k l) = m ((c : Thread nD τ).loc main_arg4) (ix2 k (⟨3152 + l.val, by omega⟩ : Fin 7248)) := by
  have ht := lt_N t
  have e : ((cfg0.win 4).blk t).view.emb (ix2 k l) = ix2 k l := by blk_ext [idx t]
  blk_simp [iblk]
  entry_read
  erw [e]
  pointwise
theorem rd5 (c : Dev nD) (t : Fin cfg0.N) (k : Fin 1024) (l : Fin 2048) :
    iblk m c 5 t (ix2 k l) = m ((c : Thread nD τ).loc main_arg5) (ix2 k l) := by
  have ht := lt_N t
  have e : ((cfg0.win 5).blk t).view.emb (ix2 k l) = ix2 k l := by blk_ext [idx t]
  blk_simp [iblk]
  entry_read
  erw [e]
  pointwise
theorem rd6 (c : Dev nD) (t : Fin cfg0.N) (k : Fin 512) (l : Fin 2048) :
    iblk m c 6 t (ix2 k l) = m ((c : Thread nD τ).loc main_arg6) (ix2 k l) := by
  have ht := lt_N t
  have e : ((cfg0.win 6).blk t).view.emb (ix2 k l) = ix2 k l := by blk_ext [idx t]
  blk_simp [iblk]
  entry_read
  erw [e]
  pointwise
theorem rd7 (c : Dev nD) (t : Fin cfg0.N) (k : Fin 2048) (l : Fin 2048) :
    iblk m c 7 t (ix2 k l) = m ((c : Thread nD τ).loc main_arg7) (ix2 k l) := by
  have ht := lt_N t
  have e : ((cfg0.win 7).blk t).view.emb (ix2 k l) = ix2 k l := by blk_ext [idx t]
  blk_simp [iblk]
  entry_read
  erw [e]
  pointwise
set_option maxHeartbeats 1600000 in
theorem point (c : Dev nD) (t : Fin cfg0.N) (y) :
    k0_pay2 (k0_pay3 (iblk m c 2 t)) (mg (iblk m c 0 t) (iblk m c 1 t) (iblk m c 2 t) (iblk m c 3 t) (iblk m c 4 t) (iblk m c 5 t) (iblk m c 6 t)) (iblk m c 7 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb y) := by
  pointwise [k0_pay2, k0_pay3, mg, hb, REF]
  simp only [neg_eq]
  reads_congr
  · have hy : y = ix2 (y 0) (y 1) := by blk_ext []
    refine ((congrArg (iblk m c 2 t) hy).trans (rd2 m c t (y 0) (y 1))).trans ?_
    blk_ext [idx t]
  · refine (rd2 m c t (y 0) x).trans ?_
    blk_ext [idx t]
  · refine (rd2 m c t (y 0) x).trans ?_
    blk_ext [idx t]
  · exact rd3 m c t x
  · refine (rd4 m c t x _).trans ?_
    blk_ext [idx t]
  · refine (rd0 m c t (y 0) x).trans ?_
    blk_ext [idx t]
  · exact rd5 m c t x _
  · refine (rd2 m c t (y 0) x).trans ?_
    blk_ext [idx t]
  · refine (rd2 m c t (y 0) x).trans ?_
    blk_ext [idx t]
  · refine (rd4 m c t x _).trans ?_
    blk_ext [idx t]
  · refine (rd1 m c t (y 0) x).trans ?_
    blk_ext [idx t]
  · exact rd6 m c t x _
  · refine (rd7 m c t x (y 1)).trans ?_
    blk_ext [idx t]
theorem final (c : Dev nD) : (dats m 0 c).arrAt 8 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8, flush]
  exact point m c t y
end Cert.Kernel3Ideal.Merge
theorem Cert.frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem Cert.algebraic3 : Cert.algebraic_Kernel3Ideal_Reference3Ideal := by
  pair_intro
  · run_from Cert.Kernel3Ideal.Gen.run_main m g
  · run_from Cert.Reference3Ideal.Value.run m' g'
    exact (Cert.Kernel3Ideal.Merge.final m c).symm
end
-- ==== Proof.ConvPoints.lean ====
module
public import proofs.«01_k».proof.Proof.Gen.Kernel4Ideal.Frame
public import proofs.«01_k».proof.Proof.Gen.Kernel4Ideal.Skeleton
public import Idealize.ShloMosaic.Lib.Exec
public import Idealize.ShloMosaic.Lib.Pipeline.ValueKit
public import Idealize.ShloMosaic.Lib.Pipeline.ReadBack
@[expose] public section
set_option maxRecDepth 16384
noncomputable section
namespace Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 11 = 0 :=
  (fun t => by
    have ht : t.val < 704 := Nat.lt_of_lt_of_eq t.isLt N_0
    have e0 : (grid0.coords t 0).val = t.val / 11 % 64 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)
abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32)) 0#32) = 1#1
theorem hcond0_1 : ∀ t : Fin cfg0.N, cond0_1 (grid0.coords t) ↔ (t.val % 44 = 0 ∨ t.val % 44 = 1 ∨ t.val % 44 = 2 ∨ t.val % 44 = 3 ∨ t.val % 44 = 4 ∨ t.val % 44 = 5 ∨ t.val % 44 = 6 ∨ t.val % 44 = 7 ∨ t.val % 44 = 8 ∨ t.val % 44 = 9 ∨ t.val % 44 = 10) :=
  (by decide +kernel : ∀ t : Fin grid0.N, cond0_1 (grid0.coords t) ↔ (t.val % 44 = 0 ∨ t.val % 44 = 1 ∨ t.val % 44 = 2 ∨ t.val % 44 = 3 ∨ t.val % 44 = 4 ∨ t.val % 44 = 5 ∨ t.val % 44 = 6 ∨ t.val % 44 = 7 ∨ t.val % 44 = 8 ∨ t.val % 44 = 9 ∨ t.val % 44 = 10))
abbrev cond0_2 (i : grid0.Coords) : Prop := (Scalar.cmpi .ne (Scalar.extui (Scalar.xori (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32) 1#1)) 0#32) = 1#1
theorem hcond0_2 : ∀ t : Fin cfg0.N, cond0_2 (grid0.coords t) ↔ ¬(t.val % 44 = 0 ∨ t.val % 44 = 1 ∨ t.val % 44 = 2 ∨ t.val % 44 = 3 ∨ t.val % 44 = 4 ∨ t.val % 44 = 5 ∨ t.val % 44 = 6 ∨ t.val % 44 = 7 ∨ t.val % 44 = 8 ∨ t.val % 44 = 9 ∨ t.val % 44 = 10) :=
  (by decide +kernel : ∀ t : Fin grid0.N, cond0_2 (grid0.coords t) ↔ ¬(t.val % 44 = 0 ∨ t.val % 44 = 1 ∨ t.val % 44 = 2 ∨ t.val % 44 = 3 ∨ t.val % 44 = 4 ∨ t.val % 44 = 5 ∨ t.val % 44 = 6 ∨ t.val % 44 = 7 ∨ t.val % 44 = 8 ∨ t.val % 44 = 9 ∨ t.val % 44 = 10))
abbrev cond0_3 (i : grid0.Coords) : Prop := k0_cond4 i = 1#1
theorem hcond0_3 : ∀ t : Fin cfg0.N, cond0_3 (grid0.coords t) ↔ t.val % 11 = 10 :=
  (fun t => by
    have ht : t.val < 704 := Nat.lt_of_lt_of_eq t.isLt N_0
    have e0 : (grid0.coords t 0).val = t.val / 11 % 64 := Pipeline.Grid.coords_val t 0 (by decide) rfl
    have e1 : (grid0.coords t 1).val = t.val / 1 % 11 := Pipeline.Grid.coords_val t 1 (by decide) rfl
    simp only [cond0_3, k0_cond4, e0, e1]
    word_cmp
   : ∀ t : Fin grid0.N, cond0_3 (grid0.coords t) ↔ t.val % 11 = 10)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_8 : ∀ t : Fin cfg0.N, cfg0.idle 8 (grid0.coords t) = false := fun _ => rfl
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
abbrev conds0_C (i : grid0.Coords) : Prop := ¬cond0_0 i ∧ cond0_1 i ∧ ¬cond0_2 i ∧ cond0_3 i
instance conds0_C.dec (i : grid0.Coords) : Decidable (conds0_C i) :=
  @instDecidableAnd _ _ inferInstance (@instDecidableAnd _ _ inferInstance (@instDecidableAnd _ _ inferInstance inferInstance))
abbrev conds0_D (i : grid0.Coords) : Prop := cond0_0 i ∧ ¬cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))
abbrev conds0_E (i : grid0.Coords) : Prop := ¬cond0_0 i ∧ ¬cond0_1 i ∧ cond0_2 i ∧ ¬cond0_3 i
instance conds0_E.dec (i : grid0.Coords) : Decidable (conds0_E i) :=
  @instDecidableAnd _ _ inferInstance (@instDecidableAnd _ _ inferInstance (@instDecidableAnd _ _ inferInstance inferInstance))
abbrev conds0_F (i : grid0.Coords) : Prop := ¬cond0_0 i ∧ ¬cond0_1 i ∧ cond0_2 i ∧ cond0_3 i
instance conds0_F.dec (i : grid0.Coords) : Decidable (conds0_F i) :=
  @instDecidableAnd _ _ inferInstance (@instDecidableAnd _ _ inferInstance (@instDecidableAnd _ _ inferInstance inferInstance))
theorem idleAt0_7_A : ∀ t : Fin cfg0.N, cond0_0 (grid0.coords t) → cond0_1 (grid0.coords t) → ¬cond0_2 (grid0.coords t) → ¬cond0_3 (grid0.coords t) → cfg0.idle 7 (grid0.coords t) = true :=
  fun t h0 h1 h2 h3 => (by decide +kernel : ∀ t : Fin cfg0.N, conds0_A (grid0.coords t) → cfg0.idle 7 (grid0.coords t) = true) t ⟨h0, h1, h2, h3⟩
theorem noFlush0_7_A : ∀ t : Fin cfg0.N, cond0_0 (grid0.coords t) → cond0_1 (grid0.coords t) → ¬cond0_2 (grid0.coords t) → ¬cond0_3 (grid0.coords t) → (cfg0.win 7).flush t = false :=
  fun t h0 h1 h2 h3 => (by decide +kernel : ∀ t : Fin cfg0.N, conds0_A (grid0.coords t) → (cfg0.win 7).flush t = false) t ⟨h0, h1, h2, h3⟩
theorem idleAt0_7_B : ∀ t : Fin cfg0.N, ¬cond0_0 (grid0.coords t) → cond0_1 (grid0.coords t) → ¬cond0_2 (grid0.coords t) → ¬cond0_3 (grid0.coords t) → cfg0.idle 7 (grid0.coords t) = true :=
  fun t h0 h1 h2 h3 => (by decide +kernel : ∀ t : Fin cfg0.N, conds0_B (grid0.coords t) → cfg0.idle 7 (grid0.coords t) = true) t ⟨h0, h1, h2, h3⟩
theorem noFlush0_7_B : ∀ t : Fin cfg0.N, ¬cond0_0 (grid0.coords t) → cond0_1 (grid0.coords t) → ¬cond0_2 (grid0.coords t) → ¬cond0_3 (grid0.coords t) → (cfg0.win 7).flush t = false :=
  fun t h0 h1 h2 h3 => (by decide +kernel : ∀ t : Fin cfg0.N, conds0_B (grid0.coords t) → (cfg0.win 7).flush t = false) t ⟨h0, h1, h2, h3⟩
theorem liveAt0_7_C : ∀ t : Fin cfg0.N, ¬cond0_0 (grid0.coords t) → cond0_1 (grid0.coords t) → ¬cond0_2 (grid0.coords t) → cond0_3 (grid0.coords t) → cfg0.idle 7 (grid0.coords t) = false :=
  fun t h0 h1 h2 h3 => (by decide +kernel : ∀ t : Fin cfg0.N, conds0_C (grid0.coords t) → cfg0.idle 7 (grid0.coords t) = false) t ⟨h0, h1, h2, h3⟩
theorem idleAt0_7_D : ∀ t : Fin cfg0.N, cond0_0 (grid0.coords t) → ¬cond0_1 (grid0.coords t) → cond0_2 (grid0.coords t) → ¬cond0_3 (grid0.coords t) → cfg0.idle 7 (grid0.coords t) = true :=
  fun t h0 h1 h2 h3 => (by decide +kernel : ∀ t : Fin cfg0.N, conds0_D (grid0.coords t) → cfg0.idle 7 (grid0.coords t) = true) t ⟨h0, h1, h2, h3⟩
theorem noFlush0_7_D : ∀ t : Fin cfg0.N, cond0_0 (grid0.coords t) → ¬cond0_1 (grid0.coords t) → cond0_2 (grid0.coords t) → ¬cond0_3 (grid0.coords t) → (cfg0.win 7).flush t = false :=
  fun t h0 h1 h2 h3 => (by decide +kernel : ∀ t : Fin cfg0.N, conds0_D (grid0.coords t) → (cfg0.win 7).flush t = false) t ⟨h0, h1, h2, h3⟩
theorem idleAt0_7_E : ∀ t : Fin cfg0.N, ¬cond0_0 (grid0.coords t) → ¬cond0_1 (grid0.coords t) → cond0_2 (grid0.coords t) → ¬cond0_3 (grid0.coords t) → cfg0.idle 7 (grid0.coords t) = true :=
  fun t h0 h1 h2 h3 => (by decide +kernel : ∀ t : Fin cfg0.N, conds0_E (grid0.coords t) → cfg0.idle 7 (grid0.coords t) = true) t ⟨h0, h1, h2, h3⟩
theorem noFlush0_7_E : ∀ t : Fin cfg0.N, ¬cond0_0 (grid0.coords t) → ¬cond0_1 (grid0.coords t) → cond0_2 (grid0.coords t) → ¬cond0_3 (grid0.coords t) → (cfg0.win 7).flush t = false :=
  fun t h0 h1 h2 h3 => (by decide +kernel : ∀ t : Fin cfg0.N, conds0_E (grid0.coords t) → (cfg0.win 7).flush t = false) t ⟨h0, h1, h2, h3⟩
theorem liveAt0_7_F : ∀ t : Fin cfg0.N, ¬cond0_0 (grid0.coords t) → ¬cond0_1 (grid0.coords t) → cond0_2 (grid0.coords t) → cond0_3 (grid0.coords t) → cfg0.idle 7 (grid0.coords t) = false :=
  fun t h0 h1 h2 h3 => (by decide +kernel : ∀ t : Fin cfg0.N, conds0_F (grid0.coords t) → cfg0.idle 7 (grid0.coords t) = false) t ⟨h0, h1, h2, h3⟩
abbrev VO0_7 : View sig .tc .vmem S512x2048 .f32 := (Memref.whole cc0_stg7_0 : Memref sig .tc .vmem S512x2048 .f32).view
abbrev VO0_8 : View sig .tc .vmem S1x2x1024 .f32 := (Memref.whole cc0_stg8_0 : Memref sig .tc .vmem S1x2x1024 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x1024 .f32 := win0_8.stage (cfg0.slots t 8)
abbrev hs0_8 (t : Fin cfg0.N) : (ms0_8 t).IsWhole := hstage0_8 ((cfg0.slots t 8).cast nbuf0_8)
abbrev scM0_0 : Memref sig .tc .vmem S512x2048 .bf16 := Memref.whole cc0_scratch0
abbrev scM0_1 : Memref sig .tc .vmem S512x2048 .f32 := Memref.whole cc0_scratch1
abbrev scM0_2 : Memref sig .tc .vmem S2x1024 .f32 := Memref.whole cc0_scratch2
abbrev scM0_3 : Memref sig .tc .vmem S11x2x1024 .f32 := Memref.whole cc0_scratch3
abbrev VS0_0 : View sig .tc .vmem S512x2048 .bf16 := scM0_0.view
abbrev VS0_1 : View sig .tc .vmem S512x2048 .f32 := scM0_1.view
abbrev VS0_3 : View sig .tc .vmem S11x2x1024 .f32 := scM0_3.view
theorem PhiA0_eq (c : Dev nD) :
    (Pipeline.ΦA spec0 c : sProp 𝕄)
      = iprop(iprop((∃ d, owns c scM0_0 fullShare d) ∗ (∃ d, owns c scM0_1 fullShare d) ∗ (∃ d, owns c scM0_2 fullShare d) ∗ (∃ d, owns c scM0_3 fullShare d)) ∗ (∃ r, prngReg c r)) := by
  unfold Pipeline.ΦA; rw [scopedRest0_eq]; simp only [scM0_0, scM0_1, scM0_2, scM0_3, owns_whole]; try rfl
end Cert.Kernel4Ideal.Gen
end
-- ==== Proof.ConvStep.lean ====
module
public import proofs.«01_k».proof.Proof.ConvPoints
@[expose] public section
set_option maxRecDepth 16384
noncomputable section
namespace Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev upA (w : Vec F S2048x1024 .bf16) : Vec F S2048x256 .bf16 := View.ld w (Rect.unit (s := S2048x1024) ![0, 0] S2048x256.size inb_S2048x1024_S2048x256_0_0)
abbrev upB (w : Vec F S2048x1024 .bf16) : Vec F S2048x256 .bf16 := View.ld w (Rect.unit (s := S2048x1024) ![0, 512] S2048x256.size inb_S2048x1024_S2048x256_0_512)
abbrev upC (w : Vec F S2048x1024 .bf16) : Vec F S2048x256 .bf16 := View.ld w (Rect.unit (s := S2048x1024) ![0, 256] S2048x256.size inb_S2048x1024_S2048x256_0_256)
abbrev upD (w : Vec F S2048x1024 .bf16) : Vec F S2048x256 .bf16 := View.ld w (Rect.unit (s := S2048x1024) ![0, 768] S2048x256.size inb_S2048x1024_S2048x256_0_768)
abbrev hiA (w : Vec F S2x1024 .f32) : Vec F S2x256 .f32 := View.ld w (Rect.unit (s := S2x1024) ![0, 0] S2x256.size inb_S2x1024_S2x256_0_0)
abbrev hiB (w : Vec F S2x1024 .f32) : Vec F S2x256 .f32 := View.ld w (Rect.unit (s := S2x1024) ![0, 512] S2x256.size inb_S2x1024_S2x256_0_512)
abbrev hiC (w : Vec F S2x1024 .f32) : Vec F S2x256 .f32 := View.ld w (Rect.unit (s := S2x1024) ![0, 256] S2x256.size inb_S2x1024_S2x256_0_256)
abbrev hiD (w : Vec F S2x1024 .f32) : Vec F S2x256 .f32 := View.ld w (Rect.unit (s := S2x1024) ![0, 768] S2x256.size inb_S2x1024_S2x256_0_768)
abbrev cwA0 (w : Vec F S1x3x1024 .f32) : Vec F S1x1x256 .f32 := View.ld w (Rect.unit (s := S1x3x1024) ![0, 0, 0] S1x1x256.size inb_S1x3x1024_S1x1x256_0_0_0)
abbrev cwA1 (w : Vec F S1x3x1024 .f32) : Vec F S1x1x256 .f32 := View.ld w (Rect.unit (s := S1x3x1024) ![0, 1, 0] S1x1x256.size inb_S1x3x1024_S1x1x256_0_1_0)
abbrev cwA2 (w : Vec F S1x3x1024 .f32) : Vec F S1x1x256 .f32 := View.ld w (Rect.unit (s := S1x3x1024) ![0, 2, 0] S1x1x256.size inb_S1x3x1024_S1x1x256_0_2_0)
abbrev cbA (w : Vec F S1x1x1024 .f32) : Vec F S1x1x256 .f32 := View.ld w (Rect.unit (s := S1x1x1024) ![0, 0, 0] S1x1x256.size inb_S1x1x1024_S1x1x256_0_0_0)
abbrev cwB0 (w : Vec F S1x3x1024 .f32) : Vec F S1x1x256 .f32 := View.ld w (Rect.unit (s := S1x3x1024) ![0, 0, 512] S1x1x256.size inb_S1x3x1024_S1x1x256_0_0_512)
abbrev cwB1 (w : Vec F S1x3x1024 .f32) : Vec F S1x1x256 .f32 := View.ld w (Rect.unit (s := S1x3x1024) ![0, 1, 512] S1x1x256.size inb_S1x3x1024_S1x1x256_0_1_512)
abbrev cwB2 (w : Vec F S1x3x1024 .f32) : Vec F S1x1x256 .f32 := View.ld w (Rect.unit (s := S1x3x1024) ![0, 2, 512] S1x1x256.size inb_S1x3x1024_S1x1x256_0_2_512)
abbrev cbB (w : Vec F S1x1x1024 .f32) : Vec F S1x1x256 .f32 := View.ld w (Rect.unit (s := S1x1x1024) ![0, 0, 512] S1x1x256.size inb_S1x1x1024_S1x1x256_0_0_512)
abbrev cwC0 (w : Vec F S1x3x1024 .f32) : Vec F S1x1x256 .f32 := View.ld w (Rect.unit (s := S1x3x1024) ![0, 0, 256] S1x1x256.size inb_S1x3x1024_S1x1x256_0_0_256)
abbrev cwC1 (w : Vec F S1x3x1024 .f32) : Vec F S1x1x256 .f32 := View.ld w (Rect.unit (s := S1x3x1024) ![0, 1, 256] S1x1x256.size inb_S1x3x1024_S1x1x256_0_1_256)
abbrev cwC2 (w : Vec F S1x3x1024 .f32) : Vec F S1x1x256 .f32 := View.ld w (Rect.unit (s := S1x3x1024) ![0, 2, 256] S1x1x256.size inb_S1x3x1024_S1x1x256_0_2_256)
abbrev cbC (w : Vec F S1x1x1024 .f32) : Vec F S1x1x256 .f32 := View.ld w (Rect.unit (s := S1x1x1024) ![0, 0, 256] S1x1x256.size inb_S1x1x1024_S1x1x256_0_0_256)
abbrev cwD0 (w : Vec F S1x3x1024 .f32) : Vec F S1x1x256 .f32 := View.ld w (Rect.unit (s := S1x3x1024) ![0, 0, 768] S1x1x256.size inb_S1x3x1024_S1x1x256_0_0_768)
abbrev cwD1 (w : Vec F S1x3x1024 .f32) : Vec F S1x1x256 .f32 := View.ld w (Rect.unit (s := S1x3x1024) ![0, 1, 768] S1x1x256.size inb_S1x3x1024_S1x1x256_0_1_768)
abbrev cwD2 (w : Vec F S1x3x1024 .f32) : Vec F S1x1x256 .f32 := View.ld w (Rect.unit (s := S1x3x1024) ![0, 2, 768] S1x1x256.size inb_S1x3x1024_S1x1x256_0_2_768)
abbrev cbD (w : Vec F S1x1x1024 .f32) : Vec F S1x1x256 .f32 := View.ld w (Rect.unit (s := S1x1x1024) ![0, 0, 768] S1x1x256.size inb_S1x1x1024_S1x1x256_0_0_768)
abbrev dnA (w : Vec F S1x512x2048 .bf16) : Vec F S1x256x2048 .bf16 := View.ld w (Rect.unit (s := S1x512x2048) ![0, 0, 0] S1x256x2048.size inb_S1x512x2048_S1x256x2048_0_0_0)
abbrev dnB (w : Vec F S1x512x2048 .bf16) : Vec F S1x256x2048 .bf16 := View.ld w (Rect.unit (s := S1x512x2048) ![0, 256, 0] S1x256x2048.size inb_S1x512x2048_S1x256x2048_0_256_0)
def accStep (h : Vec F S512x2048 .bf16) (hs : Vec F S2x1024 .f32) (acc : Vec F S512x2048 .f32) (x3 : Vec F S2048x1024 .bf16) (x4 : Vec F S1x3x1024 .f32) (x5 : Vec F S1x1x1024 .f32) (x6 : Vec F S1x512x2048 .bf16) : Vec F S512x2048 .f32 :=
  k0_pay3 (k0_pay24 (k0_pay23 (k0_pay13 (k0_pay10 h (upA x3) (hiA hs)) (k0_pay11 h (upA x3) (hiA hs)) (k0_pay12 h (upA x3) (cwA2 x4)) (cwA1 x4) (cwA0 x4) (cbA x5))
      (k0_pay16 h (upB x3) (hiB hs)) (k0_pay17 h (upB x3) (hiB hs) (cwB2 x4) (cwB1 x4)) (cwB0 x4) (cbB x5)) (dnA x6))
    (k0_pay26 h (upC x3) (hiC hs) (cwC2 x4) (cwC1 x4) (cwC0 x4) (cbC x5)) (k0_pay29 h (upD x3) (hiD hs) (cwD2 x4) (cwD1 x4) (cwD0 x4) (cbD x5)) (dnB x6) acc
def tails (i : grid0.Coords) (h : Vec F S512x2048 .bf16) (x3 : Vec F S2048x1024 .bf16) : List (View.Piece (Elt F) S11x2x1024 .f32) :=
  [⟨Rect.unit (s := S11x2x1024) (k0_off5 i) S1x2x256.size (k0_off5_inb i), k0_pay1 (k0_pay30 h (upD x3))⟩,
   ⟨Rect.unit (s := S11x2x1024) (k0_off4 i) S1x2x256.size (k0_off4_inb i), k0_pay31 (k0_pay27 h (upC x3))⟩,
   ⟨Rect.unit (s := S11x2x1024) (k0_off3 i) S1x2x256.size (k0_off3_inb i), k0_pay21 (k0_pay15 h (upB x3))⟩,
   ⟨Rect.unit (s := S11x2x1024) (k0_off2 i) S1x2x256.size (k0_off2_inb i), k0_pay19 (k0_pay14 (k0_pay9 h (upA x3)))⟩]
def stPieces (h : Vec F S512x2048 .bf16) (x3 : Vec F S2048x1024 .bf16) : List (View.Piece (Elt F) S1x2x1024 .f32) :=
  [⟨Rect.unit (s := S1x2x1024) ![0, 0, 768] S1x2x256.size inb_S1x2x1024_S1x2x256_0_0_768, k0_pay2 (k0_pay30 h (upD x3))⟩,
   ⟨Rect.unit (s := S1x2x1024) ![0, 0, 256] S1x2x256.size inb_S1x2x1024_S1x2x256_0_0_256, k0_pay32 (k0_pay27 h (upC x3))⟩,
   ⟨Rect.unit (s := S1x2x1024) ![0, 0, 512] S1x2x256.size inb_S1x2x1024_S1x2x256_0_0_512, k0_pay22 (k0_pay15 h (upB x3))⟩,
   ⟨Rect.unit (s := S1x2x1024) ![0, 0, 0] S1x2x256.size inb_S1x2x1024_S1x2x256_0_0_0, k0_pay20 (k0_pay14 (k0_pay9 h (upA x3)))⟩]
theorem stPieces_cover (h : Vec F S512x2048 .bf16) (x3 : Vec F S2048x1024 .bf16) (y : S1x2x1024.Idx) : ∃ pc ∈ stPieces h x3, y ∈ pc.1.set :=
  View.cover_of_tiledL (stPieces h x3) S1x2x256.size (by sl_kernel_rfl) y
def stOut (h : Vec F S512x2048 .bf16) (x3 : Vec F S2048x1024 .bf16) : Vec F S1x2x1024 .f32 := View.canon (stPieces h x3)
def prevRows (i : grid0.Coords) (hc : cond0_2 i) (cr : Vec F S11x2x1024 .f32) : Vec F S2x1024 .f32 :=
  k0_pay8 (View.ld cr (Rect.unit (s := S11x2x1024) (k0_off1 i) S1x2x1024.size (k0_off1_inb i hc)))
end Cert.Kernel4Ideal.Gen
end
-- ==== Proof.ConvMath.lean ====
module
public import proofs.«01_k».proof.Proof.ConvStep
public import Idealize.ShloMosaic.Lib.Pipeline.ValueKit
@[expose] public section
set_option maxRecDepth 16384
noncomputable section
open Idealize.ShloMosaic Idealize.ShloMosaic.TcCoe Idealize.SL.Sem
namespace Cert.Kernel4Ideal.Conv
open Cert.Kernel4Ideal Cert.Kernel4Ideal.Gen
def mm (h : FVec Ideal S512x2048 .bf16) (u : Fin 2048 → EReal) (r : Fin 512) : EReal := ∑ k : Fin 2048, h (ix2 r k) * u k
def conv (h : FVec Ideal S512x2048 .bf16) (u : Fin 2048 → EReal) (s : Fin 2 → EReal) (w0 w1 w2 b : EReal) (r : Fin 512) : EReal :=
  w2 * mm h u r + w1 * (if hr : r.val < 1 then s ⟨1 + r.val, by omega⟩ else mm h u ⟨r.val - 1, by omega⟩)
    + w0 * (if hr : r.val < 2 then s ⟨r.val, by omega⟩ else mm h u ⟨r.val - 2, by omega⟩) + b
theorem conv_congr {h : FVec Ideal S512x2048 .bf16} {u u' : Fin 2048 → EReal} (hu : ∀ k, u k = u' k) {s s' : Fin 2 → EReal} (hs : ∀ a, s a = s' a)
    {w0 w0' w1 w1' w2 w2' b b' : EReal} (h0 : w0 = w0') (h1 : w1 = w1') (h2 : w2 = w2') (hb : b = b') (r : Fin 512) :
    conv h u s w0 w1 w2 b r = conv h u' s' w0' w1' w2' b' r := by
  rw [funext hu, funext hs, h0, h1, h2, hb]
def act (g v : EReal) : EReal :=
  Ideal.ofBits FTy.f32 0x3F000000#32 * g * (1 + Ideal.tanh (Ideal.ofBits FTy.f32 0x3F4C422A#32 * (g + Ideal.ofBits FTy.f32 0x3D372713#32 * (g * g * g)))) * v
def cv (h : FVec Ideal S512x2048 .bf16) (hs : FVec Ideal S2x1024 .f32) (x3 : FVec Ideal S2048x1024 .bf16) (x4 : FVec Ideal S1x3x1024 .f32)
    (x5 : FVec Ideal S1x1x1024 .f32) (r : Fin 512) (n : Fin 1024) : EReal :=
  conv h (fun k => x3 (ix2 k n)) (fun a => hs (ix2 a n)) (x4 (ix3 0 0 n)) (x4 (ix3 0 1 n)) (x4 (ix3 0 2 n)) (x5 (ix3 0 0 n)) r
theorem upA_at (w : FVec Ideal S2048x1024 .bf16) (k : Fin 2048) (j : Fin 256) : upA (F := Ideal) w (ix2 k j) = w (ix2 k ⟨0 + j.val, by omega⟩) := by
  exact View.ld_unit_apply_of _ _ _ _ _ _ (fun a => by fin_cases a <;> first | rfl | exact (Nat.zero_add _).symm)
theorem hiA_at (w : FVec Ideal S2x1024 .f32) (k : Fin 2) (j : Fin 256) : hiA (F := Ideal) w (ix2 k j) = w (ix2 k ⟨0 + j.val, by omega⟩) := by
  exact View.ld_unit_apply_of _ _ _ _ _ _ (fun a => by fin_cases a <;> first | rfl | exact (Nat.zero_add _).symm)
theorem cbA_at (w : FVec Ideal S1x1x1024 .f32) (j : Fin 256) : cbA (F := Ideal) w (ix3 0 0 j) = w (ix3 0 0 ⟨0 + j.val, by omega⟩) := by
  exact View.ld_unit_apply_of _ _ _ _ _ _ (fun a => by fin_cases a <;> first | rfl | exact (Nat.zero_add _).symm)
theorem cwA0_at (w : FVec Ideal S1x3x1024 .f32) (j : Fin 256) : cwA0 (F := Ideal) w (ix3 0 0 j) = w (ix3 0 0 ⟨0 + j.val, by omega⟩) := by
  exact View.ld_unit_apply_of _ _ _ _ _ _ (fun a => by fin_cases a <;> first | rfl | exact (Nat.zero_add _).symm)
theorem cwA1_at (w : FVec Ideal S1x3x1024 .f32) (j : Fin 256) : cwA1 (F := Ideal) w (ix3 0 0 j) = w (ix3 0 1 ⟨0 + j.val, by omega⟩) := by
  exact View.ld_unit_apply_of _ _ _ _ _ _ (fun a => by fin_cases a <;> first | rfl | exact (Nat.zero_add _).symm)
theorem cwA2_at (w : FVec Ideal S1x3x1024 .f32) (j : Fin 256) : cwA2 (F := Ideal) w (ix3 0 0 j) = w (ix3 0 2 ⟨0 + j.val, by omega⟩) := by
  exact View.ld_unit_apply_of _ _ _ _ _ _ (fun a => by fin_cases a <;> first | rfl | exact (Nat.zero_add _).symm)
theorem upB_at (w : FVec Ideal S2048x1024 .bf16) (k : Fin 2048) (j : Fin 256) : upB (F := Ideal) w (ix2 k j) = w (ix2 k ⟨512 + j.val, by omega⟩) := by
  exact View.ld_unit_apply_of _ _ _ _ _ _ (fun a => by fin_cases a <;> first | rfl | exact (Nat.zero_add _).symm)
theorem hiB_at (w : FVec Ideal S2x1024 .f32) (k : Fin 2) (j : Fin 256) : hiB (F := Ideal) w (ix2 k j) = w (ix2 k ⟨512 + j.val, by omega⟩) := by
  exact View.ld_unit_apply_of _ _ _ _ _ _ (fun a => by fin_cases a <;> first | rfl | exact (Nat.zero_add _).symm)
theorem cbB_at (w : FVec Ideal S1x1x1024 .f32) (j : Fin 256) : cbB (F := Ideal) w (ix3 0 0 j) = w (ix3 0 0 ⟨512 + j.val, by omega⟩) := by
  exact View.ld_unit_apply_of _ _ _ _ _ _ (fun a => by fin_cases a <;> first | rfl | exact (Nat.zero_add _).symm)
theorem cwB0_at (w : FVec Ideal S1x3x1024 .f32) (j : Fin 256) : cwB0 (F := Ideal) w (ix3 0 0 j) = w (ix3 0 0 ⟨512 + j.val, by omega⟩) := by
  exact View.ld_unit_apply_of _ _ _ _ _ _ (fun a => by fin_cases a <;> first | rfl | exact (Nat.zero_add _).symm)
theorem cwB1_at (w : FVec Ideal S1x3x1024 .f32) (j : Fin 256) : cwB1 (F := Ideal) w (ix3 0 0 j) = w (ix3 0 1 ⟨512 + j.val, by omega⟩) := by
  exact View.ld_unit_apply_of _ _ _ _ _ _ (fun a => by fin_cases a <;> first | rfl | exact (Nat.zero_add _).symm)
theorem cwB2_at (w : FVec Ideal S1x3x1024 .f32) (j : Fin 256) : cwB2 (F := Ideal) w (ix3 0 0 j) = w (ix3 0 2 ⟨512 + j.val, by omega⟩) := by
  exact View.ld_unit_apply_of _ _ _ _ _ _ (fun a => by fin_cases a <;> first | rfl | exact (Nat.zero_add _).symm)
theorem upC_at (w : FVec Ideal S2048x1024 .bf16) (k : Fin 2048) (j : Fin 256) : upC (F := Ideal) w (ix2 k j) = w (ix2 k ⟨256 + j.val, by omega⟩) := by
  exact View.ld_unit_apply_of _ _ _ _ _ _ (fun a => by fin_cases a <;> first | rfl | exact (Nat.zero_add _).symm)
theorem hiC_at (w : FVec Ideal S2x1024 .f32) (k : Fin 2) (j : Fin 256) : hiC (F := Ideal) w (ix2 k j) = w (ix2 k ⟨256 + j.val, by omega⟩) := by
  exact View.ld_unit_apply_of _ _ _ _ _ _ (fun a => by fin_cases a <;> first | rfl | exact (Nat.zero_add _).symm)
theorem cbC_at (w : FVec Ideal S1x1x1024 .f32) (j : Fin 256) : cbC (F := Ideal) w (ix3 0 0 j) = w (ix3 0 0 ⟨256 + j.val, by omega⟩) := by
  exact View.ld_unit_apply_of _ _ _ _ _ _ (fun a => by fin_cases a <;> first | rfl | exact (Nat.zero_add _).symm)
theorem cwC0_at (w : FVec Ideal S1x3x1024 .f32) (j : Fin 256) : cwC0 (F := Ideal) w (ix3 0 0 j) = w (ix3 0 0 ⟨256 + j.val, by omega⟩) := by
  exact View.ld_unit_apply_of _ _ _ _ _ _ (fun a => by fin_cases a <;> first | rfl | exact (Nat.zero_add _).symm)
theorem cwC1_at (w : FVec Ideal S1x3x1024 .f32) (j : Fin 256) : cwC1 (F := Ideal) w (ix3 0 0 j) = w (ix3 0 1 ⟨256 + j.val, by omega⟩) := by
  exact View.ld_unit_apply_of _ _ _ _ _ _ (fun a => by fin_cases a <;> first | rfl | exact (Nat.zero_add _).symm)
theorem cwC2_at (w : FVec Ideal S1x3x1024 .f32) (j : Fin 256) : cwC2 (F := Ideal) w (ix3 0 0 j) = w (ix3 0 2 ⟨256 + j.val, by omega⟩) := by
  exact View.ld_unit_apply_of _ _ _ _ _ _ (fun a => by fin_cases a <;> first | rfl | exact (Nat.zero_add _).symm)
theorem upD_at (w : FVec Ideal S2048x1024 .bf16) (k : Fin 2048) (j : Fin 256) : upD (F := Ideal) w (ix2 k j) = w (ix2 k ⟨768 + j.val, by omega⟩) := by
  exact View.ld_unit_apply_of _ _ _ _ _ _ (fun a => by fin_cases a <;> first | rfl | exact (Nat.zero_add _).symm)
theorem hiD_at (w : FVec Ideal S2x1024 .f32) (k : Fin 2) (j : Fin 256) : hiD (F := Ideal) w (ix2 k j) = w (ix2 k ⟨768 + j.val, by omega⟩) := by
  exact View.ld_unit_apply_of _ _ _ _ _ _ (fun a => by fin_cases a <;> first | rfl | exact (Nat.zero_add _).symm)
theorem cbD_at (w : FVec Ideal S1x1x1024 .f32) (j : Fin 256) : cbD (F := Ideal) w (ix3 0 0 j) = w (ix3 0 0 ⟨768 + j.val, by omega⟩) := by
  exact View.ld_unit_apply_of _ _ _ _ _ _ (fun a => by fin_cases a <;> first | rfl | exact (Nat.zero_add _).symm)
theorem cwD0_at (w : FVec Ideal S1x3x1024 .f32) (j : Fin 256) : cwD0 (F := Ideal) w (ix3 0 0 j) = w (ix3 0 0 ⟨768 + j.val, by omega⟩) := by
  exact View.ld_unit_apply_of _ _ _ _ _ _ (fun a => by fin_cases a <;> first | rfl | exact (Nat.zero_add _).symm)
theorem cwD1_at (w : FVec Ideal S1x3x1024 .f32) (j : Fin 256) : cwD1 (F := Ideal) w (ix3 0 0 j) = w (ix3 0 1 ⟨768 + j.val, by omega⟩) := by
  exact View.ld_unit_apply_of _ _ _ _ _ _ (fun a => by fin_cases a <;> first | rfl | exact (Nat.zero_add _).symm)
theorem cwD2_at (w : FVec Ideal S1x3x1024 .f32) (j : Fin 256) : cwD2 (F := Ideal) w (ix3 0 0 j) = w (ix3 0 2 ⟨768 + j.val, by omega⟩) := by
  exact View.ld_unit_apply_of _ _ _ _ _ _ (fun a => by fin_cases a <;> first | rfl | exact (Nat.zero_add _).symm)
theorem dnA_at (w : FVec Ideal S1x512x2048 .bf16) (j : Fin 256) (q : Fin 2048) : dnA (F := Ideal) w (ix3 0 j q) = w (ix3 0 ⟨0 + j.val, by omega⟩ q) := by
  exact View.ld_unit_apply_of _ _ _ _ _ _ (fun a => by fin_cases a <;> first | rfl | exact (Nat.zero_add _).symm)
theorem dnB_at (w : FVec Ideal S1x512x2048 .bf16) (j : Fin 256) (q : Fin 2048) : dnB (F := Ideal) w (ix3 0 j q) = w (ix3 0 ⟨256 + j.val, by omega⟩ q) := by
  exact View.ld_unit_apply_of _ _ _ _ _ _ (fun a => by fin_cases a <;> first | rfl | exact (Nat.zero_add _).symm)
theorem gateA_at (h : FVec Ideal S512x2048 .bf16) (u : FVec Ideal S2048x256 .bf16) (s : FVec Ideal S2x256 .f32) (w0 w1 w2 b : FVec Ideal S1x1x256 .f32) (r : Fin 512) (j : Fin 256) :
    k0_pay13 (F := Ideal) (k0_pay10 h u s) (k0_pay11 h u s) (k0_pay12 h u w2) w1 w0 b (ix2 r j) = conv h (fun k => u (ix2 k j)) (fun a => s (ix2 a j)) (w0 (ix3 0 0 j)) (w1 (ix3 0 0 j)) (w2 (ix3 0 0 j)) (b (ix3 0 0 j)) r := by
  pointwise [k0_pay13, k0_pay10, k0_pay11, k0_pay12, k0_pay9, conv, mm]
theorem gateC_at (h : FVec Ideal S512x2048 .bf16) (u : FVec Ideal S2048x256 .bf16) (s : FVec Ideal S2x256 .f32) (w0 w1 w2 b : FVec Ideal S1x1x256 .f32) (r : Fin 512) (j : Fin 256) :
    k0_pay26 (F := Ideal) h u s w2 w1 w0 b (ix2 r j) = conv h (fun k => u (ix2 k j)) (fun a => s (ix2 a j)) (w0 (ix3 0 0 j)) (w1 (ix3 0 0 j)) (w2 (ix3 0 0 j)) (b (ix3 0 0 j)) r := by
  pointwise [k0_pay26, k0_pay25, conv, mm]
theorem valD_at (h : FVec Ideal S512x2048 .bf16) (u : FVec Ideal S2048x256 .bf16) (s : FVec Ideal S2x256 .f32) (w0 w1 w2 b : FVec Ideal S1x1x256 .f32) (r : Fin 512) (j : Fin 256) :
    k0_pay29 (F := Ideal) h u s w2 w1 w0 b (ix2 r j) = conv h (fun k => u (ix2 k j)) (fun a => s (ix2 a j)) (w0 (ix3 0 0 j)) (w1 (ix3 0 0 j)) (w2 (ix3 0 0 j)) (b (ix3 0 0 j)) r := by
  pointwise [k0_pay29, k0_pay28, conv, mm]
theorem prod1_at (g : FVec Ideal S512x256 .f32) (h : FVec Ideal S512x2048 .bf16) (u : FVec Ideal S2048x256 .bf16) (s : FVec Ideal S2x256 .f32) (w0 w1 w2 b : FVec Ideal S1x1x256 .f32) (r : Fin 512) (j : Fin 256) :
    k0_pay23 (F := Ideal) g (k0_pay16 h u s) (k0_pay17 h u s w2 w1) w0 b (ix2 r j) = act (g (ix2 r j)) (conv h (fun k => u (ix2 k j)) (fun a => s (ix2 a j)) (w0 (ix3 0 0 j)) (w1 (ix3 0 0 j)) (w2 (ix3 0 0 j)) (b (ix3 0 0 j)) r) := by
  pointwise [k0_pay23, k0_pay16, k0_pay17, k0_pay15, act, conv, mm]
theorem part1_at (a : FVec Ideal S512x256 .bf16) (d : FVec Ideal S1x256x2048 .bf16) (r : Fin 512) (q : Fin 2048) :
    k0_pay24 (F := Ideal) a d (ix2 r q) = ∑ j : Fin 256, a (ix2 r j) * d (ix3 0 j q) := by
  pointwise [k0_pay24]
theorem sum_at (p : FVec Ideal S512x2048 .f32) (g v : FVec Ideal S512x256 .f32) (d : FVec Ideal S1x256x2048 .bf16) (acc : FVec Ideal S512x2048 .f32) (r : Fin 512) (q : Fin 2048) :
    k0_pay3 (F := Ideal) p g v d acc (ix2 r q) = acc (ix2 r q) + (p (ix2 r q) + ∑ j : Fin 256, act (g (ix2 r j)) (v (ix2 r j)) * d (ix3 0 j q)) := by
  pointwise [k0_pay3, act]
theorem accStep_at (h : FVec Ideal S512x2048 .bf16) (hs : FVec Ideal S2x1024 .f32) (acc : FVec Ideal S512x2048 .f32) (x3 : FVec Ideal S2048x1024 .bf16) (x4 : FVec Ideal S1x3x1024 .f32)
    (x5 : FVec Ideal S1x1x1024 .f32) (x6 : FVec Ideal S1x512x2048 .bf16) (r : Fin 512) (q : Fin 2048) :
    accStep (F := Ideal) h hs acc x3 x4 x5 x6 (ix2 r q) = acc (ix2 r q)
      + ((∑ j : Fin 256, act (cv h hs x3 x4 x5 r ⟨0 + j.val, by omega⟩) (cv h hs x3 x4 x5 r ⟨512 + j.val, by omega⟩) * x6 (ix3 0 ⟨0 + j.val, by omega⟩ q))
        + ∑ j : Fin 256, act (cv h hs x3 x4 x5 r ⟨256 + j.val, by omega⟩) (cv h hs x3 x4 x5 r ⟨768 + j.val, by omega⟩) * x6 (ix3 0 ⟨256 + j.val, by omega⟩ q)) := by
  unfold accStep
  rw [sum_at, part1_at]
  simp only [prod1_at, gateA_at, gateC_at, valD_at]
  refine congrArg₂ (· + ·) rfl (congrArg₂ (· + ·) (Finset.sum_congr rfl fun j _ => ?_) (Finset.sum_congr rfl fun j _ => ?_))
  · exact congrArg₂ (· * ·) (congrArg₂ act (conv_congr (fun k => upA_at x3 k j) (fun a => hiA_at hs a j) (cwA0_at x4 j) (cwA1_at x4 j) (cwA2_at x4 j) (cbA_at x5 j) r)
      (conv_congr (fun k => upB_at x3 k j) (fun a => hiB_at hs a j) (cwB0_at x4 j) (cwB1_at x4 j) (cwB2_at x4 j) (cbB_at x5 j) r)) (dnA_at x6 j q)
  · exact congrArg₂ (· * ·) (congrArg₂ act (conv_congr (fun k => upC_at x3 k j) (fun a => hiC_at hs a j) (cwC0_at x4 j) (cwC1_at x4 j) (cwC2_at x4 j) (cbC_at x5 j) r)
      (conv_congr (fun k => upD_at x3 k j) (fun a => hiD_at hs a j) (cwD0_at x4 j) (cwD1_at x4 j) (cwD2_at x4 j) (cbD_at x5 j) r)) (dnB_at x6 j q)
theorem pay5_at (x : FVec Ideal S512x2048 .f32) (g : FVec Ideal S1x2048 .f32) (r : Fin 512) (j : Fin 2048) :
    k0_pay5 (F := Ideal) x g (ix2 r j) = x (ix2 r j) * Ideal.rsqrt (Ideal.div (∑ k : Fin 2048, x (ix2 r k) * x (ix2 r k)) (Ideal.ofBits FTy.f32 1157627904#32)
      + Ideal.ofBits FTy.f32 897988541#32) * g (ix2 0 j) := by
  pointwise [k0_pay5]
theorem pay7_at (x : FVec Ideal S2x1024 .f32) (a : Fin 2) (n : Fin 1024) : k0_pay7 (F := Ideal) x (ix2 a n) = x (ix2 a n) := by
  pointwise [k0_pay7]
theorem pay8_at (x : FVec Ideal S1x2x1024 .f32) (a : Fin 2) (n : Fin 1024) : k0_pay8 (F := Ideal) x (ix2 a n) = x (ix3 0 a n) := by
  pointwise [k0_pay8]
theorem pay6_at (r : Fin 512) (q : Fin 2048) : k0_pay6 (F := Ideal) (ix2 r q) = 0 := by
  pointwise [k0_pay6]
theorem pay4_at (x a : FVec Ideal S512x2048 .f32) (r : Fin 512) (q : Fin 2048) : k0_pay4 (F := Ideal) x a (ix2 r q) = x (ix2 r q) + a (ix2 r q) := by
  pointwise [k0_pay4]
theorem tailA_at (h : FVec Ideal S512x2048 .bf16) (u : FVec Ideal S2048x256 .bf16) (a : Fin 2) (j : Fin 256) :
    k0_pay19 (F := Ideal) (k0_pay14 (k0_pay9 h u)) (ix3 0 a j) = mm h (fun k => u (ix2 k j)) ⟨510 + a.val, by omega⟩ := by
  pointwise [k0_pay19, k0_pay14, k0_pay9, mm]
theorem tailB_at (h : FVec Ideal S512x2048 .bf16) (u : FVec Ideal S2048x256 .bf16) (a : Fin 2) (j : Fin 256) :
    k0_pay21 (F := Ideal) (k0_pay15 h u) (ix3 0 a j) = mm h (fun k => u (ix2 k j)) ⟨510 + a.val, by omega⟩ := by
  pointwise [k0_pay21, k0_pay18, k0_pay15, mm]
theorem tailC_at (h : FVec Ideal S512x2048 .bf16) (u : FVec Ideal S2048x256 .bf16) (a : Fin 2) (j : Fin 256) :
    k0_pay31 (F := Ideal) (k0_pay27 h u) (ix3 0 a j) = mm h (fun k => u (ix2 k j)) ⟨510 + a.val, by omega⟩ := by
  pointwise [k0_pay31, k0_pay27, k0_pay25, mm]
theorem tailD_at (h : FVec Ideal S512x2048 .bf16) (u : FVec Ideal S2048x256 .bf16) (a : Fin 2) (j : Fin 256) :
    k0_pay1 (F := Ideal) (k0_pay30 h u) (ix3 0 a j) = mm h (fun k => u (ix2 k j)) ⟨510 + a.val, by omega⟩ := by
  pointwise [k0_pay1, k0_pay30, k0_pay28, mm]
end Cert.Kernel4Ideal.Conv
end
-- ==== Proof.ConvState.lean ====
module
public import proofs.«01_k».proof.Proof.ConvStep
@[expose] public section
set_option maxRecDepth 16384
noncomputable section
namespace Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
def carryStep (i : grid0.Coords) (h : Vec F S512x2048 .bf16) (x3 : Vec F S2048x1024 .bf16) (cr : Vec F S11x2x1024 .f32) : Vec F S11x2x1024 .f32 :=
  scM0_3.view.read (Elt F) (scM0_3.view.writes (Elt F) ((Memref.isWhole_whole _).unread cr) (tails i h x3))
def hAt (c : Dev nD) : (n : ℕ) → n < cfg0.N → Vec F S512x2048 .bf16
  | 0, h => k0_pay5 (iblk m c 0 ⟨0, h⟩) (iblk m c 1 ⟨0, h⟩)
  | n + 1, h => if (n + 1) % 11 = 0 then k0_pay5 (iblk m c 0 ⟨n + 1, h⟩) (iblk m c 1 ⟨n + 1, h⟩) else hAt c n (Nat.lt_of_succ_lt h)
def crAt (c : Dev nD) : (n : ℕ) → n ≤ cfg0.N → Vec F S11x2x1024 .f32
  | 0, _ => View.canon []
  | n + 1, h => carryStep (grid0.coords ⟨n, h⟩) (hAt m c n h) (iblk m c 3 ⟨n, h⟩) (crAt c n (Nat.le_of_lt h))
def histAt (c : Dev nD) (n : ℕ) (h : n < cfg0.N) : Vec F S2x1024 .f32 :=
  if hc : cond0_2 (grid0.coords ⟨n, h⟩) then prevRows (grid0.coords ⟨n, h⟩) hc (crAt m c n (Nat.le_of_lt h)) else k0_pay7 (iblk m c 2 ⟨n, h⟩)
def accAt (c : Dev nD) : (n : ℕ) → n < cfg0.N → Vec F S512x2048 .f32
  | 0, h => accStep (hAt m c 0 h) (histAt m c 0 h) k0_pay6 (iblk m c 3 ⟨0, h⟩) (iblk m c 4 ⟨0, h⟩) (iblk m c 5 ⟨0, h⟩) (iblk m c 6 ⟨0, h⟩)
  | n + 1, h => accStep (hAt m c (n + 1) h) (histAt m c (n + 1) h) (if (n + 1) % 11 = 0 then k0_pay6 else accAt c n (Nat.lt_of_succ_lt h))
      (iblk m c 3 ⟨n + 1, h⟩) (iblk m c 4 ⟨n + 1, h⟩) (iblk m c 5 ⟨n + 1, h⟩) (iblk m c 6 ⟨n + 1, h⟩)
theorem hAt_first (c : Dev nD) (t : Fin cfg0.N) (h0 : t.val % 11 = 0) : hAt m c t.val t.isLt = k0_pay5 (iblk m c 0 t) (iblk m c 1 t) := by
  obtain ⟨n, hn⟩ := t
  cases n with
  | zero => rfl
  | succ n => exact if_pos h0
theorem hAt_next (c : Dev nD) (t : Fin cfg0.N) (h0 : ¬t.val % 11 = 0) (hp : t.val - 1 < cfg0.N) : hAt m c t.val t.isLt = hAt m c (t.val - 1) hp := by
  obtain ⟨n, hn⟩ := t
  cases n with
  | zero => exact absurd (Nat.zero_mod _) h0
  | succ n => exact if_neg h0
theorem accAt_first (c : Dev nD) (t : Fin cfg0.N) (h0 : t.val % 11 = 0) : accAt m c t.val t.isLt
    = accStep (hAt m c t.val t.isLt) (histAt m c t.val t.isLt) k0_pay6 (iblk m c 3 t) (iblk m c 4 t) (iblk m c 5 t) (iblk m c 6 t) := by
  obtain ⟨n, hn⟩ := t
  cases n with
  | zero => rfl
  | succ n => unfold accAt; rw [if_pos h0]
theorem accAt_next (c : Dev nD) (t : Fin cfg0.N) (h0 : ¬t.val % 11 = 0) (hp : t.val - 1 < cfg0.N) : accAt m c t.val t.isLt
    = accStep (hAt m c t.val t.isLt) (histAt m c t.val t.isLt) (accAt m c (t.val - 1) hp) (iblk m c 3 t) (iblk m c 4 t) (iblk m c 5 t) (iblk m c 6 t) := by
  obtain ⟨n, hn⟩ := t
  cases n with
  | zero => exact absurd (Nat.zero_mod _) h0
  | succ n =>
    rw [accAt, if_neg h0]; rfl
theorem histAt_first (c : Dev nD) (t : Fin cfg0.N) (h2 : ¬cond0_2 (grid0.coords t)) : histAt m c t.val t.isLt = k0_pay7 (iblk m c 2 t) := dif_neg h2
theorem histAt_next (c : Dev nD) (t : Fin cfg0.N) (h2 : cond0_2 (grid0.coords t)) :
    histAt m c t.val t.isLt = prevRows (grid0.coords t) h2 (crAt m c t.val (Nat.le_of_lt t.isLt)) := dif_pos h2
theorem off2_at : ∀ t : Fin cfg0.N, k0_off2 (grid0.coords t) = ![t.val % 11, 0, 0] := by decide +kernel
theorem off3_at : ∀ t : Fin cfg0.N, k0_off3 (grid0.coords t) = ![t.val % 11, 0, 512] := by decide +kernel
theorem off4_at : ∀ t : Fin cfg0.N, k0_off4 (grid0.coords t) = ![t.val % 11, 0, 256] := by decide +kernel
theorem off5_at : ∀ t : Fin cfg0.N, k0_off5 (grid0.coords t) = ![t.val % 11, 0, 768] := by decide +kernel
theorem tails_cover (t : Fin cfg0.N) (h : Vec F S512x2048 .bf16) (x3 : Vec F S2048x1024 .bf16) (y : S11x2x1024.Idx) (hy : (y 0).val = t.val % 11) :
    ∃ p ∈ tails (grid0.coords t) h x3, y ∈ p.1.set := by
  have h1 : (y 1).val < 2 := (y 1).isLt
  have h2 : (y 2).val < 1024 := (y 2).isLt
  by_cases a : (y 2).val < 512
  · by_cases b : (y 2).val < 256
    · refine ⟨_, List.mem_cons_of_mem _ (List.mem_cons_of_mem _ (List.mem_cons_of_mem _ List.mem_cons_self)), (Rect.mem_set_unit (inb := k0_off2_inb (grid0.coords t))).mpr ?_⟩
      rw [off2_at]; intro a; fin_cases a
      · exact ⟨hy.ge, by show (y 0).val < t.val % 11 + 1; omega⟩
      · exact ⟨Nat.zero_le _, by show (y 1).val < 0 + 2; omega⟩
      · exact ⟨Nat.zero_le _, by show (y 2).val < 0 + 256; omega⟩
    · refine ⟨_, List.mem_cons_of_mem _ List.mem_cons_self, (Rect.mem_set_unit (inb := k0_off4_inb (grid0.coords t))).mpr ?_⟩
      rw [off4_at]; intro a; fin_cases a
      · exact ⟨hy.ge, by show (y 0).val < t.val % 11 + 1; omega⟩
      · exact ⟨Nat.zero_le _, by show (y 1).val < 0 + 2; omega⟩
      · exact ⟨by show 256 ≤ (y 2).val; omega, by show (y 2).val < 256 + 256; omega⟩
  · by_cases b : (y 2).val < 768
    · refine ⟨_, List.mem_cons_of_mem _ (List.mem_cons_of_mem _ List.mem_cons_self), (Rect.mem_set_unit (inb := k0_off3_inb (grid0.coords t))).mpr ?_⟩
      rw [off3_at]; intro a; fin_cases a
      · exact ⟨hy.ge, by show (y 0).val < t.val % 11 + 1; omega⟩
      · exact ⟨Nat.zero_le _, by show (y 1).val < 0 + 2; omega⟩
      · exact ⟨by show 512 ≤ (y 2).val; omega, by show (y 2).val < 512 + 256; omega⟩
    · refine ⟨_, List.mem_cons_self, (Rect.mem_set_unit (inb := k0_off5_inb (grid0.coords t))).mpr ?_⟩
      rw [off5_at]; intro a; fin_cases a
      · exact ⟨hy.ge, by show (y 0).val < t.val % 11 + 1; omega⟩
      · exact ⟨Nat.zero_le _, by show (y 1).val < 0 + 2; omega⟩
      · exact ⟨by show 768 ≤ (y 2).val; omega, by show (y 2).val < 768 + 256; omega⟩
def Agree (c : Dev nD) (n : ℕ) (hn : n ≤ cfg0.N) (d : Vec F S11x2x1024 .f32) : Prop := ∀ y : S11x2x1024.Idx, (y 0).val < n → d y = crAt m c n hn y
theorem agree_step (c : Dev nD) (t : Fin cfg0.N) (d : Vec F S11x2x1024 .f32) (hd : Agree m c t.val (Nat.le_of_lt t.isLt) d) :
    Agree m c (t.val + 1) t.isLt (carryStep (grid0.coords t) (hAt m c t.val t.isLt) (iblk m c 3 t) d) := by
  intro y hy
  show carryStep _ _ _ d y = carryStep _ _ _ _ y
  by_cases hc : ∃ p ∈ tails (grid0.coords t) (hAt m c t.val t.isLt) (iblk m c 3 t), y ∈ p.1.set
  · exact View.read_writes_apply_eq _ _ _ _ y _ hc
  · have hn : ∀ p ∈ tails (grid0.coords t) (hAt m c t.val t.isLt) (iblk m c 3 t), y ∉ p.1.set := fun p hp hm => hc ⟨p, hp, hm⟩
    have h0 : ¬(y 0).val = t.val % 11 := fun e => hc (tails_cover t _ _ y e)
    have h11 : (y 0).val < 11 := (y 0).isLt
    have hlt : (y 0).val < t.val := by omega
    unfold carryStep
    rw [View.read_writes_apply_of_forall_not_mem _ _ y _ hn, View.read_writes_apply_of_forall_not_mem _ _ y _ hn,
      Memref.IsWhole.read_unread, Memref.IsWhole.read_unread]
    exact hd y hlt
theorem agree_eq (c : Dev nD) (t : Fin cfg0.N) (d : Vec F S11x2x1024 .f32) (hd : Agree m c t.val (Nat.le_of_lt t.isLt) d) (h2 : cond0_2 (grid0.coords t)) :
    d = crAt m c t.val (Nat.le_of_lt t.isLt) := by
  funext y
  have := (hcond0_2 t).mp h2
  have h11 : (y 0).val < 11 := (y 0).isLt
  exact hd y (by omega)
end Cert.Kernel4Ideal.Gen
end
-- ==== Proof.ConvReads.lean ====
module
public import proofs.«01_k».proof.Proof.Gen.Kernel4Ideal.Frame
public import Idealize.ShloMosaic.Lib.Pipeline.ValueKit
public import Idealize.ShloMosaic.Lib.StableHlo.ReadAt
@[expose] public section
set_option maxRecDepth 16384
noncomputable section
open Idealize.ShloMosaic Idealize.ShloMosaic.TcCoe Idealize.SL.Sem
namespace Cert.Kernel4Ideal.Conv
open Cert.Kernel4Ideal Cert.Kernel4Ideal.Gen
variable (m : (ℓ : Loc nD τ sig) → Buf (Elt Ideal) ℓ)
theorem v28_at (c : Dev nD) (R : Fin 32768) (k : Fin 2048) : V m c main_v28 (ix2 R k) = m ((c : Thread nD τ).loc main_arg0) (ix3 (⟨R.val / 2048, by omega⟩ : Fin 16) (⟨R.val % 2048, by omega⟩ : Fin 2048) k) := by
  unfold V
  simp only [List.flatten_cons, List.flatten_nil, List.append_nil, List.cons_append, List.nil_append]
  after_reads_at
theorem v29_at (c : Dev nD) (k : Fin 2048) : V m c main_v29 (ix2 0 k) = m ((c : Thread nD τ).loc main_arg1) (ix1 k) := by
  unfold V
  simp only [List.flatten_cons, List.flatten_nil, List.append_nil, List.cons_append, List.nil_append]
  after_reads_at
theorem v30_at (c : Dev nD) (k : S2x11264.Idx) : V m c main_v30 k = (0 : EReal) := by
  unfold V
  simp only [List.flatten_cons, List.flatten_nil, List.append_nil, List.cons_append, List.nil_append]
  after_reads_at
theorem v8_at (c : Dev nD) (k : Fin 2048) (n : Fin 11264) : V m c main_v8 (ix2 k n) =
    if h : (n.val % 1024) < 512 then
      if h' : (n.val / 1024) * 512 + (n.val % 1024) < 5504 then m ((c : Thread nD τ).loc main_arg2) (ix2 k (⟨(n.val / 1024) * 512 + (n.val % 1024), by omega⟩ : Fin 11008)) else (FloatOps.sitofp (F := Ideal) FTy.f32 0#32 : EReal)
    else if h' : (n.val / 1024) * 512 + ((n.val % 1024) - 512) < 5504 then m ((c : Thread nD τ).loc main_arg2) (ix2 k (⟨5504 + ((n.val / 1024) * 512 + ((n.val % 1024) - 512)), by omega⟩ : Fin 11008)) else (FloatOps.sitofp (F := Ideal) FTy.f32 0#32 : EReal) := by
  unfold V
  simp only [List.flatten_cons, List.flatten_nil, List.append_nil, List.cons_append, List.nil_append]
  after_reads_at
  after_reads_at
theorem v19_at (c : Dev nD) (f : Fin 11) (k : Fin 3) (n : Fin 1024) : V m c main_v19 (ix3 f k n) =
    if h : n.val < 512 then
      if h' : f.val * 512 + n.val < 5504 then m ((c : Thread nD τ).loc main_arg3) (ix2 k (⟨f.val * 512 + n.val, by omega⟩ : Fin 11008)) else (FloatOps.sitofp (F := Ideal) FTy.f32 0#32 : EReal)
    else if h' : f.val * 512 + (n.val - 512) < 5504 then m ((c : Thread nD τ).loc main_arg3) (ix2 k (⟨5504 + (f.val * 512 + (n.val - 512)), by omega⟩ : Fin 11008)) else (FloatOps.sitofp (F := Ideal) FTy.f32 0#32 : EReal) := by
  unfold V
  simp only [List.flatten_cons, List.flatten_nil, List.append_nil, List.cons_append, List.nil_append]
  after_reads_at
  after_reads_at
theorem v27_at (c : Dev nD) (f : Fin 11) (n : Fin 1024) : V m c main_v27 (ix3 f 0 n) =
    if h : n.val < 512 then
      if h' : f.val * 512 + n.val < 5504 then m ((c : Thread nD τ).loc main_arg4) (ix1 (⟨f.val * 512 + n.val, by omega⟩ : Fin 11008)) else (FloatOps.sitofp (F := Ideal) FTy.f32 0#32 : EReal)
    else if h' : f.val * 512 + (n.val - 512) < 5504 then m ((c : Thread nD τ).loc main_arg4) (ix1 (⟨5504 + (f.val * 512 + (n.val - 512)), by omega⟩ : Fin 11008)) else (FloatOps.sitofp (F := Ideal) FTy.f32 0#32 : EReal) := by
  unfold V
  simp only [List.flatten_cons, List.flatten_nil, List.append_nil, List.cons_append, List.nil_append]
  after_reads_at
  after_reads_at
theorem v11_at (c : Dev nD) (f : Fin 11) (k : Fin 512) (n : Fin 2048) : V m c main_v11 (ix3 f k n) =
    if h : f.val * 512 + k.val < 5504 then m ((c : Thread nD τ).loc main_arg5) (ix2 (⟨f.val * 512 + k.val, h⟩ : Fin 5504) n) else (FloatOps.sitofp (F := Ideal) FTy.f32 0#32 : EReal) := by
  unfold V
  simp only [List.flatten_cons, List.flatten_nil, List.append_nil, List.cons_append, List.nil_append]
  after_reads_at
theorem zero_word : (FloatOps.sitofp (F := Ideal) FTy.f32 (0#32 : BitVec 32) : EReal) = 0 := by
  simp [FloatOps.sitofp]
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0, 0] ∧ win0_5.index t = ![t.val % 11, 0, 0] ∧ win0_6.index t = ![t.val % 11, 0, 0]
    ∧ win0_7.index t = ![t.val / 11, 0] :=
  (by decide +kernel : ∀ t : Fin grid0.N, _)
theorem lt_N (t : Fin cfg0.N) : t.val < 704 := lt_of_lt_of_eq t.isLt N_0
theorem rd0 (c : Dev nD) (t : Fin cfg0.N) (r : Fin 512) (k : Fin 2048) :
    iblk m c 0 t (ix2 r k) = m ((c : Thread nD τ).loc main_arg0) (ix3 (⟨t.val / 44, by have := lt_N t; omega⟩ : Fin 16) (⟨t.val / 11 % 4 * 512 + r.val, by omega⟩ : Fin 2048) k) := by
  have ht := lt_N t
  have e : ((cfg0.win 0).blk t).view.emb (ix2 r k) = ix2 (⟨t.val / 11 * 512 + r.val, by omega⟩ : Fin 32768) k := by blk_ext [idx t]
  refine ((congrArg (V m c main_v28) e).trans (v28_at m c _ _)).trans ?_
  have e1 : (⟨(t.val / 11 * 512 + r.val) / 2048, by omega⟩ : Fin 16) = ⟨t.val / 44, by omega⟩ := Fin.ext (show (t.val / 11 * 512 + r.val) / 2048 = t.val / 44 by omega)
  have e2 : (⟨(t.val / 11 * 512 + r.val) % 2048, by omega⟩ : Fin 2048) = ⟨t.val / 11 % 4 * 512 + r.val, by omega⟩ :=
    Fin.ext (show (t.val / 11 * 512 + r.val) % 2048 = t.val / 11 % 4 * 512 + r.val by omega)
  rw [e1, e2]
theorem rd1 (c : Dev nD) (t : Fin cfg0.N) (k : Fin 2048) :
    iblk m c 1 t (ix2 0 k) = m ((c : Thread nD τ).loc main_arg1) (ix1 k) := by
  have e : ((cfg0.win 1).blk t).view.emb (ix2 0 k) = ix2 (0 : Fin 1) k := by blk_ext [idx t]
  exact (congrArg (V m c main_v29) e).trans (v29_at m c _)
theorem rd2 (c : Dev nD) (t : Fin cfg0.N) (a : Fin 2) (n : Fin 1024) :
    iblk m c 2 t (ix2 a n) = (0 : EReal) := v30_at m c _
theorem rd6 (c : Dev nD) (t : Fin cfg0.N) (j : Fin 512) (q : Fin 2048) :
    iblk m c 6 t (ix3 0 j q) = if h : t.val % 11 * 512 + j.val < 5504 then m ((c : Thread nD τ).loc main_arg5) (ix2 (⟨t.val % 11 * 512 + j.val, h⟩ : Fin 5504) q) else (0 : EReal) := by
  have ht := lt_N t
  have e : ((cfg0.win 6).blk t).view.emb (ix3 0 j q) = ix3 (⟨t.val % 11, by omega⟩ : Fin 11) j q := by blk_ext [idx t]
  refine ((congrArg (V m c main_v11) e).trans (v11_at m c _ _ _)).trans ?_
  rw [zero_word]
theorem rd3g (c : Dev nD) (t : Fin cfg0.N) (k : Fin 2048) (n : Fin 1024) (hn : n.val < 512) (h : t.val % 11 * 512 + n.val < 5504) :
    iblk m c 3 t (ix2 k n) = m ((c : Thread nD τ).loc main_arg2) (ix2 k (⟨t.val % 11 * 512 + n.val, by omega⟩ : Fin 11008)) := by
  have ht := lt_N t
  have e : ((cfg0.win 3).blk t).view.emb (ix2 k n) = ix2 k (⟨t.val % 11 * 1024 + n.val, by omega⟩ : Fin 11264) := by blk_ext [idx t]
  have e1 : (t.val % 11 * 1024 + n.val) / 1024 = t.val % 11 := by omega
  have e2 : (t.val % 11 * 1024 + n.val) % 1024 = n.val := by omega
  refine ((congrArg (V m c main_v8) e).trans (v8_at m c _ _)).trans ?_
  simp only [e1, e2]
  rw [dif_pos hn, dif_pos h]
theorem rd4g (c : Dev nD) (t : Fin cfg0.N) (k : Fin 3) (n : Fin 1024) (hn : n.val < 512) (h : t.val % 11 * 512 + n.val < 5504) :
    iblk m c 4 t (ix3 0 k n) = m ((c : Thread nD τ).loc main_arg3) (ix2 k (⟨t.val % 11 * 512 + n.val, by omega⟩ : Fin 11008)) := by
  have e : ((cfg0.win 4).blk t).view.emb (ix3 0 k n) = ix3 (⟨t.val % 11, by omega⟩ : Fin 11) k n := by blk_ext [idx t]
  refine ((congrArg (V m c main_v19) e).trans (v19_at m c _ _ _)).trans ?_
  rw [dif_pos hn, dif_pos h]
theorem rd5g (c : Dev nD) (t : Fin cfg0.N) (n : Fin 1024) (hn : n.val < 512) (h : t.val % 11 * 512 + n.val < 5504) :
    iblk m c 5 t (ix3 0 0 n) = m ((c : Thread nD τ).loc main_arg4) (ix1 (⟨t.val % 11 * 512 + n.val, by omega⟩ : Fin 11008)) := by
  have e : ((cfg0.win 5).blk t).view.emb (ix3 0 0 n) = ix3 (⟨t.val % 11, by omega⟩ : Fin 11) (0 : Fin 1) n := by blk_ext [idx t]
  refine ((congrArg (V m c main_v27) e).trans (v27_at m c _ _)).trans ?_
  rw [dif_pos hn, dif_pos h]
theorem rd3v (c : Dev nD) (t : Fin cfg0.N) (k : Fin 2048) (n : Fin 1024) (hn : ¬n.val < 512) (h : t.val % 11 * 512 + (n.val - 512) < 5504) :
    iblk m c 3 t (ix2 k n) = m ((c : Thread nD τ).loc main_arg2) (ix2 k (⟨5504 + (t.val % 11 * 512 + (n.val - 512)), by omega⟩ : Fin 11008)) := by
  have ht := lt_N t
  have e : ((cfg0.win 3).blk t).view.emb (ix2 k n) = ix2 k (⟨t.val % 11 * 1024 + n.val, by omega⟩ : Fin 11264) := by blk_ext [idx t]
  have e1 : (t.val % 11 * 1024 + n.val) / 1024 = t.val % 11 := by omega
  have e2 : (t.val % 11 * 1024 + n.val) % 1024 = n.val := by omega
  refine ((congrArg (V m c main_v8) e).trans (v8_at m c _ _)).trans ?_
  simp only [e1, e2]
  rw [dif_neg hn, dif_pos h]
theorem rd4v (c : Dev nD) (t : Fin cfg0.N) (k : Fin 3) (n : Fin 1024) (hn : ¬n.val < 512) (h : t.val % 11 * 512 + (n.val - 512) < 5504) :
    iblk m c 4 t (ix3 0 k n) = m ((c : Thread nD τ).loc main_arg3) (ix2 k (⟨5504 + (t.val % 11 * 512 + (n.val - 512)), by omega⟩ : Fin 11008)) := by
  have e : ((cfg0.win 4).blk t).view.emb (ix3 0 k n) = ix3 (⟨t.val % 11, by omega⟩ : Fin 11) k n := by blk_ext [idx t]
  refine ((congrArg (V m c main_v19) e).trans (v19_at m c _ _ _)).trans ?_
  rw [dif_neg hn, dif_pos h]
theorem rd5v (c : Dev nD) (t : Fin cfg0.N) (n : Fin 1024) (hn : ¬n.val < 512) (h : t.val % 11 * 512 + (n.val - 512) < 5504) :
    iblk m c 5 t (ix3 0 0 n) = m ((c : Thread nD τ).loc main_arg4) (ix1 (⟨5504 + (t.val % 11 * 512 + (n.val - 512)), by omega⟩ : Fin 11008)) := by
  have e : ((cfg0.win 5).blk t).view.emb (ix3 0 0 n) = ix3 (⟨t.val % 11, by omega⟩ : Fin 11) (0 : Fin 1) n := by blk_ext [idx t]
  refine ((congrArg (V m c main_v27) e).trans (v27_at m c _ _)).trans ?_
  rw [dif_neg hn, dif_pos h]
end Cert.Kernel4Ideal.Conv
end
-- ==== Proof.ConvCarry.lean ====
module
public import proofs.«01_k».proof.Proof.ConvMath
public import proofs.«01_k».proof.Proof.ConvState
public import proofs.«01_k».proof.Proof.ConvReads
public import Idealize.ShloMosaic.Lib.WritesUnit
@[expose] public section
set_option maxRecDepth 16384
noncomputable section
open Idealize.ShloMosaic Idealize.ShloMosaic.TcCoe Idealize.SL.Sem
namespace Cert.Kernel4Ideal.Conv
open Cert.Kernel4Ideal Cert.Kernel4Ideal.Gen
theorem carry_at (t : Fin cfg0.N) (h : FVec Ideal S512x2048 .bf16) (x3 : FVec Ideal S2048x1024 .bf16) (d : FVec Ideal S11x2x1024 .f32) (y : S11x2x1024.Idx)
    (a : Fin 2) (n : Fin 1024) (h0 : (y 0).val = t.val % 11) (h1 : (y 1).val = a.val) (h2 : (y 2).val = n.val) :
    carryStep (F := Ideal) (grid0.coords t) h x3 d y = mm h (fun k => x3 (ix2 k n)) ⟨510 + a.val, by omega⟩ := by
  have hn := n.isLt
  unfold carryStep tails
  by_cases hD : 768 ≤ n.val
  · refine (View.read_writes_cons_unit_of_mem _ _ (s := S11x2x1024) (size := S1x2x256.size) (k0_off5_inb (grid0.coords t)) _ _ y (ix3 0 a (⟨n.val - 768, by omega⟩ : Fin 256)) (off5_at t)
      (fun x => by fin_cases x; exacts [h0.trans (Nat.add_zero _).symm, h1.trans (Nat.zero_add _).symm, h2.trans (show n.val = 768 + (n.val - 768) by omega)])).trans ?_
    exact (tailD_at h _ a _).trans (congrArg (fun u => mm h u ⟨510 + a.val, by omega⟩) (funext fun k => (upD_at x3 k _).trans (congrArg (fun z => x3 (ix2 k z)) (Fin.ext (show 768 + (n.val - 768) = n.val by omega)))))
  refine (View.read_writes_cons_unit_of_not_mem _ _ (s := S11x2x1024) (size := S1x2x256.size) (k0_off5_inb (grid0.coords t)) _ _ y (off5_at t) 2 (.inl (show (y 2).val < 768 by omega))).trans ?_
  by_cases hC : 256 ≤ n.val ∧ n.val < 512
  · refine (View.read_writes_cons_unit_of_mem _ _ (s := S11x2x1024) (size := S1x2x256.size) (k0_off4_inb (grid0.coords t)) _ _ y (ix3 0 a (⟨n.val - 256, by omega⟩ : Fin 256)) (off4_at t)
      (fun x => by fin_cases x; exacts [h0.trans (Nat.add_zero _).symm, h1.trans (Nat.zero_add _).symm, h2.trans (show n.val = 256 + (n.val - 256) by omega)])).trans ?_
    exact (tailC_at h _ a _).trans (congrArg (fun u => mm h u ⟨510 + a.val, by omega⟩) (funext fun k => (upC_at x3 k _).trans (congrArg (fun z => x3 (ix2 k z)) (Fin.ext (show 256 + (n.val - 256) = n.val by omega)))))
  refine (View.read_writes_cons_unit_of_not_mem _ _ (s := S11x2x1024) (size := S1x2x256.size) (k0_off4_inb (grid0.coords t)) _ _ y (off4_at t) 2
    (show (y 2).val < 256 ∨ 256 + 256 ≤ (y 2).val by omega)).trans ?_
  by_cases hB : 512 ≤ n.val
  · refine (View.read_writes_cons_unit_of_mem _ _ (s := S11x2x1024) (size := S1x2x256.size) (k0_off3_inb (grid0.coords t)) _ _ y (ix3 0 a (⟨n.val - 512, by omega⟩ : Fin 256)) (off3_at t)
      (fun x => by fin_cases x; exacts [h0.trans (Nat.add_zero _).symm, h1.trans (Nat.zero_add _).symm, h2.trans (show n.val = 512 + (n.val - 512) by omega)])).trans ?_
    exact (tailB_at h _ a _).trans (congrArg (fun u => mm h u ⟨510 + a.val, by omega⟩) (funext fun k => (upB_at x3 k _).trans (congrArg (fun z => x3 (ix2 k z)) (Fin.ext (show 512 + (n.val - 512) = n.val by omega)))))
  refine (View.read_writes_cons_unit_of_not_mem _ _ (s := S11x2x1024) (size := S1x2x256.size) (k0_off3_inb (grid0.coords t)) _ _ y (off3_at t) 2 (.inl (show (y 2).val < 512 by omega))).trans ?_
  refine (View.read_writes_cons_unit_of_mem _ _ (s := S11x2x1024) (size := S1x2x256.size) (k0_off2_inb (grid0.coords t)) _ _ y (ix3 0 a (⟨n.val, by omega⟩ : Fin 256)) (off2_at t)
    (fun x => by fin_cases x; exacts [h0.trans (Nat.add_zero _).symm, h1.trans (Nat.zero_add _).symm, h2.trans (Nat.zero_add _).symm])).trans ?_
  exact (tailA_at h _ a _).trans (congrArg (fun u => mm h u ⟨510 + a.val, by omega⟩) (funext fun k => (upA_at x3 k _).trans (congrArg (fun z => x3 (ix2 k z)) (Fin.ext (Nat.zero_add _)))))
theorem carry_other (t : Fin cfg0.N) (h : FVec Ideal S512x2048 .bf16) (x3 : FVec Ideal S2048x1024 .bf16) (d : FVec Ideal S11x2x1024 .f32) (y : S11x2x1024.Idx)
    (h0 : (y 0).val ≠ t.val % 11) : carryStep (F := Ideal) (grid0.coords t) h x3 d y = d y := by
  unfold carryStep tails
  refine (View.read_writes_cons_unit_of_not_mem _ _ (s := S11x2x1024) (size := S1x2x256.size) (k0_off5_inb (grid0.coords t)) _ _ y (off5_at t) 0 (show (y 0).val < t.val % 11 ∨ t.val % 11 + 1 ≤ (y 0).val by omega)).trans ?_
  refine (View.read_writes_cons_unit_of_not_mem _ _ (s := S11x2x1024) (size := S1x2x256.size) (k0_off4_inb (grid0.coords t)) _ _ y (off4_at t) 0 (show (y 0).val < t.val % 11 ∨ t.val % 11 + 1 ≤ (y 0).val by omega)).trans ?_
  refine (View.read_writes_cons_unit_of_not_mem _ _ (s := S11x2x1024) (size := S1x2x256.size) (k0_off3_inb (grid0.coords t)) _ _ y (off3_at t) 0 (show (y 0).val < t.val % 11 ∨ t.val % 11 + 1 ≤ (y 0).val by omega)).trans ?_
  refine (View.read_writes_cons_unit_of_not_mem _ _ (s := S11x2x1024) (size := S1x2x256.size) (k0_off2_inb (grid0.coords t)) _ _ y (off2_at t) 0 (show (y 0).val < t.val % 11 ∨ t.val % 11 + 1 ≤ (y 0).val by omega)).trans ?_
  rw [View.writes_nil, Memref.IsWhole.read_unread]
variable (m : (ℓ : Loc nD τ sig) → Buf (Elt Ideal) ℓ)
theorem crAt_kept (c : Dev nD) (n0 : ℕ) (hn0 : n0 < cfg0.N) (y : S11x2x1024.Idx) (a : Fin 2) (n : Fin 1024)
    (h0 : (y 0).val = n0 % 11) (h1 : (y 1).val = a.val) (h2 : (y 2).val = n.val) :
    ∀ j : ℕ, j ≤ 10 → ∀ hj : n0 + 1 + j ≤ cfg0.N, crAt m c (n0 + 1 + j) hj y = mm (hAt m c n0 hn0) (fun k => iblk m c 3 ⟨n0, hn0⟩ (ix2 k n)) ⟨510 + a.val, by omega⟩
  | 0, _, hj => carry_at ⟨n0, hn0⟩ _ _ _ y a n h0 h1 h2
  | j + 1, h, hj => (carry_other ⟨n0 + 1 + j, hj⟩ _ _ _ y (show (y 0).val ≠ (n0 + 1 + j) % 11 by omega)).trans
      (crAt_kept c n0 hn0 y a n h0 h1 h2 j (by omega) (Nat.le_of_lt hj))
theorem off1_at : ∀ t : Fin cfg0.N, k0_off1 (grid0.coords t) = ![t.val % 11, 0, 0] := by decide +kernel
theorem hist_zero (c : Dev nD) (t : Fin cfg0.N) (h : t.val % 44 < 11) (a : Fin 2) (n : Fin 1024) : histAt m c t.val t.isLt (ix2 a n) = (0 : EReal) := by
  rw [histAt_first m c t (fun h2 => by have := (hcond0_2 t).mp h2; omega)]
  exact (pay7_at _ a n).trans (rd2 m c t a n)
theorem hist_prev (c : Dev nD) (t : Fin cfg0.N) (h : ¬t.val % 44 < 11) (hp : t.val - 11 < cfg0.N) (a : Fin 2) (n : Fin 1024) :
    histAt m c t.val t.isLt (ix2 a n) = mm (hAt m c (t.val - 11) hp) (fun k => iblk m c 3 ⟨t.val - 11, hp⟩ (ix2 k n)) ⟨510 + a.val, by omega⟩ := by
  have hc : cond0_2 (grid0.coords t) := (hcond0_2 t).mpr (by omega)
  rw [histAt_next m c t hc]
  unfold prevRows
  refine (pay8_at _ a n).trans ?_
  refine (View.ld_unit_apply_of _ _ _ _ _ (ix3 (⟨t.val % 11, by omega⟩ : Fin 11) a n) (fun x =>
    (show ((ix3 (⟨t.val % 11, by omega⟩ : Fin 11) a n : S11x2x1024.Idx) x).val = ![t.val % 11, 0, 0] x + ((ix3 (0 : Fin 1) a n : S1x2x1024.Idx) x).val by
      fin_cases x; exacts [(Nat.add_zero _).symm, (Nat.zero_add _).symm, (Nat.zero_add _).symm]).trans
    (congrArg (· + ((ix3 (0 : Fin 1) a n : S1x2x1024.Idx) x).val) (congrFun (off1_at t) x).symm))).trans ?_
  have key : ∀ (M : ℕ) (hM : M ≤ cfg0.N), M = t.val - 11 + 1 + 10 →
      crAt m c M hM (ix3 (⟨t.val % 11, by omega⟩ : Fin 11) a n) = mm (hAt m c (t.val - 11) hp) (fun k => iblk m c 3 ⟨t.val - 11, hp⟩ (ix2 k n)) ⟨510 + a.val, by omega⟩ := by
    intro M hM e; subst e
    exact crAt_kept m c (t.val - 11) hp _ a n (show t.val % 11 = (t.val - 11) % 11 by omega) rfl rfl 10 le_rfl hM
  exact key _ _ (by omega)
end Cert.Kernel4Ideal.Conv
end
-- ==== Proof.ConvAcc.lean ====
module
public import proofs.«01_k».proof.Proof.ConvCarry
@[expose] public section
set_option maxRecDepth 16384
noncomputable section
open Idealize.ShloMosaic Idealize.ShloMosaic.TcCoe Idealize.SL.Sem
namespace Cert.Kernel4Ideal.Conv
open Cert.Kernel4Ideal Cert.Kernel4Ideal.Gen
def xv (x : FVec Ideal S16x2048x2048 .f32) (b s : ℕ) (k : Fin 2048) : EReal := x (ix3 (⟨b % 16, Nat.mod_lt _ (by decide)⟩ : Fin 16) (⟨s % 2048, Nat.mod_lt _ (by decide)⟩ : Fin 2048) k)
def nrm (x : FVec Ideal S16x2048x2048 .f32) (g : FVec Ideal S2048 .f32) (b s : ℕ) (k : Fin 2048) : EReal :=
  xv x b s k * Ideal.rsqrt (Ideal.div (∑ k : Fin 2048, xv x b s k * xv x b s k) (Ideal.ofBits FTy.f32 1157627904#32) + Ideal.ofBits FTy.f32 897988541#32) * g (ix1 k)
abbrev cl (n : ℕ) : Fin 11008 := ⟨n % 11008, Nat.mod_lt _ (by decide)⟩
def upv (x : FVec Ideal S16x2048x2048 .f32) (g : FVec Ideal S2048 .f32) (w : FVec Ideal S2048x11008 .f32) (b s n : ℕ) : EReal :=
  ∑ k : Fin 2048, nrm x g b s k * w (ix2 k (cl n))
def cvv (x : FVec Ideal S16x2048x2048 .f32) (g : FVec Ideal S2048 .f32) (w : FVec Ideal S2048x11008 .f32) (cw : FVec Ideal S3x11008 .f32) (cb : FVec Ideal S11008 .f32)
    (b s n : ℕ) : EReal :=
  cw (ix2 2 (cl n)) * upv x g w b s n + cw (ix2 1 (cl n)) * (if s < 1 then 0 else upv x g w b (s - 1) n)
    + cw (ix2 0 (cl n)) * (if s < 2 then 0 else upv x g w b (s - 2) n) + cb (ix1 (cl n))
def term (x : FVec Ideal S16x2048x2048 .f32) (g : FVec Ideal S2048 .f32) (w : FVec Ideal S2048x11008 .f32) (cw : FVec Ideal S3x11008 .f32) (cb : FVec Ideal S11008 .f32)
    (wd : FVec Ideal S5504x2048 .f32) (b s : ℕ) (q : Fin 2048) (j : ℕ) : EReal :=
  if h : j < 5504 then act (cvv x g w cw cb b s j) (cvv x g w cw cb b s (5504 + j)) * wd (ix2 (⟨j, h⟩ : Fin 5504) q) else 0
variable (m : (ℓ : Loc nD τ sig) → Buf (Elt Ideal) ℓ)
abbrev A0 (c : Dev nD) : FVec Ideal S16x2048x2048 .f32 := m ((c : Thread nD τ).loc main_arg0)
abbrev A1 (c : Dev nD) : FVec Ideal S2048 .f32 := m ((c : Thread nD τ).loc main_arg1)
abbrev A2 (c : Dev nD) : FVec Ideal S2048x11008 .f32 := m ((c : Thread nD τ).loc main_arg2)
abbrev A3 (c : Dev nD) : FVec Ideal S3x11008 .f32 := m ((c : Thread nD τ).loc main_arg3)
abbrev A4 (c : Dev nD) : FVec Ideal S11008 .f32 := m ((c : Thread nD τ).loc main_arg4)
abbrev A5 (c : Dev nD) : FVec Ideal S5504x2048 .f32 := m ((c : Thread nD τ).loc main_arg5)
theorem rx (c : Dev nD) (t : Fin cfg0.N) (r : Fin 512) (k : Fin 2048) : iblk m c 0 t (ix2 r k) = xv (A0 m c) (t.val / 44) (t.val / 11 % 4 * 512 + r.val) k := by
  have ht := lt_N t
  refine (rd0 m c t r k).trans ?_
  unfold xv
  exact congrArg₂ (fun a b => A0 m c (ix3 a b k)) (Fin.ext (show t.val / 44 = t.val / 44 % 16 by omega))
    (Fin.ext (show t.val / 11 % 4 * 512 + r.val = (t.val / 11 % 4 * 512 + r.val) % 2048 by omega))
theorem h_at (c : Dev nD) (r : Fin 512) (k : Fin 2048) : ∀ (n : ℕ) (hn : n < cfg0.N), hAt m c n hn (ix2 r k) = nrm (A0 m c) (A1 m c) (n / 44) (n / 11 % 4 * 512 + r.val) k := by
  have first : ∀ (n : ℕ) (hn : n < cfg0.N), n % 11 = 0 → hAt m c n hn (ix2 r k) = nrm (A0 m c) (A1 m c) (n / 44) (n / 11 % 4 * 512 + r.val) k := by
    intro n hn h0
    rw [hAt_first m c ⟨n, hn⟩ h0]
    refine (pay5_at _ _ r k).trans ?_
    unfold nrm
    rw [rx, rd1]
    simp only [rx]
  intro n
  induction n with
  | zero => exact fun hn => first 0 hn rfl
  | succ n ih =>
    intro hn
    by_cases h0 : (n + 1) % 11 = 0
    · exact first _ hn h0
    · rw [hAt_next m c ⟨n + 1, hn⟩ h0 (Nat.lt_of_succ_lt hn)]
      refine (ih (Nat.lt_of_succ_lt hn)).trans ?_
      rw [show (n + 1) / 44 = n / 44 by omega, show (n + 1) / 11 = n / 11 by omega]
abbrev colOf (f n : ℕ) : ℕ := if n < 512 then f * 512 + n else 5504 + (f * 512 + (n - 512))
theorem w3 (c : Dev nD) (t : Fin cfg0.N) (k : Fin 2048) (n : Fin 1024) (h : t.val % 11 * 512 + n.val % 512 < 5504) :
    iblk m c 3 t (ix2 k n) = A2 m c (ix2 k (cl (colOf (t.val % 11) n.val))) := by
  have := n.isLt
  by_cases hn : n.val < 512
  · exact (rd3g m c t k n hn (by omega)).trans (congrArg (fun z => A2 m c (ix2 k z)) (Fin.ext (show _ = colOf _ _ % 11008 by rw [colOf, if_pos hn]; exact (Nat.mod_eq_of_lt (by omega)).symm)))
  · exact (rd3v m c t k n hn (by omega)).trans (congrArg (fun z => A2 m c (ix2 k z)) (Fin.ext (show _ = colOf _ _ % 11008 by rw [colOf, if_neg hn]; exact (Nat.mod_eq_of_lt (by omega)).symm)))
theorem w4 (c : Dev nD) (t : Fin cfg0.N) (k : Fin 3) (n : Fin 1024) (h : t.val % 11 * 512 + n.val % 512 < 5504) :
    iblk m c 4 t (ix3 0 k n) = A3 m c (ix2 k (cl (colOf (t.val % 11) n.val))) := by
  have := n.isLt
  by_cases hn : n.val < 512
  · exact (rd4g m c t k n hn (by omega)).trans (congrArg (fun z => A3 m c (ix2 k z)) (Fin.ext (show _ = colOf _ _ % 11008 by rw [colOf, if_pos hn]; exact (Nat.mod_eq_of_lt (by omega)).symm)))
  · exact (rd4v m c t k n hn (by omega)).trans (congrArg (fun z => A3 m c (ix2 k z)) (Fin.ext (show _ = colOf _ _ % 11008 by rw [colOf, if_neg hn]; exact (Nat.mod_eq_of_lt (by omega)).symm)))
theorem w5 (c : Dev nD) (t : Fin cfg0.N) (n : Fin 1024) (h : t.val % 11 * 512 + n.val % 512 < 5504) :
    iblk m c 5 t (ix3 0 0 n) = A4 m c (ix1 (cl (colOf (t.val % 11) n.val))) := by
  have := n.isLt
  by_cases hn : n.val < 512
  · exact (rd5g m c t n hn (by omega)).trans (congrArg (fun z => A4 m c (ix1 z)) (Fin.ext (show _ = colOf _ _ % 11008 by rw [colOf, if_pos hn]; exact (Nat.mod_eq_of_lt (by omega)).symm)))
  · exact (rd5v m c t n hn (by omega)).trans (congrArg (fun z => A4 m c (ix1 z)) (Fin.ext (show _ = colOf _ _ % 11008 by rw [colOf, if_neg hn]; exact (Nat.mod_eq_of_lt (by omega)).symm)))
theorem mm_at (c : Dev nD) (t : Fin cfg0.N) (n : Fin 1024) (h : t.val % 11 * 512 + n.val % 512 < 5504) (r : Fin 512) :
    mm (hAt m c t.val t.isLt) (fun k => iblk m c 3 t (ix2 k n)) r = upv (A0 m c) (A1 m c) (A2 m c) (t.val / 44) (t.val / 11 % 4 * 512 + r.val) (colOf (t.val % 11) n.val) := by
  unfold mm upv
  exact Finset.sum_congr rfl fun k _ => congrArg₂ (· * ·) (h_at m c r k t.val t.isLt) (w3 m c t k n h)
theorem hist_at (c : Dev nD) (t : Fin cfg0.N) (n : Fin 1024) (h : t.val % 11 * 512 + n.val % 512 < 5504) (a : Fin 2) :
    histAt m c t.val t.isLt (ix2 a n) = if t.val / 11 % 4 * 512 < 1 then 0
      else upv (A0 m c) (A1 m c) (A2 m c) (t.val / 44) (t.val / 11 % 4 * 512 + a.val - 2) (colOf (t.val % 11) n.val) := by
  have ht := lt_N t
  by_cases hz : t.val % 44 < 11
  · rw [if_pos (by omega)]; exact hist_zero m c t hz a n
  · rw [if_neg (by omega)]
    have hp : t.val - 11 < cfg0.N := lt_of_le_of_lt (Nat.sub_le _ _) t.isLt
    refine (hist_prev m c t hz hp a n).trans ((mm_at m c ⟨t.val - 11, hp⟩ n (show (t.val - 11) % 11 * 512 + n.val % 512 < 5504 by omega) _).trans ?_)
    show upv _ _ _ ((t.val - 11) / 44) ((t.val - 11) / 11 % 4 * 512 + (510 + a.val)) (colOf ((t.val - 11) % 11) n.val) = _
    rw [show (t.val - 11) / 44 = t.val / 44 by omega, show (t.val - 11) / 11 % 4 * 512 + (510 + a.val) = t.val / 11 % 4 * 512 + a.val - 2 by omega,
      show (t.val - 11) % 11 = t.val % 11 by omega]
theorem cv_at (c : Dev nD) (t : Fin cfg0.N) (n : Fin 1024) (h : t.val % 11 * 512 + n.val % 512 < 5504) (r : Fin 512) :
    cv (hAt m c t.val t.isLt) (histAt m c t.val t.isLt) (iblk m c 3 t) (iblk m c 4 t) (iblk m c 5 t) r n
      = cvv (A0 m c) (A1 m c) (A2 m c) (A3 m c) (A4 m c) (t.val / 44) (t.val / 11 % 4 * 512 + r.val) (colOf (t.val % 11) n.val) := by
  unfold cv conv cvv
  refine congrArg₂ (· + ·) (congrArg₂ (· + ·) (congrArg₂ (· + ·) (congrArg₂ (· * ·) (w4 m c t 2 n h) (mm_at m c t n h r))
    (congrArg₂ (· * ·) (w4 m c t 1 n h) ?_)) (congrArg₂ (· * ·) (w4 m c t 0 n h) ?_)) (w5 m c t n h)
  · by_cases hr : r.val < 1
    · rw [dif_pos hr]
      refine (hist_at m c t n h _).trans ?_
      by_cases hs : t.val / 11 % 4 * 512 < 1
      · rw [if_pos hs, if_pos (by omega)]
      · rw [if_neg hs, if_neg (by omega)]
        exact congrArg (fun z => upv (A0 m c) (A1 m c) (A2 m c) (t.val / 44) z (colOf (t.val % 11) n.val)) (show t.val / 11 % 4 * 512 + (1 + r.val) - 2 = _ by omega)
    · rw [dif_neg hr, mm_at m c t n h, if_neg (by omega)]
      exact congrArg (fun z => upv (A0 m c) (A1 m c) (A2 m c) (t.val / 44) z (colOf (t.val % 11) n.val)) (show t.val / 11 % 4 * 512 + (r.val - 1) = _ by omega)
  · by_cases hr : r.val < 2
    · rw [dif_pos hr]
      refine (hist_at m c t n h _).trans ?_
      by_cases hs : t.val / 11 % 4 * 512 < 1
      · rw [if_pos hs, if_pos (by omega)]
      · rw [if_neg hs, if_neg (by omega)]
    · rw [dif_neg hr, mm_at m c t n h, if_neg (by omega)]
      exact congrArg (fun z => upv (A0 m c) (A1 m c) (A2 m c) (t.val / 44) z (colOf (t.val % 11) n.val)) (show t.val / 11 % 4 * 512 + (r.val - 2) = _ by omega)
theorem part_at (c : Dev nD) (t : Fin cfg0.N) (r : Fin 512) (q : Fin 2048) (j : Fin 512) (ng nv : Fin 1024) (hg : ng.val = j.val) (hv : nv.val = 512 + j.val) :
    act (cv (hAt m c t.val t.isLt) (histAt m c t.val t.isLt) (iblk m c 3 t) (iblk m c 4 t) (iblk m c 5 t) r ng)
        (cv (hAt m c t.val t.isLt) (histAt m c t.val t.isLt) (iblk m c 3 t) (iblk m c 4 t) (iblk m c 5 t) r nv) * iblk m c 6 t (ix3 0 j q)
      = term (A0 m c) (A1 m c) (A2 m c) (A3 m c) (A4 m c) (A5 m c) (t.val / 44) (t.val / 11 % 4 * 512 + r.val) q (t.val % 11 * 512 + j.val) := by
  have hj := j.isLt
  unfold term
  by_cases h : t.val % 11 * 512 + j.val < 5504
  · rw [rd6, dif_pos h, dif_pos h, cv_at m c t ng (by omega), cv_at m c t nv (by omega)]
    rw [show colOf (t.val % 11) ng.val = t.val % 11 * 512 + j.val by rw [colOf, if_pos (by omega), hg],
      show colOf (t.val % 11) nv.val = 5504 + (t.val % 11 * 512 + j.val) by rw [colOf, if_neg (by omega), hv, Nat.add_sub_cancel_left]]
  · rw [rd6, dif_neg h, dif_neg h]; exact mul_zero _
theorem step_at (c : Dev nD) (t : Fin cfg0.N) (acc : FVec Ideal S512x2048 .f32) (r : Fin 512) (q : Fin 2048) :
    accStep (F := Ideal) (hAt m c t.val t.isLt) (histAt m c t.val t.isLt) acc (iblk m c 3 t) (iblk m c 4 t) (iblk m c 5 t) (iblk m c 6 t) (ix2 r q)
      = acc (ix2 r q) + ∑ j ∈ Finset.range 512, term (A0 m c) (A1 m c) (A2 m c) (A3 m c) (A4 m c) (A5 m c) (t.val / 44) (t.val / 11 % 4 * 512 + r.val) q (t.val % 11 * 512 + j) := by
  have hs := Finset.sum_range_add (term (A0 m c) (A1 m c) (A2 m c) (A3 m c) (A4 m c) (A5 m c) (t.val / 44) (t.val / 11 % 4 * 512 + r.val) q <| t.val % 11 * 512 + ·) 256 256
  rw [Finset.sum_range (n := 256), Finset.sum_range (n := 256)] at hs
  refine (accStep_at _ _ _ _ _ _ _ r q).trans (Eq.trans ?_ (congrArg (acc (ix2 r q) + ·) hs.symm))
  refine congrArg₂ (· + ·) rfl (congrArg₂ (· + ·) (Finset.sum_congr rfl fun j _ => ?_) (Finset.sum_congr rfl fun j _ => ?_))
  · refine (part_at m c t r q ⟨0 + j.val, by omega⟩ _ _ rfl (show 512 + j.val = 512 + (0 + j.val) by omega)).trans ?_
    exact congrArg (term _ _ _ _ _ _ _ _ _) (show t.val % 11 * 512 + (0 + j.val) = _ by omega)
  · exact part_at m c t r q ⟨256 + j.val, by omega⟩ _ _ rfl (show 768 + j.val = 512 + (256 + j.val) by omega)
theorem acc_at (c : Dev nD) (r : Fin 512) (q : Fin 2048) : ∀ (n : ℕ) (hn : n < cfg0.N), accAt m c n hn (ix2 r q)
    = ∑ j ∈ Finset.range (n % 11 * 512 + 512), term (A0 m c) (A1 m c) (A2 m c) (A3 m c) (A4 m c) (A5 m c) (n / 44) (n / 11 % 4 * 512 + r.val) q j := by
  have first : ∀ (n : ℕ) (hn : n < cfg0.N), n % 11 = 0 → accAt m c n hn (ix2 r q)
      = ∑ j ∈ Finset.range (n % 11 * 512 + 512), term (A0 m c) (A1 m c) (A2 m c) (A3 m c) (A4 m c) (A5 m c) (n / 44) (n / 11 % 4 * 512 + r.val) q j := by
    intro n hn h0
    rw [accAt_first m c ⟨n, hn⟩ h0]
    refine (step_at m c ⟨n, hn⟩ _ r q).trans ?_
    rw [pay6_at, zero_add, Finset.sum_range_add, h0, Nat.zero_mul, Finset.sum_range_zero, zero_add]
  intro n
  induction n with
  | zero => exact fun hn => first 0 hn rfl
  | succ n ih =>
    intro hn
    by_cases h0 : (n + 1) % 11 = 0
    · exact first _ hn h0
    · rw [accAt_next m c ⟨n + 1, hn⟩ h0 (Nat.lt_of_succ_lt hn)]
      refine (step_at m c ⟨n + 1, hn⟩ _ r q).trans ?_
      rw [Finset.sum_range_add]
      refine congrArg₂ (· + ·) ((ih (Nat.lt_of_succ_lt hn)).trans ?_) rfl
      rw [show (n + 1) / 44 = n / 44 by omega, show (n + 1) / 11 = n / 11 by omega, show (n + 1) % 11 * 512 = n % 11 * 512 + 512 by omega]
theorem acc_last (c : Dev nD) (t : Fin cfg0.N) (ht : t.val % 11 = 10) (r : Fin 512) (q : Fin 2048) : accAt m c t.val t.isLt (ix2 r q)
    = ∑ j : Fin 5504, act (cvv (A0 m c) (A1 m c) (A2 m c) (A3 m c) (A4 m c) (t.val / 44) (t.val / 11 % 4 * 512 + r.val) j.val)
        (cvv (A0 m c) (A1 m c) (A2 m c) (A3 m c) (A4 m c) (t.val / 44) (t.val / 11 % 4 * 512 + r.val) (5504 + j.val)) * A5 m c (ix2 j q) := by
  rw [acc_at, ht, show 10 * 512 + 512 = 5504 + 128 from rfl, Finset.sum_range_add, Finset.sum_range]
  rw [Finset.sum_eq_zero (s := Finset.range 128) fun j _ => by unfold term; exact dif_neg (by omega), add_zero]
  exact Finset.sum_congr rfl fun j _ => by unfold term; exact dif_pos j.isLt
end Cert.Kernel4Ideal.Conv
end
-- ==== Proof.ConvRunA.lean ====
module
public import proofs.«01_k».proof.Proof.ConvStep
@[expose] public section
set_option maxRecDepth 16384
noncomputable section
namespace Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 4000000 in
theorem run0_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1024 .f32) (harg4 : arg4.IsWhole) (arg5 : Memref sig .tc .vmem S2048x1024 .bf16) (harg5 : arg5.IsWhole) (arg6 : Memref sig .tc .vmem S1x3x1024 .f32) (harg6 : arg6.IsWhole) (arg7 : Memref sig .tc .vmem S1x1x1024 .f32) (harg7 : arg7.IsWhole) (arg8 : Memref sig .tc .vmem S1x512x2048 .bf16) (harg8 : arg8.IsWhole) (arg9 : Memref sig .tc .vmem S512x2048 .f32) (harg9 : arg9.IsWhole) (arg10 : Memref sig .tc .vmem S1x2x1024 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S2x1024 .f32) (harg13 : arg13.IsWhole) (arg14 : Memref sig .tc .vmem S11x2x1024 .f32) (harg14 : arg14.IsWhole) (hc0 : cond0_0 i) (hc1 : cond0_1 i) (hc2 : ¬cond0_2 i) (hc3 : ¬cond0_3 i)
    (x0 : Vec F S512x2048 .f32) (x1 : Vec F S1x2048 .f32) (x2 : Vec F S2x1024 .f32) (x3 : Vec F S2048x1024 .bf16) (x4 : Vec F S1x3x1024 .f32) (x5 : Vec F S1x1x1024 .f32) (x6 : Vec F S1x512x2048 .bf16) (xs3 : Vec F S11x2x1024 .f32) (xi7 : Vec F S512x2048 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare xi7 ∗ (∃ d, owns c arg10 fullShare d) ∗ (∃ d, owns c arg11 fullShare d) ∗ (∃ d, owns c arg12 fullShare d) ∗ (∃ d, owns c arg13 fullShare d) ∗ owns c arg14 fullShare xs3
      ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare xi7 ∗ owns c arg10 fullShare (stOut (k0_pay5 x0 x1) x3) ∗ owns c arg11 fullShare (k0_pay5 x0 x1) ∗ owns c arg12 fullShare (accStep (k0_pay5 x0 x1) (k0_pay7 x2) k0_pay6 x3 x4 x5 x6) ∗ (∃ d, owns c arg13 fullShare d) ∗ owns c arg14 fullShare (arg14.view.read (Elt F) (arg14.view.writes (Elt F) (harg14.unread xs3) (tails i (k0_pay5 x0 x1) x3)))) -∗ K ⟨⟩))
    ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14) K := by
  simp only [cc0_conv_ffn_eq_skeleton]; unfold cc0_conv_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    (frame_out; exact View.read_writes_eq_canon _ _ (stPieces _ _) (stPieces_cover _ _))
  isplitl [HS0]
  · iexists _; isplitr; swap; · iexact HS0
    ipureintro
    (frame_out [View.readCov_fill]; rw [View.read_writes_eq_canon _ _ _ (View.cover_of_tiledL _ S512x2048.size (by sl_kernel_rfl)), View.canon_cons_unit_lit' _ _ _ (by decide)]; first | done | rfl)
  isplitl [HS1]
  · iexists _; isplitr; swap; · iexact HS1
    ipureintro
    (frame_out [View.readCov_fill]; rw [View.read_writes_eq_canon _ _ _ (View.cover_of_tiledL _ S512x2048.size (by sl_kernel_rfl)), View.canon_cons_unit_lit' _ _ _ (by decide)]; first | done | rfl)
  isplitl [HS2]
  · iexists _; iexists _; isplitr; swap; · iexact HS2
    ipureintro; rfl
  iexists _; isplitr; swap; · iexact HS3
  ipureintro
  (frame_out; rfl)
end Cert.Kernel4Ideal.Gen
end
-- ==== Proof.ConvRunB.lean ====
module
public import proofs.«01_k».proof.Proof.ConvRunA
@[expose] public section
set_option maxRecDepth 16384
noncomputable section
namespace Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 4000000 in
theorem run0_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1024 .f32) (harg4 : arg4.IsWhole) (arg5 : Memref sig .tc .vmem S2048x1024 .bf16) (harg5 : arg5.IsWhole) (arg6 : Memref sig .tc .vmem S1x3x1024 .f32) (harg6 : arg6.IsWhole) (arg7 : Memref sig .tc .vmem S1x1x1024 .f32) (harg7 : arg7.IsWhole) (arg8 : Memref sig .tc .vmem S1x512x2048 .bf16) (harg8 : arg8.IsWhole) (arg9 : Memref sig .tc .vmem S512x2048 .f32) (harg9 : arg9.IsWhole) (arg10 : Memref sig .tc .vmem S1x2x1024 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S2x1024 .f32) (harg13 : arg13.IsWhole) (arg14 : Memref sig .tc .vmem S11x2x1024 .f32) (harg14 : arg14.IsWhole) (hc0 : ¬cond0_0 i) (hc1 : cond0_1 i) (hc2 : ¬cond0_2 i) (hc3 : ¬cond0_3 i)
    (x0 : Vec F S512x2048 .f32) (x1 : Vec F S1x2048 .f32) (x2 : Vec F S2x1024 .f32) (x3 : Vec F S2048x1024 .bf16) (x4 : Vec F S1x3x1024 .f32) (x5 : Vec F S1x1x1024 .f32) (x6 : Vec F S1x512x2048 .bf16) (xs0 : Vec F S512x2048 .bf16) (xs1 : Vec F S512x2048 .f32) (xs3 : Vec F S11x2x1024 .f32) (xi7 : Vec F S512x2048 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare xi7 ∗ (∃ d, owns c arg10 fullShare d) ∗ owns c arg11 fullShare xs0 ∗ owns c arg12 fullShare xs1 ∗ (∃ d, owns c arg13 fullShare d) ∗ owns c arg14 fullShare xs3
      ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare xi7 ∗ owns c arg10 fullShare (stOut xs0 x3) ∗ owns c arg11 fullShare xs0 ∗ owns c arg12 fullShare (accStep xs0 (k0_pay7 x2) xs1 x3 x4 x5 x6) ∗ (∃ d, owns c arg13 fullShare d) ∗ owns c arg14 fullShare (arg14.view.read (Elt F) (arg14.view.writes (Elt F) (harg14.unread xs3) (tails i xs0 x3)))) -∗ K ⟨⟩))
    ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14) K := by
  simp only [cc0_conv_ffn_eq_skeleton]; unfold cc0_conv_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg14.eq_unread hfs3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    (frame_out; exact View.read_writes_eq_canon _ _ (stPieces _ _) (stPieces_cover _ _))
  isplitl [HS0]
  · iexists _; isplitr; · ipureintro; exact harg11.read_unread _
    iexact HS0
  isplitl [HS1]
  · iexists _; isplitr; swap; · iexact HS1
    ipureintro
    (frame_out [View.readCov_fill]; rw [View.read_writes_eq_canon _ _ _ (View.cover_of_tiledL _ S512x2048.size (by sl_kernel_rfl)), View.canon_cons_unit_lit' _ _ _ (by decide)]; first | done | rfl)
  isplitl [HS2]
  · iexists _; iexists _; isplitr; swap; · iexact HS2
    ipureintro; rfl
  iexists _; isplitr; swap; · iexact HS3
  ipureintro
  (frame_out; rfl)
end Cert.Kernel4Ideal.Gen
end
-- ==== Proof.ConvRunC.lean ====
module
public import proofs.«01_k».proof.Proof.ConvRunB
@[expose] public section
set_option maxRecDepth 16384
noncomputable section
namespace Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 4000000 in
theorem run0_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1024 .f32) (harg4 : arg4.IsWhole) (arg5 : Memref sig .tc .vmem S2048x1024 .bf16) (harg5 : arg5.IsWhole) (arg6 : Memref sig .tc .vmem S1x3x1024 .f32) (harg6 : arg6.IsWhole) (arg7 : Memref sig .tc .vmem S1x1x1024 .f32) (harg7 : arg7.IsWhole) (arg8 : Memref sig .tc .vmem S1x512x2048 .bf16) (harg8 : arg8.IsWhole) (arg9 : Memref sig .tc .vmem S512x2048 .f32) (harg9 : arg9.IsWhole) (arg10 : Memref sig .tc .vmem S1x2x1024 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S2x1024 .f32) (harg13 : arg13.IsWhole) (arg14 : Memref sig .tc .vmem S11x2x1024 .f32) (harg14 : arg14.IsWhole) (hc0 : ¬cond0_0 i) (hc1 : cond0_1 i) (hc2 : ¬cond0_2 i) (hc3 : cond0_3 i)
    (x0 : Vec F S512x2048 .f32) (x1 : Vec F S1x2048 .f32) (x2 : Vec F S2x1024 .f32) (x3 : Vec F S2048x1024 .bf16) (x4 : Vec F S1x3x1024 .f32) (x5 : Vec F S1x1x1024 .f32) (x6 : Vec F S1x512x2048 .bf16) (xs0 : Vec F S512x2048 .bf16) (xs1 : Vec F S512x2048 .f32) (xs3 : Vec F S11x2x1024 .f32) (xi7 : Vec F S512x2048 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare xi7 ∗ (∃ d, owns c arg10 fullShare d) ∗ owns c arg11 fullShare xs0 ∗ owns c arg12 fullShare xs1 ∗ (∃ d, owns c arg13 fullShare d) ∗ owns c arg14 fullShare xs3
      ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare (k0_pay4 x0 (accStep xs0 (k0_pay7 x2) xs1 x3 x4 x5 x6)) ∗ owns c arg10 fullShare (stOut xs0 x3) ∗ owns c arg11 fullShare xs0 ∗ owns c arg12 fullShare (accStep xs0 (k0_pay7 x2) xs1 x3 x4 x5 x6) ∗ (∃ d, owns c arg13 fullShare d) ∗ owns c arg14 fullShare (arg14.view.read (Elt F) (arg14.view.writes (Elt F) (harg14.unread xs3) (tails i xs0 x3)))) -∗ K ⟨⟩))
    ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14) K := by
  simp only [cc0_conv_ffn_eq_skeleton]; unfold cc0_conv_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg14.eq_unread hfs3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    (frame_out [View.readCov_fill]; rw [View.read_writes_eq_canon _ _ _ (View.cover_of_tiledL _ S512x2048.size (by sl_kernel_rfl)), View.canon_cons_unit_lit' _ _ _ (by decide)]; first | done | rfl)
  isplitl [H8]
  · iexists _; isplitr; swap; · iexact H8
    ipureintro
    (frame_out; exact View.read_writes_eq_canon _ _ (stPieces _ _) (stPieces_cover _ _))
  isplitl [HS0]
  · iexists _; isplitr; · ipureintro; exact harg11.read_unread _
    iexact HS0
  isplitl [HS1]
  · iexists _; isplitr; swap; · iexact HS1
    ipureintro
    (frame_out [View.readCov_fill]; rw [View.read_writes_eq_canon _ _ _ (View.cover_of_tiledL _ S512x2048.size (by sl_kernel_rfl)), View.canon_cons_unit_lit' _ _ _ (by decide)]; first | done | rfl)
  isplitl [HS2]
  · iexists _; iexists _; isplitr; swap; · iexact HS2
    ipureintro; rfl
  iexists _; isplitr; swap; · iexact HS3
  ipureintro
  (frame_out; rfl)
end Cert.Kernel4Ideal.Gen
end
-- ==== Proof.ConvRunD.lean ====
module
public import proofs.«01_k».proof.Proof.ConvRunC
@[expose] public section
set_option maxRecDepth 16384
noncomputable section
namespace Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 4000000 in
theorem run0_D (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1024 .f32) (harg4 : arg4.IsWhole) (arg5 : Memref sig .tc .vmem S2048x1024 .bf16) (harg5 : arg5.IsWhole) (arg6 : Memref sig .tc .vmem S1x3x1024 .f32) (harg6 : arg6.IsWhole) (arg7 : Memref sig .tc .vmem S1x1x1024 .f32) (harg7 : arg7.IsWhole) (arg8 : Memref sig .tc .vmem S1x512x2048 .bf16) (harg8 : arg8.IsWhole) (arg9 : Memref sig .tc .vmem S512x2048 .f32) (harg9 : arg9.IsWhole) (arg10 : Memref sig .tc .vmem S1x2x1024 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S2x1024 .f32) (harg13 : arg13.IsWhole) (arg14 : Memref sig .tc .vmem S11x2x1024 .f32) (harg14 : arg14.IsWhole) (hc0 : cond0_0 i) (hc1 : ¬cond0_1 i) (hc2 : cond0_2 i) (hc3 : ¬cond0_3 i)
    (x0 : Vec F S512x2048 .f32) (x1 : Vec F S1x2048 .f32) (x2 : Vec F S2x1024 .f32) (x3 : Vec F S2048x1024 .bf16) (x4 : Vec F S1x3x1024 .f32) (x5 : Vec F S1x1x1024 .f32) (x6 : Vec F S1x512x2048 .bf16) (xs3 : Vec F S11x2x1024 .f32) (xi7 : Vec F S512x2048 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare xi7 ∗ (∃ d, owns c arg10 fullShare d) ∗ (∃ d, owns c arg11 fullShare d) ∗ (∃ d, owns c arg12 fullShare d) ∗ (∃ d, owns c arg13 fullShare d) ∗ owns c arg14 fullShare xs3
      ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare xi7 ∗ owns c arg10 fullShare (stOut (k0_pay5 x0 x1) x3) ∗ owns c arg11 fullShare (k0_pay5 x0 x1) ∗ owns c arg12 fullShare (accStep (k0_pay5 x0 x1) (prevRows i hc2 xs3) k0_pay6 x3 x4 x5 x6) ∗ (∃ d, owns c arg13 fullShare d) ∗ owns c arg14 fullShare (arg14.view.read (Elt F) (arg14.view.writes (Elt F) (harg14.unread xs3) (tails i (k0_pay5 x0 x1) x3)))) -∗ K ⟨⟩))
    ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14) K := by
  simp only [cc0_conv_ffn_eq_skeleton]; unfold cc0_conv_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    (frame_out; exact View.read_writes_eq_canon _ _ (stPieces _ _) (stPieces_cover _ _))
  isplitl [HS0]
  · iexists _; isplitr; swap; · iexact HS0
    ipureintro
    (frame_out [View.readCov_fill]; rw [View.read_writes_eq_canon _ _ _ (View.cover_of_tiledL _ S512x2048.size (by sl_kernel_rfl)), View.canon_cons_unit_lit' _ _ _ (by decide)]; first | done | rfl)
  isplitl [HS1]
  · iexists _; isplitr; swap; · iexact HS1
    ipureintro
    (frame_out [View.readCov_fill]; rw [View.read_writes_eq_canon _ _ _ (View.cover_of_tiledL _ S512x2048.size (by sl_kernel_rfl)), View.canon_cons_unit_lit' _ _ _ (by decide)]; first | done | rfl)
  isplitl [HS2]
  · iexists _; iexists _; isplitr; swap; · iexact HS2
    ipureintro; rfl
  iexists _; isplitr; swap; · iexact HS3
  ipureintro
  (frame_out; rfl)
end Cert.Kernel4Ideal.Gen
end
-- ==== Proof.ConvRunE.lean ====
module
public import proofs.«01_k».proof.Proof.ConvRunD
@[expose] public section
set_option maxRecDepth 16384
noncomputable section
namespace Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 4000000 in
theorem run0_E (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1024 .f32) (harg4 : arg4.IsWhole) (arg5 : Memref sig .tc .vmem S2048x1024 .bf16) (harg5 : arg5.IsWhole) (arg6 : Memref sig .tc .vmem S1x3x1024 .f32) (harg6 : arg6.IsWhole) (arg7 : Memref sig .tc .vmem S1x1x1024 .f32) (harg7 : arg7.IsWhole) (arg8 : Memref sig .tc .vmem S1x512x2048 .bf16) (harg8 : arg8.IsWhole) (arg9 : Memref sig .tc .vmem S512x2048 .f32) (harg9 : arg9.IsWhole) (arg10 : Memref sig .tc .vmem S1x2x1024 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S2x1024 .f32) (harg13 : arg13.IsWhole) (arg14 : Memref sig .tc .vmem S11x2x1024 .f32) (harg14 : arg14.IsWhole) (hc0 : ¬cond0_0 i) (hc1 : ¬cond0_1 i) (hc2 : cond0_2 i) (hc3 : ¬cond0_3 i)
    (x0 : Vec F S512x2048 .f32) (x1 : Vec F S1x2048 .f32) (x2 : Vec F S2x1024 .f32) (x3 : Vec F S2048x1024 .bf16) (x4 : Vec F S1x3x1024 .f32) (x5 : Vec F S1x1x1024 .f32) (x6 : Vec F S1x512x2048 .bf16) (xs0 : Vec F S512x2048 .bf16) (xs1 : Vec F S512x2048 .f32) (xs3 : Vec F S11x2x1024 .f32) (xi7 : Vec F S512x2048 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare xi7 ∗ (∃ d, owns c arg10 fullShare d) ∗ owns c arg11 fullShare xs0 ∗ owns c arg12 fullShare xs1 ∗ (∃ d, owns c arg13 fullShare d) ∗ owns c arg14 fullShare xs3
      ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare xi7 ∗ owns c arg10 fullShare (stOut xs0 x3) ∗ owns c arg11 fullShare xs0 ∗ owns c arg12 fullShare (accStep xs0 (prevRows i hc2 xs3) xs1 x3 x4 x5 x6) ∗ (∃ d, owns c arg13 fullShare d) ∗ owns c arg14 fullShare (arg14.view.read (Elt F) (arg14.view.writes (Elt F) (harg14.unread xs3) (tails i xs0 x3)))) -∗ K ⟨⟩))
    ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14) K := by
  simp only [cc0_conv_ffn_eq_skeleton]; unfold cc0_conv_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg14.eq_unread hfs3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    (frame_out; exact View.read_writes_eq_canon _ _ (stPieces _ _) (stPieces_cover _ _))
  isplitl [HS0]
  · iexists _; isplitr; · ipureintro; exact harg11.read_unread _
    iexact HS0
  isplitl [HS1]
  · iexists _; isplitr; swap; · iexact HS1
    ipureintro
    (frame_out [View.readCov_fill]; rw [View.read_writes_eq_canon _ _ _ (View.cover_of_tiledL _ S512x2048.size (by sl_kernel_rfl)), View.canon_cons_unit_lit' _ _ _ (by decide)]; first | done | rfl)
  isplitl [HS2]
  · iexists _; iexists _; isplitr; swap; · iexact HS2
    ipureintro; rfl
  iexists _; isplitr; swap; · iexact HS3
  ipureintro
  (frame_out; rfl)
end Cert.Kernel4Ideal.Gen
end
-- ==== Proof.ConvRunF.lean ====
module
public import proofs.«01_k».proof.Proof.ConvRunE
@[expose] public section
set_option maxRecDepth 16384
noncomputable section
namespace Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 4000000 in
theorem run0_F (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1024 .f32) (harg4 : arg4.IsWhole) (arg5 : Memref sig .tc .vmem S2048x1024 .bf16) (harg5 : arg5.IsWhole) (arg6 : Memref sig .tc .vmem S1x3x1024 .f32) (harg6 : arg6.IsWhole) (arg7 : Memref sig .tc .vmem S1x1x1024 .f32) (harg7 : arg7.IsWhole) (arg8 : Memref sig .tc .vmem S1x512x2048 .bf16) (harg8 : arg8.IsWhole) (arg9 : Memref sig .tc .vmem S512x2048 .f32) (harg9 : arg9.IsWhole) (arg10 : Memref sig .tc .vmem S1x2x1024 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S2x1024 .f32) (harg13 : arg13.IsWhole) (arg14 : Memref sig .tc .vmem S11x2x1024 .f32) (harg14 : arg14.IsWhole) (hc0 : ¬cond0_0 i) (hc1 : ¬cond0_1 i) (hc2 : cond0_2 i) (hc3 : cond0_3 i)
    (x0 : Vec F S512x2048 .f32) (x1 : Vec F S1x2048 .f32) (x2 : Vec F S2x1024 .f32) (x3 : Vec F S2048x1024 .bf16) (x4 : Vec F S1x3x1024 .f32) (x5 : Vec F S1x1x1024 .f32) (x6 : Vec F S1x512x2048 .bf16) (xs0 : Vec F S512x2048 .bf16) (xs1 : Vec F S512x2048 .f32) (xs3 : Vec F S11x2x1024 .f32) (xi7 : Vec F S512x2048 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare xi7 ∗ (∃ d, owns c arg10 fullShare d) ∗ owns c arg11 fullShare xs0 ∗ owns c arg12 fullShare xs1 ∗ (∃ d, owns c arg13 fullShare d) ∗ owns c arg14 fullShare xs3
      ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare (k0_pay4 x0 (accStep xs0 (prevRows i hc2 xs3) xs1 x3 x4 x5 x6)) ∗ owns c arg10 fullShare (stOut xs0 x3) ∗ owns c arg11 fullShare xs0 ∗ owns c arg12 fullShare (accStep xs0 (prevRows i hc2 xs3) xs1 x3 x4 x5 x6) ∗ (∃ d, owns c arg13 fullShare d) ∗ owns c arg14 fullShare (arg14.view.read (Elt F) (arg14.view.writes (Elt F) (harg14.unread xs3) (tails i xs0 x3)))) -∗ K ⟨⟩))
    ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14) K := by
  simp only [cc0_conv_ffn_eq_skeleton]; unfold cc0_conv_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg14.eq_unread hfs3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    (frame_out [View.readCov_fill]; rw [View.read_writes_eq_canon _ _ _ (View.cover_of_tiledL _ S512x2048.size (by sl_kernel_rfl)), View.canon_cons_unit_lit' _ _ _ (by decide)]; first | done | rfl)
  isplitl [H8]
  · iexists _; isplitr; swap; · iexact H8
    ipureintro
    (frame_out; exact View.read_writes_eq_canon _ _ (stPieces _ _) (stPieces_cover _ _))
  isplitl [HS0]
  · iexists _; isplitr; · ipureintro; exact harg11.read_unread _
    iexact HS0
  isplitl [HS1]
  · iexists _; isplitr; swap; · iexact HS1
    ipureintro
    (frame_out [View.readCov_fill]; rw [View.read_writes_eq_canon _ _ _ (View.cover_of_tiledL _ S512x2048.size (by sl_kernel_rfl)), View.canon_cons_unit_lit' _ _ _ (by decide)]; first | done | rfl)
  isplitl [HS2]
  · iexists _; iexists _; isplitr; swap; · iexact HS2
    ipureintro; rfl
  iexists _; isplitr; swap; · iexact HS3
  ipureintro
  (frame_out; rfl)
end Cert.Kernel4Ideal.Gen
end
-- ==== Proof.ConvFrame.lean ====
module
public import proofs.«01_k».proof.Proof.ConvState
public import proofs.«01_k».proof.Proof.ConvRunF
public import Idealize.ShloMosaic.Lib.Claim
@[expose] public section
set_option maxRecDepth 16384
noncomputable section
namespace Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 4000000 in
theorem step_A (c : Dev nD) (t : Fin cfg0.N) (h0 : cond0_0 (grid0.coords t)) (h1 : cond0_1 (grid0.coords t)) (h2 : ¬cond0_2 (grid0.coords t)) (h3 : ¬cond0_3 (grid0.coords t)) (dh : Vec F S512x2048 .bf16) (da : Vec F S512x2048 .f32) (d : Vec F S11x2x1024 .f32)
    (hz : t.val ≠ 0 → ∀ hp : t.val - 1 < cfg0.N, dh = hAt m c (t.val - 1) hp ∧ da = accAt m c (t.val - 1) hp) (hd : Agree m c t.val (Nat.le_of_lt t.isLt) d)
    (xi7 : Vec F S512x2048 .f32) (E : Set ℕ) (K : PUnit → sProp 𝕄) :
    iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare xi7 ∗ (∃ d, owns c (ms0_8 t) fullShare d)
      ∗ owns c scM0_0 fullShare dh ∗ owns c scM0_1 fullShare da ∗ (∃ d, owns c scM0_2 fullShare d) ∗ owns c scM0_3 fullShare d
      ∗ (iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare (if t.val % 11 = 10 then k0_pay4 (iblk m c 0 t) (accAt m c t.val t.isLt) else xi7) ∗ owns c (ms0_8 t) fullShare (stOut (hAt m c t.val t.isLt) (iblk m c 3 t))
      ∗ owns c scM0_0 fullShare (hAt m c t.val t.isLt) ∗ owns c scM0_1 fullShare (accAt m c t.val t.isLt) ∗ (∃ d, owns c scM0_2 fullShare d) ∗ owns c scM0_3 fullShare (carryStep (grid0.coords t) (hAt m c t.val t.isLt) (iblk m c 3 t) d)) -∗ K ⟨⟩))
    ⊢ wp frame (wpE (defs₀ (F := F)) Variants.none c none) E (bodyAt0 t) K := by
  have g0 : t.val % 11 = 0 := (hcond0_0 t).mp h0
  have e1 := hAt_first m c t g0
  have e2 := accAt_first m c t g0
  have e3 := histAt_first m c t h2
  rw [if_neg (fun e => h3 ((hcond0_3 t).mpr e)), e2, e3, e1]
  unfold carryStep bodyAt0
  iintro ⟨H0, H1, H2, H3, H4, H5, H6, H7, H8, HS0, HS1, HS2, HS3, Hk⟩
  iapply (run0_A c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) _ (Memref.isWhole_whole _) _ (Memref.isWhole_whole _) h0 h1 h2 h3 (iblk m c 0 t) (iblk m c 1 t) (iblk m c 2 t) (iblk m c 3 t) (iblk m c 4 t) (iblk m c 5 t) (iblk m c 6 t) d xi7 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexists _; iexact HS1
  isplitl [HS2]; · iexact HS2
  isplitl [HS3]; · iexact HS3
  iexact Hk
set_option maxHeartbeats 4000000 in
theorem step_B (c : Dev nD) (t : Fin cfg0.N) (h0 : ¬cond0_0 (grid0.coords t)) (h1 : cond0_1 (grid0.coords t)) (h2 : ¬cond0_2 (grid0.coords t)) (h3 : ¬cond0_3 (grid0.coords t)) (dh : Vec F S512x2048 .bf16) (da : Vec F S512x2048 .f32) (d : Vec F S11x2x1024 .f32)
    (hz : t.val ≠ 0 → ∀ hp : t.val - 1 < cfg0.N, dh = hAt m c (t.val - 1) hp ∧ da = accAt m c (t.val - 1) hp) (hd : Agree m c t.val (Nat.le_of_lt t.isLt) d)
    (xi7 : Vec F S512x2048 .f32) (E : Set ℕ) (K : PUnit → sProp 𝕄) :
    iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare xi7 ∗ (∃ d, owns c (ms0_8 t) fullShare d)
      ∗ owns c scM0_0 fullShare dh ∗ owns c scM0_1 fullShare da ∗ (∃ d, owns c scM0_2 fullShare d) ∗ owns c scM0_3 fullShare d
      ∗ (iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare (if t.val % 11 = 10 then k0_pay4 (iblk m c 0 t) (accAt m c t.val t.isLt) else xi7) ∗ owns c (ms0_8 t) fullShare (stOut (hAt m c t.val t.isLt) (iblk m c 3 t))
      ∗ owns c scM0_0 fullShare (hAt m c t.val t.isLt) ∗ owns c scM0_1 fullShare (accAt m c t.val t.isLt) ∗ (∃ d, owns c scM0_2 fullShare d) ∗ owns c scM0_3 fullShare (carryStep (grid0.coords t) (hAt m c t.val t.isLt) (iblk m c 3 t) d)) -∗ K ⟨⟩))
    ⊢ wp frame (wpE (defs₀ (F := F)) Variants.none c none) E (bodyAt0 t) K := by
  have g0 : ¬t.val % 11 = 0 := fun e => h0 ((hcond0_0 t).mpr e)
  have hp : t.val - 1 < cfg0.N := lt_of_le_of_lt (Nat.sub_le _ _) t.isLt
  obtain ⟨rfl, rfl⟩ := hz (fun e => g0 (by rw [e])) hp
  have e1 := hAt_next m c t g0 hp
  have e2 := accAt_next m c t g0 hp
  have e3 := histAt_first m c t h2
  rw [if_neg (fun e => h3 ((hcond0_3 t).mpr e)), e2, e3, e1]
  unfold carryStep bodyAt0
  exact run0_B c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) _ (Memref.isWhole_whole _) _ (Memref.isWhole_whole _) h0 h1 h2 h3 (iblk m c 0 t) (iblk m c 1 t) (iblk m c 2 t) (iblk m c 3 t) (iblk m c 4 t) (iblk m c 5 t) (iblk m c 6 t) (hAt m c (t.val - 1) hp) (accAt m c (t.val - 1) hp) d xi7 E K
set_option maxHeartbeats 4000000 in
theorem step_C (c : Dev nD) (t : Fin cfg0.N) (h0 : ¬cond0_0 (grid0.coords t)) (h1 : cond0_1 (grid0.coords t)) (h2 : ¬cond0_2 (grid0.coords t)) (h3 : cond0_3 (grid0.coords t)) (dh : Vec F S512x2048 .bf16) (da : Vec F S512x2048 .f32) (d : Vec F S11x2x1024 .f32)
    (hz : t.val ≠ 0 → ∀ hp : t.val - 1 < cfg0.N, dh = hAt m c (t.val - 1) hp ∧ da = accAt m c (t.val - 1) hp) (hd : Agree m c t.val (Nat.le_of_lt t.isLt) d)
    (xi7 : Vec F S512x2048 .f32) (E : Set ℕ) (K : PUnit → sProp 𝕄) :
    iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare xi7 ∗ (∃ d, owns c (ms0_8 t) fullShare d)
      ∗ owns c scM0_0 fullShare dh ∗ owns c scM0_1 fullShare da ∗ (∃ d, owns c scM0_2 fullShare d) ∗ owns c scM0_3 fullShare d
      ∗ (iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare (if t.val % 11 = 10 then k0_pay4 (iblk m c 0 t) (accAt m c t.val t.isLt) else xi7) ∗ owns c (ms0_8 t) fullShare (stOut (hAt m c t.val t.isLt) (iblk m c 3 t))
      ∗ owns c scM0_0 fullShare (hAt m c t.val t.isLt) ∗ owns c scM0_1 fullShare (accAt m c t.val t.isLt) ∗ (∃ d, owns c scM0_2 fullShare d) ∗ owns c scM0_3 fullShare (carryStep (grid0.coords t) (hAt m c t.val t.isLt) (iblk m c 3 t) d)) -∗ K ⟨⟩))
    ⊢ wp frame (wpE (defs₀ (F := F)) Variants.none c none) E (bodyAt0 t) K := by
  have g0 : ¬t.val % 11 = 0 := fun e => h0 ((hcond0_0 t).mpr e)
  have hp : t.val - 1 < cfg0.N := lt_of_le_of_lt (Nat.sub_le _ _) t.isLt
  obtain ⟨rfl, rfl⟩ := hz (fun e => g0 (by rw [e])) hp
  have e1 := hAt_next m c t g0 hp
  have e2 := accAt_next m c t g0 hp
  have e3 := histAt_first m c t h2
  rw [if_pos ((hcond0_3 t).mp h3), e2, e3, e1]
  unfold carryStep bodyAt0
  exact run0_C c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) _ (Memref.isWhole_whole _) _ (Memref.isWhole_whole _) h0 h1 h2 h3 (iblk m c 0 t) (iblk m c 1 t) (iblk m c 2 t) (iblk m c 3 t) (iblk m c 4 t) (iblk m c 5 t) (iblk m c 6 t) (hAt m c (t.val - 1) hp) (accAt m c (t.val - 1) hp) d xi7 E K
set_option maxHeartbeats 4000000 in
theorem step_D (c : Dev nD) (t : Fin cfg0.N) (h0 : cond0_0 (grid0.coords t)) (h1 : ¬cond0_1 (grid0.coords t)) (h2 : cond0_2 (grid0.coords t)) (h3 : ¬cond0_3 (grid0.coords t)) (dh : Vec F S512x2048 .bf16) (da : Vec F S512x2048 .f32) (d : Vec F S11x2x1024 .f32)
    (hz : t.val ≠ 0 → ∀ hp : t.val - 1 < cfg0.N, dh = hAt m c (t.val - 1) hp ∧ da = accAt m c (t.val - 1) hp) (hd : Agree m c t.val (Nat.le_of_lt t.isLt) d)
    (xi7 : Vec F S512x2048 .f32) (E : Set ℕ) (K : PUnit → sProp 𝕄) :
    iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare xi7 ∗ (∃ d, owns c (ms0_8 t) fullShare d)
      ∗ owns c scM0_0 fullShare dh ∗ owns c scM0_1 fullShare da ∗ (∃ d, owns c scM0_2 fullShare d) ∗ owns c scM0_3 fullShare d
      ∗ (iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare (if t.val % 11 = 10 then k0_pay4 (iblk m c 0 t) (accAt m c t.val t.isLt) else xi7) ∗ owns c (ms0_8 t) fullShare (stOut (hAt m c t.val t.isLt) (iblk m c 3 t))
      ∗ owns c scM0_0 fullShare (hAt m c t.val t.isLt) ∗ owns c scM0_1 fullShare (accAt m c t.val t.isLt) ∗ (∃ d, owns c scM0_2 fullShare d) ∗ owns c scM0_3 fullShare (carryStep (grid0.coords t) (hAt m c t.val t.isLt) (iblk m c 3 t) d)) -∗ K ⟨⟩))
    ⊢ wp frame (wpE (defs₀ (F := F)) Variants.none c none) E (bodyAt0 t) K := by
  have g0 : t.val % 11 = 0 := (hcond0_0 t).mp h0
  have e1 := hAt_first m c t g0
  have e2 := accAt_first m c t g0
  obtain rfl := agree_eq m c t d hd h2
  have e3 := histAt_next m c t h2
  rw [if_neg (fun e => h3 ((hcond0_3 t).mpr e)), e2, e3, e1]
  unfold carryStep bodyAt0
  iintro ⟨H0, H1, H2, H3, H4, H5, H6, H7, H8, HS0, HS1, HS2, HS3, Hk⟩
  iapply (run0_D c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) _ (Memref.isWhole_whole _) _ (Memref.isWhole_whole _) h0 h1 h2 h3 (iblk m c 0 t) (iblk m c 1 t) (iblk m c 2 t) (iblk m c 3 t) (iblk m c 4 t) (iblk m c 5 t) (iblk m c 6 t) (crAt m c t.val (Nat.le_of_lt t.isLt)) xi7 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexists _; iexact HS1
  isplitl [HS2]; · iexact HS2
  isplitl [HS3]; · iexact HS3
  iexact Hk
set_option maxHeartbeats 4000000 in
theorem step_E (c : Dev nD) (t : Fin cfg0.N) (h0 : ¬cond0_0 (grid0.coords t)) (h1 : ¬cond0_1 (grid0.coords t)) (h2 : cond0_2 (grid0.coords t)) (h3 : ¬cond0_3 (grid0.coords t)) (dh : Vec F S512x2048 .bf16) (da : Vec F S512x2048 .f32) (d : Vec F S11x2x1024 .f32)
    (hz : t.val ≠ 0 → ∀ hp : t.val - 1 < cfg0.N, dh = hAt m c (t.val - 1) hp ∧ da = accAt m c (t.val - 1) hp) (hd : Agree m c t.val (Nat.le_of_lt t.isLt) d)
    (xi7 : Vec F S512x2048 .f32) (E : Set ℕ) (K : PUnit → sProp 𝕄) :
    iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare xi7 ∗ (∃ d, owns c (ms0_8 t) fullShare d)
      ∗ owns c scM0_0 fullShare dh ∗ owns c scM0_1 fullShare da ∗ (∃ d, owns c scM0_2 fullShare d) ∗ owns c scM0_3 fullShare d
      ∗ (iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare (if t.val % 11 = 10 then k0_pay4 (iblk m c 0 t) (accAt m c t.val t.isLt) else xi7) ∗ owns c (ms0_8 t) fullShare (stOut (hAt m c t.val t.isLt) (iblk m c 3 t))
      ∗ owns c scM0_0 fullShare (hAt m c t.val t.isLt) ∗ owns c scM0_1 fullShare (accAt m c t.val t.isLt) ∗ (∃ d, owns c scM0_2 fullShare d) ∗ owns c scM0_3 fullShare (carryStep (grid0.coords t) (hAt m c t.val t.isLt) (iblk m c 3 t) d)) -∗ K ⟨⟩))
    ⊢ wp frame (wpE (defs₀ (F := F)) Variants.none c none) E (bodyAt0 t) K := by
  have g0 : ¬t.val % 11 = 0 := fun e => h0 ((hcond0_0 t).mpr e)
  have hp : t.val - 1 < cfg0.N := lt_of_le_of_lt (Nat.sub_le _ _) t.isLt
  obtain ⟨rfl, rfl⟩ := hz (fun e => g0 (by rw [e])) hp
  have e1 := hAt_next m c t g0 hp
  have e2 := accAt_next m c t g0 hp
  obtain rfl := agree_eq m c t d hd h2
  have e3 := histAt_next m c t h2
  rw [if_neg (fun e => h3 ((hcond0_3 t).mpr e)), e2, e3, e1]
  unfold carryStep bodyAt0
  exact run0_E c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) _ (Memref.isWhole_whole _) _ (Memref.isWhole_whole _) h0 h1 h2 h3 (iblk m c 0 t) (iblk m c 1 t) (iblk m c 2 t) (iblk m c 3 t) (iblk m c 4 t) (iblk m c 5 t) (iblk m c 6 t) (hAt m c (t.val - 1) hp) (accAt m c (t.val - 1) hp) (crAt m c t.val (Nat.le_of_lt t.isLt)) xi7 E K
set_option maxHeartbeats 4000000 in
theorem step_F (c : Dev nD) (t : Fin cfg0.N) (h0 : ¬cond0_0 (grid0.coords t)) (h1 : ¬cond0_1 (grid0.coords t)) (h2 : cond0_2 (grid0.coords t)) (h3 : cond0_3 (grid0.coords t)) (dh : Vec F S512x2048 .bf16) (da : Vec F S512x2048 .f32) (d : Vec F S11x2x1024 .f32)
    (hz : t.val ≠ 0 → ∀ hp : t.val - 1 < cfg0.N, dh = hAt m c (t.val - 1) hp ∧ da = accAt m c (t.val - 1) hp) (hd : Agree m c t.val (Nat.le_of_lt t.isLt) d)
    (xi7 : Vec F S512x2048 .f32) (E : Set ℕ) (K : PUnit → sProp 𝕄) :
    iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare xi7 ∗ (∃ d, owns c (ms0_8 t) fullShare d)
      ∗ owns c scM0_0 fullShare dh ∗ owns c scM0_1 fullShare da ∗ (∃ d, owns c scM0_2 fullShare d) ∗ owns c scM0_3 fullShare d
      ∗ (iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare (if t.val % 11 = 10 then k0_pay4 (iblk m c 0 t) (accAt m c t.val t.isLt) else xi7) ∗ owns c (ms0_8 t) fullShare (stOut (hAt m c t.val t.isLt) (iblk m c 3 t))
      ∗ owns c scM0_0 fullShare (hAt m c t.val t.isLt) ∗ owns c scM0_1 fullShare (accAt m c t.val t.isLt) ∗ (∃ d, owns c scM0_2 fullShare d) ∗ owns c scM0_3 fullShare (carryStep (grid0.coords t) (hAt m c t.val t.isLt) (iblk m c 3 t) d)) -∗ K ⟨⟩))
    ⊢ wp frame (wpE (defs₀ (F := F)) Variants.none c none) E (bodyAt0 t) K := by
  have g0 : ¬t.val % 11 = 0 := fun e => h0 ((hcond0_0 t).mpr e)
  have hp : t.val - 1 < cfg0.N := lt_of_le_of_lt (Nat.sub_le _ _) t.isLt
  obtain ⟨rfl, rfl⟩ := hz (fun e => g0 (by rw [e])) hp
  have e1 := hAt_next m c t g0 hp
  have e2 := accAt_next m c t g0 hp
  obtain rfl := agree_eq m c t d hd h2
  have e3 := histAt_next m c t h2
  rw [if_pos ((hcond0_3 t).mp h3), e2, e3, e1]
  unfold carryStep bodyAt0
  exact run0_F c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) _ (Memref.isWhole_whole _) _ (Memref.isWhole_whole _) h0 h1 h2 h3 (iblk m c 0 t) (iblk m c 1 t) (iblk m c 2 t) (iblk m c 3 t) (iblk m c 4 t) (iblk m c 5 t) (iblk m c 6 t) (hAt m c (t.val - 1) hp) (accAt m c (t.val - 1) hp) (crAt m c t.val (Nat.le_of_lt t.isLt)) xi7 E K
theorem step (c : Dev nD) (t : Fin cfg0.N) (dh : Vec F S512x2048 .bf16) (da : Vec F S512x2048 .f32) (d : Vec F S11x2x1024 .f32)
    (hz : t.val ≠ 0 → ∀ hp : t.val - 1 < cfg0.N, dh = hAt m c (t.val - 1) hp ∧ da = accAt m c (t.val - 1) hp) (hd : Agree m c t.val (Nat.le_of_lt t.isLt) d)
    (xi7 : Vec F S512x2048 .f32) (E : Set ℕ) (K : PUnit → sProp 𝕄) :
    iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare xi7 ∗ (∃ d, owns c (ms0_8 t) fullShare d)
      ∗ owns c scM0_0 fullShare dh ∗ owns c scM0_1 fullShare da ∗ (∃ d, owns c scM0_2 fullShare d) ∗ owns c scM0_3 fullShare d
      ∗ (iprop(owns c (ms0_0 t) fullShare (iblk m c 0 t) ∗ owns c (ms0_1 t) fullShare (iblk m c 1 t) ∗ owns c (ms0_2 t) fullShare (iblk m c 2 t) ∗ owns c (ms0_3 t) fullShare (iblk m c 3 t) ∗ owns c (ms0_4 t) fullShare (iblk m c 4 t) ∗ owns c (ms0_5 t) fullShare (iblk m c 5 t) ∗ owns c (ms0_6 t) fullShare (iblk m c 6 t) ∗ owns c (ms0_7 t) fullShare (if t.val % 11 = 10 then k0_pay4 (iblk m c 0 t) (accAt m c t.val t.isLt) else xi7) ∗ owns c (ms0_8 t) fullShare (stOut (hAt m c t.val t.isLt) (iblk m c 3 t))
      ∗ owns c scM0_0 fullShare (hAt m c t.val t.isLt) ∗ owns c scM0_1 fullShare (accAt m c t.val t.isLt) ∗ (∃ d, owns c scM0_2 fullShare d) ∗ owns c scM0_3 fullShare (carryStep (grid0.coords t) (hAt m c t.val t.isLt) (iblk m c 3 t) d)) -∗ K ⟨⟩))
    ⊢ wp frame (wpE (defs₀ (F := F)) Variants.none c none) E (bodyAt0 t) K := by
  have c0 := hcond0_0 t
  have c1 := hcond0_1 t
  have c2 := hcond0_2 t
  have c3 := hcond0_3 t
  by_cases h0 : cond0_0 (grid0.coords t) <;> by_cases h1 : cond0_1 (grid0.coords t) <;> by_cases h2 : cond0_2 (grid0.coords t) <;> by_cases h3 : cond0_3 (grid0.coords t)
  · exfalso; exact (c2.mp h2) (c1.mp h1)
  · exfalso; exact (c2.mp h2) (c1.mp h1)
  · exfalso; have a := c0.mp h0; have b := c3.mp h3; omega
  · exact step_A m c t h0 h1 h2 h3 dh da d hz hd xi7 E K
  · exfalso; have a := c0.mp h0; have b := c3.mp h3; omega
  · exact step_D m c t h0 h1 h2 h3 dh da d hz hd xi7 E K
  · exfalso; exact h2 (c2.mpr (fun e => h1 (c1.mpr e)))
  · exfalso; exact h2 (c2.mpr (fun e => h1 (c1.mpr e)))
  · exfalso; exact (c2.mp h2) (c1.mp h1)
  · exfalso; exact (c2.mp h2) (c1.mp h1)
  · exact step_C m c t h0 h1 h2 h3 dh da d hz hd xi7 E K
  · exact step_B m c t h0 h1 h2 h3 dh da d hz hd xi7 E K
  · exact step_F m c t h0 h1 h2 h3 dh da d hz hd xi7 E K
  · exact step_E m c t h0 h1 h2 h3 dh da d hz hd xi7 E K
  · exfalso; exact h2 (c2.mpr (fun e => h1 (c1.mpr e)))
  · exfalso; exact h2 (c2.mpr (fun e => h1 (c1.mpr e)))
def PhiS (c : Dev nD) : (n : ℕ) → n ≤ cfg0.N → sProp 𝕄
  | 0, _ => Pipeline.ΦA spec0 c
  | n + 1, hn => iprop(iprop(owns c scM0_0 fullShare (hAt m c n hn) ∗ owns c scM0_1 fullShare (accAt m c n hn) ∗ (∃ d, owns c scM0_2 fullShare d) ∗ (∃ d, iprop(⌜Agree m c (n + 1) hn d⌝ ∗ owns c scM0_3 fullShare d))) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = iprop(iprop(owns c scM0_0 fullShare (hAt m c n hn) ∗ owns c scM0_1 fullShare (accAt m c n hn) ∗ (∃ d, owns c scM0_2 fullShare d) ∗ (∃ d, iprop(⌜Agree m c (n + 1) hn d⌝ ∗ owns c scM0_3 fullShare d))) ∗ (∃ r, prngReg c r)) := rfl
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay4 (iblk m c 0 t) (accAt m c t.val t.isLt)
    | ⟨8, _⟩ => stOut (hAt m c t.val t.isLt) (iblk m c 3 t)
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay4 (iblk m c 0 t) (accAt m c t.val t.isLt) := by dsimp only [dats]
theorem after0_8 (c : Dev nD) (t : Fin cfg0.N) : (dats m 0 c).after 8 t = stOut (hAt m c t.val t.isLt) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
def bodyPre (c : Dev nD) (t : Fin cfg0.N) : sProp 𝕄 :=
  iprop((dats m 0 c).Φ t.castSucc ∗ (dats m 0 c).owesAt () t.castSucc
    ∗ (∃ d, owns c (ms0_0 t) fullShare ((dats m 0 c).before 0 t d))
    ∗ (∃ d, owns c (ms0_1 t) fullShare ((dats m 0 c).before 1 t d))
    ∗ (∃ d, owns c (ms0_2 t) fullShare ((dats m 0 c).before 2 t d))
    ∗ (∃ d, owns c (ms0_3 t) fullShare ((dats m 0 c).before 3 t d))
    ∗ (∃ d, owns c (ms0_4 t) fullShare ((dats m 0 c).before 4 t d))
    ∗ (∃ d, owns c (ms0_5 t) fullShare ((dats m 0 c).before 5 t d))
    ∗ (∃ d, owns c (ms0_6 t) fullShare ((dats m 0 c).before 6 t d))
    ∗ (∃ d, owns c (ms0_7 t) fullShare ((dats m 0 c).before 7 t d))
    ∗ (∃ d, owns c (ms0_8 t) fullShare ((dats m 0 c).before 8 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)
theorem Phi_pre (c : Dev nD) (t : Fin cfg0.N) : (dats m 0 c).Φ t.castSucc ⊢ (iprop(∃ dh, ∃ da, ∃ d, iprop(⌜(t.val ≠ 0 → ∀ hp : t.val - 1 < cfg0.N, dh = hAt m c (t.val - 1) hp ∧ da = accAt m c (t.val - 1) hp) ∧ Agree m c t.val (Nat.le_of_lt t.isLt) d⌝
      ∗ owns c scM0_0 fullShare dh ∗ owns c scM0_1 fullShare da ∗ (∃ d, owns c scM0_2 fullShare d) ∗ owns c scM0_3 fullShare d ∗ (∃ r, prngReg c r))) : sProp 𝕄) := by
  rw [show (dats m 0 c).Φ t.castSucc = PhiS m c t.val (Nat.le_of_lt t.isLt) from by dsimp only [dats]; exact Pipeline.Dat.Φ_castSucc (PhiS m c) t]
  obtain ⟨n, hn⟩ := t
  cases n with
  | zero =>
    rw [PhiS_zero m c _ _ rfl, PhiA0_eq]
    iintro ⟨⟨⟨%dh, HS0⟩, ⟨%da, HS1⟩, HS2, ⟨%d, HS3⟩⟩, Hg⟩
    iexists dh; iexists da; iexists d
    isplitr
    · ipureintro; exact ⟨fun h => absurd rfl h, fun y hy => absurd hy (Nat.not_lt_zero _)⟩
    isplitl [HS0]; · iexact HS0
    isplitl [HS1]; · iexact HS1
    isplitl [HS2]; · iexact HS2
    isplitl [HS3]; · iexact HS3
    iexact Hg
  | succ n =>
    rw [PhiS_succ]
    iintro ⟨⟨HS0, HS1, HS2, ⟨%d, %hd, HS3⟩⟩, Hg⟩
    iexists _; iexists _; iexists d
    isplitr
    swap
    · isplitl [HS0]; · iexact HS0
      isplitl [HS1]; · iexact HS1
      isplitl [HS2]; · iexact HS2
      isplitl [HS3]; · iexact HS3
      iexact Hg
    ipureintro; exact ⟨fun _ _ => ⟨rfl, rfl⟩, hd⟩
set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns c (ms0_0 t) fullShare ((dats m 0 c).after 0 t) from by
    unfold Dat.leavesExact; rw [liveAt0_0 t], after0_0]
  rw [show (dats m 0 c).leavesExact 1 t = owns c (ms0_1 t) fullShare ((dats m 0 c).after 1 t) from by
    unfold Dat.leavesExact; rw [liveAt0_1 t], after0_1]
  rw [show (dats m 0 c).leavesExact 2 t = owns c (ms0_2 t) fullShare ((dats m 0 c).after 2 t) from by
    unfold Dat.leavesExact; rw [liveAt0_2 t], after0_2]
  rw [show (dats m 0 c).leavesExact 3 t = owns c (ms0_3 t) fullShare ((dats m 0 c).after 3 t) from by
    unfold Dat.leavesExact; rw [liveAt0_3 t], after0_3]
  rw [show (dats m 0 c).leavesExact 4 t = owns c (ms0_4 t) fullShare ((dats m 0 c).after 4 t) from by
    unfold Dat.leavesExact; rw [liveAt0_4 t], after0_4]
  rw [show (dats m 0 c).leavesExact 5 t = owns c (ms0_5 t) fullShare ((dats m 0 c).after 5 t) from by
    unfold Dat.leavesExact; rw [liveAt0_5 t], after0_5]
  rw [show (dats m 0 c).leavesExact 6 t = owns c (ms0_6 t) fullShare ((dats m 0 c).after 6 t) from by
    unfold Dat.leavesExact; rw [liveAt0_6 t], after0_6]
  rw [show (dats m 0 c).leavesExact 8 t = owns c (ms0_8 t) fullShare ((dats m 0 c).after 8 t) from by
    unfold Dat.leavesExact; rw [liveAt0_8 t], after0_8]
  by_cases h7 : t.val % 11 = 10
  · rw [show (dats m 0 c).leavesExact 7 t = owns c (ms0_7 t) fullShare ((dats m 0 c).after 7 t) from by
      unfold Dat.leavesExact; rw [(by decide +kernel : ∀ t : Fin cfg0.N, t.val % 11 = 10 → cfg0.idle 7 (grid0.coords t) = false) t h7], after0_7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := Phi_pre m c t $$ HΦ
    icases HΦ with ⟨%dh, %da, %d, %hh, HS0, HS1, HS2, HS3, Hg⟩
    iapply (step m c t dh da d hh.1 hh.2 ((dats m 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    rw [if_pos h7]
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexists _; isplitr; swap; · iexact HS3
        ipureintro; exact agree_step m c t d hh.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dats m 0 c) 7 t ((by decide +kernel : ∀ t : Fin cfg0.N, ¬t.val % 11 = 10 → cfg0.idle 7 (grid0.coords t) = true) t h7)
      ((by decide +kernel : ∀ t : Fin cfg0.N, ¬t.val % 11 = 10 → (cfg0.win 7).flush t = false) t h7)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := Phi_pre m c t $$ HΦ
    icases HΦ with ⟨%dh, %da, %d, %hh, HS0, HS1, HS2, HS3, Hg⟩
    iapply (step m c t dh da d hh.1 hh.2 ((dats m 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    rw [if_neg h7]
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexists _; isplitr; swap; · iexact HS3
        ipureintro; exact agree_step m c t d hh.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexact H8
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  rw [show (dats m 0 c).Φ (Fin.last cfg0.N) = PhiS m c (703 + 1) (lt_of_lt_of_eq (by decide : 703 < 704) N_0.symm) from rfl, PhiS_succ, PhiA0_eq]
  iintro ⟨⟨HS0, HS1, HS2, ⟨%d, %hd, HS3⟩⟩, Hg⟩
  isplitl [HS0 HS1 HS2 HS3]
  · isplitl [HS0]
    · iexists _; iexact HS0
    isplitl [HS1]
    · iexists _; iexact HS1
    isplitl [HS2]
    · iexact HS2
    iexists _; iexact HS3
  iexact Hg
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))
end Cert.Kernel4Ideal.Gen
end
-- ==== Proof.ConvValue.lean ====
module
public import proofs.«01_k».proof.Defs
public import proofs.«01_k».proof.Proof.ConvAcc
public import proofs.«01_k».proof.Proof.ConvFrame
public import Idealize.ShloMosaic.Lib.Pipeline.Covers
public import Idealize.ShloMosaic.Lib.Claim
public import proofs.«01_k».proof.Proof.Gen.Reference4Ideal.Run
@[expose] public section
set_option maxRecDepth 16384
noncomputable section
open Idealize.ShloMosaic Idealize.ShloMosaic.TcCoe Idealize.SL.Sem
namespace Cert.Kernel4Ideal.Conv
open Cert.Kernel4Ideal Cert.Kernel4Ideal.Gen
abbrev REF (x : FVec Ideal Cert.Reference4Ideal.S16x2048x2048 .f32) (g : FVec Ideal Cert.Reference4Ideal.S2048 .f32)
    (w : FVec Ideal Cert.Reference4Ideal.S2048x11008 .f32) (cw : FVec Ideal Cert.Reference4Ideal.S3x11008 .f32)
    (cb : FVec Ideal Cert.Reference4Ideal.S11008 .f32) (wd : FVec Ideal Cert.Reference4Ideal.S5504x2048 .f32) :
    FVec Ideal Cert.Reference4Ideal.S32768x2048 .f32 :=
  shapeCast _ (addf x (Host.dotGeneral Cert.Reference4Ideal.dot_S16x2048x5504_S5504x2048_S16x2048x2048_2_0_01_1_n_n none (mulf (mulf (extractStridedSlice Cert.Reference4Ideal.S16x2048x5504 ![0, 0, 0] (addf (addf (addf (addf (broadcastInDim Cert.Reference4Ideal.S16x2048x11008 ![] Cert.Reference4Ideal.Gen.bcast_S_S16x2048x11008 (constant Cert.Reference4Ideal.S_ .f32 0x00000000#32)) (mulf (extractStridedSlice Cert.Reference4Ideal.S16x2048x11008 ![0, 0, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_0_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![0, 0] cw Cert.Reference4Ideal.Gen.slices_S3x11008_S1x11008_0_0) Cert.Reference4Ideal.Gen.shapeCasts_S1x11008_S11008))))) (mulf (extractStridedSlice Cert.Reference4Ideal.S16x2048x11008 ![0, 1, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_1_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![1, 0] cw Cert.Reference4Ideal.Gen.slices_S3x11008_S1x11008_1_0) Cert.Reference4Ideal.Gen.shapeCasts_S1x11008_S11008))))) (mulf (extractStridedSlice Cert.Reference4Ideal.S16x2048x11008 ![0, 2, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_2_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![2, 0] cw Cert.Reference4Ideal.Gen.slices_S3x11008_S1x11008_2_0) Cert.Reference4Ideal.Gen.shapeCasts_S1x11008_S11008))))) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 cb))) Cert.Reference4Ideal.Gen.slices_S16x2048x11008_S16x2048x5504_0_0_0) (mulf (broadcastInDim Cert.Reference4Ideal.S16x2048x5504 ![] Cert.Reference4Ideal.Gen.bcast_S_S16x2048x5504 (constant Cert.Reference4Ideal.S_ .f32 0x3F000000#32)) (addf (broadcastInDim Cert.Reference4Ideal.S16x2048x5504 ![] Cert.Reference4Ideal.Gen.bcast_S_S16x2048x5504 (constant Cert.Reference4Ideal.S_ .f32 0x3F800000#32)) (Host.tanh (mulf (broadcastInDim Cert.Reference4Ideal.S16x2048x5504 ![] Cert.Reference4Ideal.Gen.bcast_S_S16x2048x5504 (constant Cert.Reference4Ideal.S_ .f32 0x3F4C422A#32)) (addf (extractStridedSlice Cert.Reference4Ideal.S16x2048x5504 ![0, 0, 0] (addf (addf (addf (addf (broadcastInDim Cert.Reference4Ideal.S16x2048x11008 ![] Cert.Reference4Ideal.Gen.bcast_S_S16x2048x11008 (constant Cert.Reference4Ideal.S_ .f32 0x00000000#32)) (mulf (extractStridedSlice Cert.Reference4Ideal.S16x2048x11008 ![0, 0, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_0_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![0, 0] cw Cert.Reference4Ideal.Gen.slices_S3x11008_S1x11008_0_0) Cert.Reference4Ideal.Gen.shapeCasts_S1x11008_S11008))))) (mulf (extractStridedSlice Cert.Reference4Ideal.S16x2048x11008 ![0, 1, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_1_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![1, 0] cw Cert.Reference4Ideal.Gen.slices_S3x11008_S1x11008_1_0) Cert.Reference4Ideal.Gen.shapeCasts_S1x11008_S11008))))) (mulf (extractStridedSlice Cert.Reference4Ideal.S16x2048x11008 ![0, 2, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_2_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![2, 0] cw Cert.Reference4Ideal.Gen.slices_S3x11008_S1x11008_2_0) Cert.Reference4Ideal.Gen.shapeCasts_S1x11008_S11008))))) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 cb))) Cert.Reference4Ideal.Gen.slices_S16x2048x11008_S16x2048x5504_0_0_0) (mulf (broadcastInDim Cert.Reference4Ideal.S16x2048x5504 ![] Cert.Reference4Ideal.Gen.bcast_S_S16x2048x5504 (constant Cert.Reference4Ideal.S_ .f32 0x3D372713#32)) (mulf (mulf (extractStridedSlice Cert.Reference4Ideal.S16x2048x5504 ![0, 0, 0] (addf (addf (addf (addf (broadcastInDim Cert.Reference4Ideal.S16x2048x11008 ![] Cert.Reference4Ideal.Gen.bcast_S_S16x2048x11008 (constant Cert.Reference4Ideal.S_ .f32 0x00000000#32)) (mulf (extractStridedSlice Cert.Reference4Ideal.S16x2048x11008 ![0, 0, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_0_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![0, 0] cw Cert.Reference4Ideal.Gen.slices_S3x11008_S1x11008_0_0) Cert.Reference4Ideal.Gen.shapeCasts_S1x11008_S11008))))) (mulf (extractStridedSlice Cert.Reference4Ideal.S16x2048x11008 ![0, 1, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_1_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![1, 0] cw Cert.Reference4Ideal.Gen.slices_S3x11008_S1x11008_1_0) Cert.Reference4Ideal.Gen.shapeCasts_S1x11008_S11008))))) (mulf (extractStridedSlice Cert.Reference4Ideal.S16x2048x11008 ![0, 2, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_2_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![2, 0] cw Cert.Reference4Ideal.Gen.slices_S3x11008_S1x11008_2_0) Cert.Reference4Ideal.Gen.shapeCasts_S1x11008_S11008))))) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 cb))) Cert.Reference4Ideal.Gen.slices_S16x2048x11008_S16x2048x5504_0_0_0) (extractStridedSlice Cert.Reference4Ideal.S16x2048x5504 ![0, 0, 0] (addf (addf (addf (addf (broadcastInDim Cert.Reference4Ideal.S16x2048x11008 ![] Cert.Reference4Ideal.Gen.bcast_S_S16x2048x11008 (constant Cert.Reference4Ideal.S_ .f32 0x00000000#32)) (mulf (extractStridedSlice Cert.Reference4Ideal.S16x2048x11008 ![0, 0, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_0_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![0, 0] cw Cert.Reference4Ideal.Gen.slices_S3x11008_S1x11008_0_0) Cert.Reference4Ideal.Gen.shapeCasts_S1x11008_S11008))))) (mulf (extractStridedSlice Cert.Reference4Ideal.S16x2048x11008 ![0, 1, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_1_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![1, 0] cw Cert.Reference4Ideal.Gen.slices_S3x11008_S1x11008_1_0) Cert.Reference4Ideal.Gen.shapeCasts_S1x11008_S11008))))) (mulf (extractStridedSlice Cert.Reference4Ideal.S16x2048x11008 ![0, 2, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_2_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![2, 0] cw Cert.Reference4Ideal.Gen.slices_S3x11008_S1x11008_2_0) Cert.Reference4Ideal.Gen.shapeCasts_S1x11008_S11008))))) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 cb))) Cert.Reference4Ideal.Gen.slices_S16x2048x11008_S16x2048x5504_0_0_0)) (extractStridedSlice Cert.Reference4Ideal.S16x2048x5504 ![0, 0, 0] (addf (addf (addf (addf (broadcastInDim Cert.Reference4Ideal.S16x2048x11008 ![] Cert.Reference4Ideal.Gen.bcast_S_S16x2048x11008 (constant Cert.Reference4Ideal.S_ .f32 0x00000000#32)) (mulf (extractStridedSlice Cert.Reference4Ideal.S16x2048x11008 ![0, 0, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_0_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![0, 0] cw Cert.Reference4Ideal.Gen.slices_S3x11008_S1x11008_0_0) Cert.Reference4Ideal.Gen.shapeCasts_S1x11008_S11008))))) (mulf (extractStridedSlice Cert.Reference4Ideal.S16x2048x11008 ![0, 1, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_1_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![1, 0] cw Cert.Reference4Ideal.Gen.slices_S3x11008_S1x11008_1_0) Cert.Reference4Ideal.Gen.shapeCasts_S1x11008_S11008))))) (mulf (extractStridedSlice Cert.Reference4Ideal.S16x2048x11008 ![0, 2, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_2_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![2, 0] cw Cert.Reference4Ideal.Gen.slices_S3x11008_S1x11008_2_0) Cert.Reference4Ideal.Gen.shapeCasts_S1x11008_S11008))))) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 cb))) Cert.Reference4Ideal.Gen.slices_S16x2048x11008_S16x2048x5504_0_0_0))))))))) (extractStridedSlice Cert.Reference4Ideal.S16x2048x5504 ![0, 0, 5504] (addf (addf (addf (addf (broadcastInDim Cert.Reference4Ideal.S16x2048x11008 ![] Cert.Reference4Ideal.Gen.bcast_S_S16x2048x11008 (constant Cert.Reference4Ideal.S_ .f32 0x00000000#32)) (mulf (extractStridedSlice Cert.Reference4Ideal.S16x2048x11008 ![0, 0, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_0_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![0, 0] cw Cert.Reference4Ideal.Gen.slices_S3x11008_S1x11008_0_0) Cert.Reference4Ideal.Gen.shapeCasts_S1x11008_S11008))))) (mulf (extractStridedSlice Cert.Reference4Ideal.S16x2048x11008 ![0, 1, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_1_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![1, 0] cw Cert.Reference4Ideal.Gen.slices_S3x11008_S1x11008_1_0) Cert.Reference4Ideal.Gen.shapeCasts_S1x11008_S11008))))) (mulf (extractStridedSlice Cert.Reference4Ideal.S16x2048x11008 ![0, 2, 0] (concatenate Cert.Reference4Ideal.S16x2050x11008 1 [⟨Cert.Reference4Ideal.S16x2x11008, (broadcastInDim Cert.Reference4Ideal.S16x2x11008 ![] Cert.Reference4Ideal.Gen.bcast_S_S16x2x11008 (constant Cert.Reference4Ideal.S_ .f32 0x00000000#32))⟩, ⟨Cert.Reference4Ideal.S16x2048x11008, (Host.dotGeneral Cert.Reference4Ideal.dot_S16x2048x2048_S2048x11008_S16x2048x11008_2_0_01_1_n_n none (mulf (mulf x (broadcastInDim Cert.Reference4Ideal.S16x2048x2048 ![0, 1, 2] Cert.Reference4Ideal.Gen.bcast_S16x2048x1_S16x2048x2048_0_1_2 (Host.rsqrt (addf (Host.divf (broadcastInDim Cert.Reference4Ideal.S16x2048x1 ![0, 1] Cert.Reference4Ideal.Gen.bcast_S16x2048_S16x2048x1_0_1 (Host.reduceAdd (mulf x x) (constant Cert.Reference4Ideal.S_ .f32 0x00000000#32) Cert.Reference4Ideal.Gen.reducesTo_S16x2048x2048_S16x2048_d2 Cert.Reference4Ideal.Gen.h_S_)) (broadcastInDim Cert.Reference4Ideal.S16x2048x1 ![] Cert.Reference4Ideal.Gen.bcast_S_S16x2048x1 (constant Cert.Reference4Ideal.S_ .f32 0x45000000#32))) (broadcastInDim Cert.Reference4Ideal.S16x2048x1 ![] Cert.Reference4Ideal.Gen.bcast_S_S16x2048x1 (constant Cert.Reference4Ideal.S_ .f32 0x358637BD#32)))))) (broadcastInDim Cert.Reference4Ideal.S16x2048x2048 ![0, 1, 2] Cert.Reference4Ideal.Gen.bcast_S1x1x2048_S16x2048x2048_0_1_2 (broadcastInDim Cert.Reference4Ideal.S1x1x2048 ![2] Cert.Reference4Ideal.Gen.bcast_S2048_S1x1x2048_2 g))) w)⟩] Cert.Reference4Ideal.Gen.concatenates_S16x2x11008_S16x2048x11008_S16x2050x11008_d1) Cert.Reference4Ideal.Gen.slices_S16x2050x11008_S16x2048x11008_0_2_0) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 (shapeCast _ (extractStridedSlice Cert.Reference4Ideal.S1x11008 ![2, 0] cw Cert.Reference4Ideal.Gen.slices_S3x11008_S1x11008_2_0) Cert.Reference4Ideal.Gen.shapeCasts_S1x11008_S11008))))) (broadcastInDim Cert.Reference4Ideal.S16x2048x11008 ![0, 1, 2] Cert.Reference4Ideal.Gen.bcast_S1x1x11008_S16x2048x11008_0_1_2 (broadcastInDim Cert.Reference4Ideal.S1x1x11008 ![2] Cert.Reference4Ideal.Gen.bcast_S11008_S1x1x11008_2 cb))) Cert.Reference4Ideal.Gen.slices_S16x2048x11008_S16x2048x5504_0_0_5504)) wd)) Cert.Reference4Ideal.Gen.shapeCasts_S16x2048x2048_S32768x2048
def upR (x : FVec Ideal S16x2048x2048 .f32) (g : FVec Ideal S2048 .f32) (w : FVec Ideal S2048x11008 .f32) (b : Fin 16) (s : Fin 2048) (n : Fin 11008) : EReal :=
  ∑ k : Fin 2048, x (ix3 b s k) * Ideal.rsqrt (Ideal.div (∑ k : Fin 2048, x (ix3 b s k) * x (ix3 b s k)) (Ideal.ofBits FTy.f32 1157627904#32) + Ideal.ofBits FTy.f32 897988541#32)
    * g (ix1 k) * w (ix2 k n)
def cvR (x : FVec Ideal S16x2048x2048 .f32) (g : FVec Ideal S2048 .f32) (w : FVec Ideal S2048x11008 .f32) (cw : FVec Ideal S3x11008 .f32) (cb : FVec Ideal S11008 .f32)
    (b : Fin 16) (s : Fin 2048) (n : Fin 11008) : EReal :=
  (if h : s.val < 2 then 0 else upR x g w b ⟨s.val - 2, by omega⟩ n) * cw (ix2 0 n) + (if h : 1 + s.val < 2 then 0 else upR x g w b ⟨1 + s.val - 2, by omega⟩ n) * cw (ix2 1 n)
    + upR x g w b s n * cw (ix2 2 n) + cb (ix1 n)
def actR (u v : EReal) : EReal :=
  u * (Ideal.ofBits FTy.f32 0x3F000000#32 * (1 + Ideal.tanh (Ideal.ofBits FTy.f32 0x3F4C422A#32 * (u + Ideal.ofBits FTy.f32 0x3D372713#32 * (u * u * u))))) * v
set_option maxHeartbeats 1600000 in
theorem ref_at (x : FVec Ideal S16x2048x2048 .f32) (g : FVec Ideal S2048 .f32) (w : FVec Ideal S2048x11008 .f32) (cw : FVec Ideal S3x11008 .f32) (cb : FVec Ideal S11008 .f32)
    (wd : FVec Ideal S5504x2048 .f32) (R : Fin 32768) (q : Fin 2048) : REF x g w cw cb wd (ix2 R q)
      = x (ix3 (⟨R.val / 2048, by omega⟩ : Fin 16) (⟨R.val % 2048, by omega⟩ : Fin 2048) q) + ∑ j : Fin 5504,
        actR (cvR x g w cw cb (⟨R.val / 2048, by omega⟩ : Fin 16) (⟨R.val % 2048, by omega⟩ : Fin 2048) ⟨j.val, by omega⟩)
          (cvR x g w cw cb (⟨R.val / 2048, by omega⟩ : Fin 16) (⟨R.val % 2048, by omega⟩ : Fin 2048) ⟨5504 + j.val, by omega⟩) * wd (ix2 j q) := by
  pointwise [REF, upR, cvR, actR]
theorem actR_eq (u v : EReal) : actR u v = act u v := by
  unfold actR act
  rw [← mul_assoc, mul_comm u (Ideal.ofBits FTy.f32 0x3F000000#32)]
theorem upR_eq (x : FVec Ideal S16x2048x2048 .f32) (g : FVec Ideal S2048 .f32) (w : FVec Ideal S2048x11008 .f32) (b : Fin 16) (s : Fin 2048) (n : Fin 11008) :
    upR x g w b s n = upv x g w b.val s.val n.val := by
  have eb : (⟨b.val % 16, Nat.mod_lt _ (by decide)⟩ : Fin 16) = b := Fin.ext (Nat.mod_eq_of_lt b.isLt)
  have es : (⟨s.val % 2048, Nat.mod_lt _ (by decide)⟩ : Fin 2048) = s := Fin.ext (Nat.mod_eq_of_lt s.isLt)
  have en : cl n.val = n := Fin.ext (Nat.mod_eq_of_lt n.isLt)
  unfold upR upv nrm xv
  rw [eb, es, en]
theorem cvR_eq (x : FVec Ideal S16x2048x2048 .f32) (g : FVec Ideal S2048 .f32) (w : FVec Ideal S2048x11008 .f32) (cw : FVec Ideal S3x11008 .f32) (cb : FVec Ideal S11008 .f32)
    (b : Fin 16) (s : Fin 2048) (n : Fin 11008) : cvR x g w cw cb b s n = cvv x g w cw cb b.val s.val n.val := by
  have en : cl n.val = n := Fin.ext (Nat.mod_eq_of_lt n.isLt)
  unfold cvR cvv
  rw [en, upR_eq]
  have e2 : (if h : s.val < 2 then (0 : EReal) else upR x g w b ⟨s.val - 2, by omega⟩ n) = if s.val < 2 then 0 else upv x g w b.val (s.val - 2) n.val := by
    by_cases h : s.val < 2
    · rw [dif_pos h, if_pos h]
    · rw [dif_neg h, if_neg h, upR_eq]
  have e1 : (if h : 1 + s.val < 2 then (0 : EReal) else upR x g w b ⟨1 + s.val - 2, by omega⟩ n) = if s.val < 1 then 0 else upv x g w b.val (s.val - 1) n.val := by
    by_cases h : s.val < 1
    · rw [dif_pos (by omega), if_pos h]
    · rw [dif_neg (by omega), if_neg h, upR_eq]
      exact congrArg (fun z => upv x g w b.val z n.val) (show 1 + s.val - 2 = s.val - 1 by omega)
  rw [e1, e2]
  congr 1
  rw [mul_comm (if s.val < 2 then (0 : EReal) else _), mul_comm (if s.val < 1 then (0 : EReal) else _), mul_comm (upv x g w b.val s.val n.val), add_comm (_ + _), add_comm (cw (ix2 0 n) * _), ← add_assoc]
variable (m : (ℓ : Loc nD τ sig) → Buf (Elt Ideal) ℓ)
theorem point (c : Dev nD) (t : Fin cfg0.N) (ht : t.val % 11 = 10) (r : Fin 512) (q : Fin 2048) :
    k0_pay4 (F := Ideal) (iblk m c 0 t) (accAt m c t.val t.isLt) (ix2 r q)
      = REF (A0 m c) (A1 m c) (A2 m c) (A3 m c) (A4 m c) (A5 m c) (ix2 (⟨t.val / 11 * 512 + r.val, by have := lt_N t; omega⟩ : Fin 32768) q) := by
  have hN := lt_N t
  have e1 : (t.val / 11 * 512 + r.val) / 2048 = t.val / 44 := by omega
  have e2 : (t.val / 11 * 512 + r.val) % 2048 = t.val / 11 % 4 * 512 + r.val := by omega
  rw [pay4_at, acc_last m c t ht, ref_at]
  refine congrArg₂ (· + ·) ?_ (Finset.sum_congr rfl fun j _ => ?_)
  · refine (rd0 m c t r q).trans ?_
    exact congrArg₂ (fun a b => A0 m c (ix3 a b q)) (Fin.ext e1.symm) (Fin.ext e2.symm)
  · rw [actR_eq, cvR_eq, cvR_eq]
    show _ = act (cvv _ _ _ _ _ ((t.val / 11 * 512 + r.val) / 2048) ((t.val / 11 * 512 + r.val) % 2048) j.val)
      (cvv _ _ _ _ _ ((t.val / 11 * 512 + r.val) / 2048) ((t.val / 11 * 512 + r.val) % 2048) (5504 + j.val)) * _
    rw [e1, e2]
theorem covers7 : (cfg0.win 7).Covers :=
  by decide +kernel
theorem final (c : Dev nD) : (dats m 0 c).arrAt 7 (cfgs 0).N = REF (A0 m c) (A1 m c) (A2 m c) (A3 m c) (A4 m c) (A5 m c) := by
  refine (dats m 0 c).arrAt_eq_of_covers 7 _ covers7 fun t hf y => ?_
  have ht : t.val % 11 = 10 := (flush0_7 t).mp hf
  have hN := lt_N t
  blk_simp
  rw [after0_7]
  have hy : y = ix2 (y 0) (y 1) := by blk_ext []
  have e : ((cfg0.win 7).blk t).view.emb (ix2 (y 0) (y 1)) = ix2 (⟨t.val / 11 * 512 + (y 0).val, by have : (y 0).val < 512 := (y 0).isLt; omega⟩ : Fin 32768) (y 1) := by blk_ext [idx t]
  rw [hy]
  exact (point m c t ht (y 0) (y 1)).trans (congrArg (REF (A0 m c) (A1 m c) (A2 m c) (A3 m c) (A4 m c) (A5 m c)) e.symm)
end Cert.Kernel4Ideal.Conv
theorem Cert.frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem Cert.algebraic4 : Cert.algebraic_Kernel4Ideal_Reference4Ideal := by
  pair_intro
  · run_from Cert.Kernel4Ideal.Gen.unchanged m g & Cert.Kernel4Ideal.Gen.run_main m g
  · run_from Cert.Reference4Ideal.Value.run m' g'
    refine Eq.trans ?_ (Cert.Kernel4Ideal.Conv.final m c).symm
    obtain ⟨h0, h1, h2, h3, h4, h5⟩ := hagree c
    show Cert.Kernel4Ideal.Conv.REF (m' ((c.tc : Thread _ _).loc Cert.Reference4Ideal.main_arg0)) (m' ((c.tc : Thread _ _).loc Cert.Reference4Ideal.main_arg1)) (m' ((c.tc : Thread _ _).loc Cert.Reference4Ideal.main_arg2))
      (m' ((c.tc : Thread _ _).loc Cert.Reference4Ideal.main_arg3)) (m' ((c.tc : Thread _ _).loc Cert.Reference4Ideal.main_arg4)) (m' ((c.tc : Thread _ _).loc Cert.Reference4Ideal.main_arg5)) = _
    rw [h0, h1, h2, h3, h4, h5]
end
-- ==== Proof.InProjMath.lean ====
module
public import Idealize.ShloMosaic.Lib.Pipeline.ValueKit
@[expose] public section
noncomputable section
open Idealize.ShloMosaic
namespace InProjMath
def nk (p g : Fin 128 → EReal) (l : Fin 128) : EReal :=
  p l * Ideal.rsqrt (Ideal.div (∑ q : Fin 128, p q * p q) (Ideal.ofBits FTy.f32 1124073472#32)
    + Ideal.ofBits FTy.f32 897988541#32) * g l
def rot16 (K : Fin 128 → EReal) (C S : Fin 16 → EReal) (l : Fin 128) : EReal :=
  if h : l.val < 16 then K l * C ⟨l.val, h⟩ - K ⟨16 + l.val, by omega⟩ * S ⟨l.val, h⟩
  else if h' : l.val - 16 < 16 then
    K ⟨16 + (l.val - 16), by omega⟩ * C ⟨l.val - 16, h'⟩ + K ⟨l.val - 16, by omega⟩ * S ⟨l.val - 16, h'⟩
  else K ⟨32 + (l.val - 16 - 16), by omega⟩
def rot8 (K : Fin 64 → EReal) (C S : Fin 8 → EReal) (l : Fin 64) : EReal :=
  if h : l.val < 8 then K l * C ⟨l.val, h⟩ - K ⟨8 + l.val, by omega⟩ * S ⟨l.val, h⟩
  else if h' : l.val - 8 < 8 then
    K ⟨8 + (l.val - 8), by omega⟩ * C ⟨l.val - 8, h'⟩ + K ⟨l.val - 8, by omega⟩ * S ⟨l.val - 8, h'⟩
  else K ⟨16 + (l.val - 8 - 8), by omega⟩
def tc16 (C : Fin 16 → EReal) (l : Fin 128) : EReal :=
  if h : l.val < 16 then C ⟨l.val, h⟩ else if h' : l.val - 16 < 16 then C ⟨l.val - 16, h'⟩ else 1
def ta16 (S : Fin 16 → EReal) (l : Fin 128) : EReal :=
  if h : l.val < 16 then 0 else if h' : l.val - 16 < 16 then S ⟨l.val - 16, h'⟩ else 0
def tb16 (S : Fin 16 → EReal) (l : Fin 128) : EReal :=
  if h : l.val < 16 then -S ⟨l.val, h⟩ else if h' : l.val - 16 < 16 then 0 else 0
def tc8 (C : Fin 8 → EReal) (l : Fin 128) : EReal :=
  if h : l.val % 64 < 8 then C ⟨l.val % 64, h⟩ else if h' : l.val % 64 - 8 < 8 then C ⟨l.val % 64 - 8, h'⟩ else 1
def ta8 (S : Fin 8 → EReal) (l : Fin 128) : EReal :=
  if h : l.val % 64 < 8 then 0 else if h' : l.val % 64 - 8 < 8 then S ⟨l.val % 64 - 8, h'⟩ else 0
def tb8 (S : Fin 8 → EReal) (l : Fin 128) : EReal :=
  if h : l.val % 64 < 8 then -S ⟨l.val % 64, h⟩ else if h' : l.val % 64 - 8 < 8 then 0 else 0
theorem rope16 (K : Fin 128 → EReal) (C S : Fin 16 → EReal) (l : Fin 128) :
    K l * tc16 C l + K ⟨(l.val + 128 - 16) % 128, by omega⟩ * ta16 S l + K ⟨(l.val + 128 - 112) % 128, by omega⟩ * tb16 S l
      = rot16 K C S l := by
  unfold tc16 ta16 tb16 rot16
  by_cases h : l.val < 16
  · simp only [dif_pos h]
    rw [mul_zero, add_zero, mul_neg, ← sub_eq_add_neg]
    congr 3; exact Fin.ext (by show (l.val + 128 - 112) % 128 = 16 + l.val; omega)
  · simp only [dif_neg h]
    by_cases h' : l.val - 16 < 16
    · simp only [dif_pos h']
      rw [mul_zero, add_zero]
      congr 3
      · exact Fin.ext (by show l.val = 16 + (l.val - 16); omega)
      · exact Fin.ext (by show (l.val + 128 - 16) % 128 = l.val - 16; omega)
    · simp only [dif_neg h']
      rw [mul_zero, mul_zero, add_zero, add_zero, mul_one]
      congr 1; exact Fin.ext (by show l.val = 32 + (l.val - 16 - 16); omega)
theorem rope8 (K : Fin 128 → EReal) (C S : Fin 8 → EReal) (l : Fin 64) (u : Fin 128) (hu : u.val = l.val) :
    K u * tc8 C u + K ⟨(u.val + 128 - 8) % 128, by omega⟩ * ta8 S u + K ⟨(u.val + 128 - 120) % 128, by omega⟩ * tb8 S u
      = rot8 (fun q => K ⟨q.val, by omega⟩) C S l := by
  have e : u.val % 64 = l.val := by omega
  unfold tc8 ta8 tb8 rot8
  simp only [e]
  by_cases h : l.val < 8
  · simp only [dif_pos h]
    rw [mul_zero, add_zero, mul_neg, ← sub_eq_add_neg]
    congr 3
    · exact Fin.ext hu
    · exact Fin.ext (by show (u.val + 128 - 120) % 128 = 8 + l.val; omega)
  · simp only [dif_neg h]
    by_cases h' : l.val - 8 < 8
    · simp only [dif_pos h']
      rw [mul_zero, add_zero]
      congr 3
      · exact Fin.ext (by show u.val = 8 + (l.val - 8); omega)
      · exact Fin.ext (by show (u.val + 128 - 8) % 128 = l.val - 8; omega)
    · simp only [dif_neg h']
      rw [mul_zero, mul_zero, add_zero, add_zero, mul_one]
      congr 1; exact Fin.ext (by show u.val = 16 + (l.val - 8 - 8); omega)
end InProjMath
end
-- ==== Proof.InProjRef.lean ====
module
public import proofs.«01_k».proof.Defs
public import proofs.«01_k».proof.Proof.Gen.Reference7Ideal.Run
public import Idealize.ShloMosaic.Lib.Pipeline.ValueKit
public import Idealize.ShloMosaic.Lib.Claim
public import proofs.«01_k».proof.Proof.InProjMath
@[expose] public section
set_option maxRecDepth 16384
noncomputable section
open Idealize.ShloMosaic Idealize.ShloMosaic.TcCoe Idealize.SL.Sem
namespace Cert.Reference7Ideal.InP
open Cert.Reference7Ideal Cert.Reference7Ideal.Gen InProjMath
variable (x : FVec Ideal S16x2048x2048 .f32) (gm : FVec Ideal S2048 .f32) (w : FVec Ideal S2048x7248 .f32) (gk : FVec Ideal S128 .f32)
def HR : FVec Ideal S16x2048x2048 .f32 :=
  (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 gm)))
def PR : FVec Ideal S16x2048x7248 .f32 :=
  (Host.dotGeneral dot_S16x2048x2048_S2048x7248_S16x2048x7248_2_0_01_1_n_n none (HR x gm) w)
def K4 : FVec Ideal S16x2048x2x128 .f32 :=
  (shapeCast _ (extractStridedSlice S16x2048x256 ![0, 0, 1024] (PR x gm w) slices_S16x2048x7248_S16x2048x256_0_0_1024) shapeCasts_S16x2048x256_S16x2048x2x128)
def KN : FVec Ideal S16x2048x2x128 .f32 :=
  (mulf (mulf (K4 x gm w) (broadcastInDim S16x2048x2x128 ![0, 1, 2, 3] bcast_S16x2048x2x1_S16x2048x2x128_0_1_2_3 (Host.rsqrt (addf (Host.divf (broadcastInDim S16x2048x2x1 ![0, 1, 2] bcast_S16x2048x2_S16x2048x2x1_0_1_2 (Host.reduceAdd (mulf (K4 x gm w) (K4 x gm w)) (constant S_ .f32 0x00000000#32) reducesTo_S16x2048x2x128_S16x2048x2_d3 h_S_)) (broadcastInDim S16x2048x2x1 ![] bcast_S_S16x2048x2x1 (constant S_ .f32 0x43000000#32))) (broadcastInDim S16x2048x2x1 ![] bcast_S_S16x2048x2x1 (constant S_ .f32 0x358637BD#32)))))) (broadcastInDim S16x2048x2x128 ![0, 1, 2, 3] bcast_S1x1x1x128_S16x2048x2x128_0_1_2_3 (broadcastInDim S1x1x1x128 ![3] bcast_S128_S1x1x1x128_3 gk)))
def IK : FVec Ideal S16x2048x1x64 .f32 :=
  (shapeCast _ (extractStridedSlice S16x2048x64 ![0, 0, 2560] (PR x gm w) slices_S16x2048x7248_S16x2048x64_0_0_2560) shapeCasts_S16x2048x64_S16x2048x1x64)
def CA : FVec Ideal S16x2048x2x16 .f32 :=
  (broadcastInDim S16x2048x2x16 ![0, 1, 2, 3] bcast_S1x2048x1x16_S16x2048x2x16_0_1_2_3 (broadcastInDim S1x2048x1x16 ![1, 2, 3] bcast_S2048x1x16_S1x2048x1x16_1_2_3 (broadcastInDim S2048x1x16 ![0, 2] bcast_S2048x16_S2048x1x16_0_2 (Host.cos (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 ((fun i => FloatOps.ofBits .f32 (lit0 (S16.rowMajor i)))))))))))
def SA : FVec Ideal S16x2048x2x16 .f32 :=
  (broadcastInDim S16x2048x2x16 ![0, 1, 2, 3] bcast_S1x2048x1x16_S16x2048x2x16_0_1_2_3 (broadcastInDim S1x2048x1x16 ![1, 2, 3] bcast_S2048x1x16_S1x2048x1x16_1_2_3 (broadcastInDim S2048x1x16 ![0, 2] bcast_S2048x16_S2048x1x16_0_2 (Host.sin (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 ((fun i => FloatOps.ofBits .f32 (lit0 (S16.rowMajor i)))))))))))
def CI : FVec Ideal S16x2048x1x8 .f32 :=
  (broadcastInDim S16x2048x1x8 ![0, 1, 2, 3] bcast_S1x2048x1x8_S16x2048x1x8_0_1_2_3 (broadcastInDim S1x2048x1x8 ![1, 2, 3] bcast_S2048x1x8_S1x2048x1x8_1_2_3 (broadcastInDim S2048x1x8 ![0, 2] bcast_S2048x8_S2048x1x8_0_2 (Host.cos (mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 ((fun i => FloatOps.ofBits .f32 (lit1 (S8.rowMajor i)))))))))))
def SI : FVec Ideal S16x2048x1x8 .f32 :=
  (broadcastInDim S16x2048x1x8 ![0, 1, 2, 3] bcast_S1x2048x1x8_S16x2048x1x8_0_1_2_3 (broadcastInDim S1x2048x1x8 ![1, 2, 3] bcast_S2048x1x8_S1x2048x1x8_1_2_3 (broadcastInDim S2048x1x8 ![0, 2] bcast_S2048x8_S2048x1x8_0_2 (Host.sin (mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 ((fun i => FloatOps.ofBits .f32 (lit1 (S8.rowMajor i)))))))))))
def REFK : FVec Ideal S65536x128 .f32 :=
  shapeCast _ ((concatenate S16x2048x2x128 3 [⟨S16x2048x2x16, ((subf (mulf (extractStridedSlice S16x2048x2x16 ![0, 0, 0, 0] (KN x gm w gk) slices_S16x2048x2x128_S16x2048x2x16_0_0_0_0) CA) (mulf (extractStridedSlice S16x2048x2x16 ![0, 0, 0, 16] (KN x gm w gk) slices_S16x2048x2x128_S16x2048x2x16_0_0_0_16) SA)) : (⟨S16x2048x2x16, .f32⟩ : BufTy).Contents (Elt Ideal))⟩, ⟨S16x2048x2x16, ((addf (mulf (extractStridedSlice S16x2048x2x16 ![0, 0, 0, 16] (KN x gm w gk) slices_S16x2048x2x128_S16x2048x2x16_0_0_0_16) CA) (mulf (extractStridedSlice S16x2048x2x16 ![0, 0, 0, 0] (KN x gm w gk) slices_S16x2048x2x128_S16x2048x2x16_0_0_0_0) SA)) : (⟨S16x2048x2x16, .f32⟩ : BufTy).Contents (Elt Ideal))⟩, ⟨S16x2048x2x96, ((extractStridedSlice S16x2048x2x96 ![0, 0, 0, 32] (KN x gm w gk) slices_S16x2048x2x128_S16x2048x2x96_0_0_0_32) : (⟨S16x2048x2x96, .f32⟩ : BufTy).Contents (Elt Ideal))⟩] concatenates_S16x2048x2x16_S16x2048x2x16_S16x2048x2x96_S16x2048x2x128_d3 : (⟨S16x2048x2x128, .f32⟩ : BufTy).Contents (Elt Ideal))) shapeCasts_S16x2048x2x128_S65536x128
def REFV : FVec Ideal S65536x128 .f32 :=
  shapeCast _ (shapeCast _ (extractStridedSlice S16x2048x256 ![0, 0, 1280] (PR x gm w) slices_S16x2048x7248_S16x2048x256_0_0_1280) shapeCasts_S16x2048x256_S16x2048x2x128) shapeCasts_S16x2048x2x128_S65536x128
def REFI : FVec Ideal S32768x64 .f32 :=
  shapeCast _ ((concatenate S16x2048x1x64 3 [⟨S16x2048x1x8, ((subf (mulf (extractStridedSlice S16x2048x1x8 ![0, 0, 0, 0] (IK x gm w) slices_S16x2048x1x64_S16x2048x1x8_0_0_0_0) CI) (mulf (extractStridedSlice S16x2048x1x8 ![0, 0, 0, 8] (IK x gm w) slices_S16x2048x1x64_S16x2048x1x8_0_0_0_8) SI)) : (⟨S16x2048x1x8, .f32⟩ : BufTy).Contents (Elt Ideal))⟩, ⟨S16x2048x1x8, ((addf (mulf (extractStridedSlice S16x2048x1x8 ![0, 0, 0, 8] (IK x gm w) slices_S16x2048x1x64_S16x2048x1x8_0_0_0_8) CI) (mulf (extractStridedSlice S16x2048x1x8 ![0, 0, 0, 0] (IK x gm w) slices_S16x2048x1x64_S16x2048x1x8_0_0_0_0) SI)) : (⟨S16x2048x1x8, .f32⟩ : BufTy).Contents (Elt Ideal))⟩, ⟨S16x2048x1x48, ((extractStridedSlice S16x2048x1x48 ![0, 0, 0, 16] (IK x gm w) slices_S16x2048x1x64_S16x2048x1x48_0_0_0_16) : (⟨S16x2048x1x48, .f32⟩ : BufTy).Contents (Elt Ideal))⟩] concatenates_S16x2048x1x8_S16x2048x1x8_S16x2048x1x48_S16x2048x1x64_d3 : (⟨S16x2048x1x64, .f32⟩ : BufTy).Contents (Elt Ideal))) shapeCasts_S16x2048x1x64_S32768x64
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90) = REFK (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v91) = REFV (m ((c.tc : Thread nD τ).loc main_arg0)) (m ((c.tc : Thread nD τ).loc main_arg1)) (m ((c.tc : Thread nD τ).loc main_arg2))
      ∧ r.2.mem ((c.tc : Thread nD τ).loc main_v92) = REFI (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2⟩) (Value.run (F := Ideal) m ρ)
def hr (b : Fin 16) (t : Fin 2048) (k : Fin 2048) : EReal :=
  x (ix3 b t k) * Ideal.rsqrt (Ideal.div (∑ q : Fin 2048, x (ix3 b t q) * x (ix3 b t q)) (Ideal.ofBits FTy.f32 1157627904#32)
    + Ideal.ofBits FTy.f32 897988541#32) * gm (ix1 k)
def pr (b : Fin 16) (t : Fin 2048) (j : Fin 7248) : EReal := ∑ k : Fin 2048, hr x gm b t k * w (ix2 k j)
theorem HR_at (b : Fin 16) (t : Fin 2048) (k : Fin 2048) :
    HR x gm (ix3 b t k) = hr x gm b t k := by
  pointwise [HR, hr]
theorem PR_at (b : Fin 16) (t : Fin 2048) (j : Fin 7248) : PR x gm w (ix3 b t j) = pr x gm w b t j := by
  pointwise [PR, HR_at, pr]
theorem K4_at (b : Fin 16) (t : Fin 2048) (h : Fin 2) (l : Fin 128) :
    K4 x gm w (ix4 b t h l) = pr x gm w b t ⟨1024 + (h.val * 128 + l.val), by omega⟩ := by
  pointwise [K4, PR_at]
theorem KN_at (b : Fin 16) (t : Fin 2048) (h : Fin 2) (l : Fin 128) :
    KN x gm w gk (ix4 b t h l) = nk (fun q => pr x gm w b t ⟨1024 + (h.val * 128 + q.val), by omega⟩) (fun q => gk (ix1 q)) l := by
  pointwise [KN, K4_at, nk]
theorem IK_at (b : Fin 16) (t : Fin 2048) (l : Fin 64) :
    IK x gm w (ix4 b t 0 l) = pr x gm w b t ⟨2560 + l.val, by omega⟩ := by
  pointwise [IK, PR_at]
def ang16 (t : Fin 2048) (j : Fin 16) : EReal :=
  FloatOps.sitofp (F := Ideal) FTy.f32 (BitVec.ofNat 32 t.val) * Ideal.ofBits FTy.f32 (lit0 (S16.rowMajor (ix1 j)))
def ang8 (t : Fin 2048) (j : Fin 8) : EReal :=
  FloatOps.sitofp (F := Ideal) FTy.f32 (BitVec.ofNat 32 t.val) * Ideal.ofBits FTy.f32 (lit1 (S8.rowMajor (ix1 j)))
theorem CA_at (b : Fin 16) (t : Fin 2048) (h : Fin 2) (l : Fin 16) : CA (ix4 b t h l) = Ideal.cos (ang16 t l) := by
  pointwise [CA, ang16]
theorem SA_at (b : Fin 16) (t : Fin 2048) (h : Fin 2) (l : Fin 16) : SA (ix4 b t h l) = Ideal.sin (ang16 t l) := by
  pointwise [SA, ang16]
theorem CI_at (b : Fin 16) (t : Fin 2048) (l : Fin 8) : CI (ix4 b t 0 l) = Ideal.cos (ang8 t l) := by
  pointwise [CI, ang8]
theorem SI_at (b : Fin 16) (t : Fin 2048) (l : Fin 8) : SI (ix4 b t 0 l) = Ideal.sin (ang8 t l) := by
  pointwise [SI, ang8]
theorem REFK_at (r : Fin 65536) (l : Fin 128) : REFK x gm w gk (ix2 r l)
    = rot16 (nk (fun q => pr x gm w (⟨r.val / 4096, by omega⟩ : Fin 16) (⟨r.val / 2 % 2048, by omega⟩ : Fin 2048) (⟨1024 + (r.val % 2 * 128 + q.val), by omega⟩ : Fin 7248)) (fun q => gk (ix1 q)))
      (fun j => Ideal.cos (ang16 (⟨r.val / 2 % 2048, by omega⟩ : Fin 2048) j)) (fun j => Ideal.sin (ang16 (⟨r.val / 2 % 2048, by omega⟩ : Fin 2048) j)) l := by
  pointwise [REFK, KN_at, CA_at, SA_at, rot16]
theorem REFV_at (r : Fin 65536) (l : Fin 128) : REFV x gm w (ix2 r l)
    = pr x gm w (⟨r.val / 4096, by omega⟩ : Fin 16) (⟨r.val / 2 % 2048, by omega⟩ : Fin 2048) (⟨1280 + (r.val % 2 * 128 + l.val), by omega⟩ : Fin 7248) := by
  pointwise [REFV, PR_at]
theorem REFI_at (r : Fin 32768) (l : Fin 64) : REFI x gm w (ix2 r l)
    = rot8 (fun q => pr x gm w (⟨r.val / 2048, by omega⟩ : Fin 16) (⟨r.val % 2048, by omega⟩ : Fin 2048) (⟨2560 + q.val, by omega⟩ : Fin 7248))
      (fun j => Ideal.cos (ang8 (⟨r.val % 2048, by omega⟩ : Fin 2048) j)) (fun j => Ideal.sin (ang8 (⟨r.val % 2048, by omega⟩ : Fin 2048) j)) l := by
  pointwise [REFI, IK_at, CI_at, SI_at, rot8]
end Cert.Reference7Ideal.InP
theorem Cert.frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)
end
-- ==== Proof.InProjFrame.lean ====
module
public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.Gen.Kernel7Ideal.Frame
@[expose] public section
set_option maxRecDepth 16384
noncomputable section
namespace Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev r0_0 : Rect S512x2048 := Rect.unit (s := S512x2048) ![0, 0] S512x2048.size inb_S512x2048_S512x2048_0_0
abbrev r0_1 : Rect S1x2048 := Rect.unit (s := S1x2048) ![0, 0] S1x2048.size inb_S1x2048_S1x2048_0_0
abbrev r0_2 : Rect S2048x1536 := Rect.unit (s := S2048x1536) ![0, 0] S2048x1536.size inb_S2048x1536_S2048x1536_0_0
abbrev r0_3 : Rect S1x128 := Rect.unit (s := S1x128) ![0, 0] S1x128.size inb_S1x128_S1x128_0_0
abbrev r0_4 : Rect S3x512x128 := Rect.unit (s := S3x512x128) ![0, 0, 0] S1x512x128.size inb_S3x512x128_S1x512x128_0_0_0
abbrev r0_5 : Rect S3x512x128 := Rect.unit (s := S3x512x128) ![1, 0, 0] S1x512x128.size inb_S3x512x128_S1x512x128_1_0_0
abbrev r0_6 : Rect S3x512x128 := Rect.unit (s := S3x512x128) ![2, 0, 0] S1x512x128.size inb_S3x512x128_S1x512x128_2_0_0
abbrev r0_7 : Rect S512x1024 := Rect.unit (s := S512x1024) ![0, 0] S512x128.size inb_S512x1024_S512x128_0_0
abbrev r0_8 : Rect S512x1024 := Rect.unit (s := S512x1024) ![0, 128] S512x128.size inb_S512x1024_S512x128_0_128
abbrev r0_9 : Rect S512x1024 := Rect.unit (s := S512x1024) ![0, 256] S512x128.size inb_S512x1024_S512x128_0_256
abbrev r0_10 : Rect S512x1024 := Rect.unit (s := S512x1024) ![0, 384] S512x128.size inb_S512x1024_S512x128_0_384
abbrev r0_11 : Rect S512x1024 := Rect.unit (s := S512x1024) ![0, 512] S512x128.size inb_S512x1024_S512x128_0_512
abbrev r0_12 : Rect S512x1024 := Rect.unit (s := S512x1024) ![0, 640] S512x128.size inb_S512x1024_S512x128_0_640
abbrev r0_13 : Rect S512x1024 := Rect.unit (s := S512x1024) ![0, 768] S512x128.size inb_S512x1024_S512x128_0_768
abbrev r0_14 : Rect S512x1024 := Rect.unit (s := S512x1024) ![0, 896] S512x128.size inb_S512x1024_S512x128_0_896
abbrev r0_15 : Rect S1024x128 := ⟨(⟨![0, 0], S512x128.size, ![2, 1], inb_S1024x128_S512x128_0_0_s_2_1⟩ : LoadRect S1024x128), spos_2_1⟩
abbrev r0_16 : Rect S512x256 := Rect.unit (s := S512x256) ![0, 0] S512x128.size inb_S512x256_S512x128_0_0
abbrev r0_17 : Rect S1024x128 := ⟨(⟨![1, 0], S512x128.size, ![2, 1], inb_S1024x128_S512x128_1_0_s_2_1⟩ : LoadRect S1024x128), spos_2_1⟩
abbrev r0_18 : Rect S512x256 := Rect.unit (s := S512x256) ![0, 128] S512x128.size inb_S512x256_S512x128_0_128
abbrev r0_19 : Rect S2048x1280 := Rect.unit (s := S2048x1280) ![0, 0] S2048x1280.size inb_S2048x1280_S2048x1280_0_0
abbrev r0_20 : Rect S512x128 := Rect.unit (s := S512x128) ![0, 0] S512x128.size inb_S512x128_S512x128_0_0
abbrev r0_21 : Rect S2048x512 := Rect.unit (s := S2048x512) ![0, 0] S2048x512.size inb_S2048x512_S2048x512_0_0
abbrev r0_22 : Rect S512x512 := Rect.unit (s := S512x512) ![0, 0] S512x512.size inb_S512x512_S512x512_0_0
theorem cover_pair (p0 : Vec F S512x128 .f32) (p1 : Vec F S512x128 .f32) (y : S1024x128.Idx) :
    ∃ pc ∈ ([⟨r0_17, p0⟩, ⟨r0_15, p1⟩] : List (View.Piece (Elt F) S1024x128 .f32)), y ∈ pc.1.set := by
  have h0 : (y 0).val < 1024 := (y 0).isLt
  have h1 : (y 1).val < 128 := (y 1).isLt
  rcases Nat.mod_two_eq_zero_or_one (y 0).val with h | h
  · exact ⟨⟨r0_15, p1⟩, .tail _ (.head _), (LoadRect.mem_set _).2 (Fin.forall_fin_two.2
      ⟨⟨(y 0).val / 2, (by omega : (y 0).val / 2 < 512), (by omega : (y 0).val = 0 + 2 * ((y 0).val / 2))⟩,
       ⟨(y 1).val, h1, (by omega : (y 1).val = 0 + 1 * (y 1).val)⟩⟩)⟩
  · exact ⟨⟨r0_17, p0⟩, .head _, (LoadRect.mem_set _).2 (Fin.forall_fin_two.2
      ⟨⟨(y 0).val / 2, (by omega : (y 0).val / 2 < 512), (by omega : (y 0).val = 1 + 2 * ((y 0).val / 2))⟩,
       ⟨(y 1).val, h1, (by omega : (y 1).val = 0 + 1 * (y 1).val)⟩⟩)⟩
theorem cover0_9 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S512x1024 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S512x128.size (by rfl) y
theorem cover0_10 (p0 : Vec F S512x128 .f32) (p1 : Vec F S512x128 .f32) (y : S1024x128.Idx) :
    ∃ pc ∈ ([⟨r0_17, p0⟩, ⟨r0_15, p1⟩] : List (View.Piece (Elt F) S1024x128 .f32)), y ∈ pc.1.set :=
  cover_pair p0 p1 y
theorem cover0_11 (p0 : Vec F S512x128 .f32) (p1 : Vec F S512x128 .f32) (y : S1024x128.Idx) :
    ∃ pc ∈ ([⟨r0_17, p0⟩, ⟨r0_15, p1⟩] : List (View.Piece (Elt F) S1024x128 .f32)), y ∈ pc.1.set :=
  cover_pair p0 p1 y
theorem cover0_12 (p0 : Vec F S512x128 .bf16) (p1 : Vec F S512x128 .bf16) (y : S512x256.Idx) :
    ∃ pc ∈ ([⟨r0_18, p0⟩, ⟨r0_16, p1⟩] : List (View.Piece (Elt F) S512x256 .bf16)), y ∈ pc.1.set :=
  View.cover_of_tiled [⟨r0_18, p0⟩, ⟨r0_16, p1⟩] S512x128.size (by rfl) y
theorem cover0_13 (p0 : Vec F S512x128 .bf16) (p1 : Vec F S512x128 .bf16) (y : S512x256.Idx) :
    ∃ pc ∈ ([⟨r0_18, p0⟩, ⟨r0_16, p1⟩] : List (View.Piece (Elt F) S512x256 .bf16)), y ∈ pc.1.set :=
  View.cover_of_tiled [⟨r0_18, p0⟩, ⟨r0_16, p1⟩] S512x128.size (by rfl) y
theorem cover0_14 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S512x1024 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S512x128.size (by rfl) y
theorem cover0_15 (p0 : Vec F S512x128 .f32) (y : S512x128.Idx) :
    ∃ pc ∈ ([⟨r0_20, p0⟩] : List (View.Piece (Elt F) S512x128 .f32)), y ∈ pc.1.set :=
  View.cover_of_tiled [⟨r0_20, p0⟩] S512x128.size (by rfl) y
theorem cover0_16 (p0 : Vec F S512x128 .bf16) (y : S512x128.Idx) :
    ∃ pc ∈ ([⟨r0_20, p0⟩] : List (View.Piece (Elt F) S512x128 .bf16)), y ∈ pc.1.set :=
  View.cover_of_tiled [⟨r0_20, p0⟩] S512x128.size (by rfl) y
theorem cover0_17 (p0 : Vec F S512x128 .f32) (y : S512x128.Idx) :
    ∃ pc ∈ ([⟨r0_20, p0⟩] : List (View.Piece (Elt F) S512x128 .f32)), y ∈ pc.1.set :=
  View.cover_of_tiled [⟨r0_20, p0⟩] S512x128.size (by rfl) y
section Pay
variable (x0 : Vec F S512x2048 .f32) (x1 : Vec F S1x2048 .f32) (x2 : Vec F S2048x1536 .bf16) (x3 : Vec F S2048x1280 .bf16) (x4 : Vec F S2048x512 .bf16) (x5 : Vec F S1x128 .f32) (x6 : Vec F S1x128 .f32) (x7 : Vec F S3x512x128 .f32) (x8 : Vec F S3x512x128 .f32)
def k0_pay70 : FVec F S512x2048 .bf16 :=
  k0_pay5 (View.ld x0 r0_0) (View.ld x1 r0_1)
def k0_pay71 : FVec F S512x1536 .f32 :=
  k0_pay6 (View.ld x0 r0_0) (View.ld x1 r0_1) (View.ld x2 r0_2)
def k0_pay72 : FVec F S512x128 .f32 :=
  k0_pay31 (k0_pay71 x0 x1 x2) (View.ld x6 r0_3)
def k0_pay73 : FVec F S512x128 .f32 :=
  k0_pay32 (k0_pay71 x0 x1 x2) (View.ld x6 r0_3) (View.ld x7 r0_4)
def k0_pay74 : FVec F S512x128 .f32 :=
  k0_pay33 (k0_pay71 x0 x1 x2) (View.ld x6 r0_3)
def k0_pay75 : FVec F S512x128 .f32 :=
  k0_pay34 (View.ld x7 r0_5)
def k0_pay76 : FVec F S512x128 .f32 :=
  k0_pay39 (k0_pay71 x0 x1 x2) (View.ld x6 r0_3)
def k0_pay77 : FVec F S512x128 .f32 :=
  k0_pay40 (k0_pay71 x0 x1 x2) (View.ld x6 r0_3) (View.ld x7 r0_4)
def k0_pay78 : FVec F S512x128 .f32 :=
  k0_pay41 (k0_pay71 x0 x1 x2) (View.ld x6 r0_3)
def k0_pay79 : FVec F S512x1280 .f32 :=
  k0_pay46 (k0_pay70 x0 x1) (View.ld x3 r0_19)
def k0_pay80 : FVec F S512x128 .f32 :=
  k0_pay68 (k0_pay79 x0 x1 x3) (View.ld x8 r0_4) (View.ld x8 r0_5)
def k0_pay81 : FVec F S512x128 .f32 :=
  k0_pay69 (k0_pay79 x0 x1 x3)
def out0_9 : Vec F S512x1024 .bf16 :=
  View.canon [⟨r0_14, k0_pay30 (k0_pay28 (k0_pay71 x0 x1 x2) (View.ld x5 r0_3)) (k0_pay29 (View.ld x7 r0_4)) (View.ld x7 r0_5) (View.ld x7 r0_6)⟩,
    ⟨r0_13, k0_pay27 (k0_pay24 (k0_pay71 x0 x1 x2)) (k0_pay25 (View.ld x5 r0_3)) (k0_pay26 (k0_pay71 x0 x1 x2)) (View.ld x7 r0_4) (View.ld x7 r0_5) (View.ld x7 r0_6)⟩,
    ⟨r0_12, k0_pay23 (k0_pay20 (k0_pay71 x0 x1 x2)) (k0_pay21 (View.ld x5 r0_3)) (k0_pay22 (k0_pay71 x0 x1 x2)) (View.ld x7 r0_4) (View.ld x7 r0_5) (View.ld x7 r0_6)⟩,
    ⟨r0_11, k0_pay19 (k0_pay18 (k0_pay71 x0 x1 x2)) (View.ld x5 r0_3) (View.ld x7 r0_4) (View.ld x7 r0_5) (View.ld x7 r0_6)⟩,
    ⟨r0_10, k0_pay17 (k0_pay71 x0 x1 x2) (View.ld x5 r0_3) (View.ld x7 r0_4) (View.ld x7 r0_5) (View.ld x7 r0_6)⟩,
    ⟨r0_9, k0_pay16 (k0_pay15 (k0_pay71 x0 x1 x2) (View.ld x5 r0_3) (View.ld x7 r0_4) (View.ld x7 r0_5) (View.ld x7 r0_6)) (Scalar.ofBits .f32 0x3DB504F3#32)⟩,
    ⟨r0_8, k0_pay14 (k0_pay12 (k0_pay71 x0 x1 x2) (View.ld x5 r0_3) (View.ld x7 r0_4) (View.ld x7 r0_5)) (k0_pay13 (k0_pay71 x0 x1 x2) (View.ld x5 r0_3)) (View.ld x7 r0_6)⟩,
    ⟨r0_7, k0_pay10 (k0_pay7 (View.ld x0 r0_0) (View.ld x1 r0_1) (View.ld x2 r0_2) (View.ld x5 r0_3)) (k0_pay8 (View.ld x0 r0_0) (View.ld x1 r0_1) (View.ld x2 r0_2) (View.ld x5 r0_3) (View.ld x7 r0_4)) (k0_pay9 (View.ld x0 r0_0) (View.ld x1 r0_1) (View.ld x2 r0_2) (View.ld x5 r0_3)) (View.ld x7 r0_5) (View.ld x7 r0_6)⟩]
def out0_10 : Vec F S1024x128 .f32 :=
  View.canon [⟨r0_17, k0_pay42 (k0_pay76 x0 x1 x2 x6) (k0_pay77 x0 x1 x2 x6 x7) (k0_pay78 x0 x1 x2 x6) (View.ld x7 r0_5) (View.ld x7 r0_6)⟩,
    ⟨r0_15, k0_pay35 (k0_pay72 x0 x1 x2 x6) (k0_pay73 x0 x1 x2 x6 x7) (k0_pay74 x0 x1 x2 x6) (k0_pay75 x7) (View.ld x7 r0_6)⟩]
def out0_11 : Vec F S1024x128 .f32 :=
  View.canon [⟨r0_17, k0_pay43 (k0_pay71 x0 x1 x2)⟩,
    ⟨r0_15, k0_pay36 (k0_pay71 x0 x1 x2)⟩]
def out0_12 : Vec F S512x256 .bf16 :=
  View.canon [⟨r0_18, k0_pay44 (k0_pay76 x0 x1 x2 x6) (k0_pay77 x0 x1 x2 x6 x7) (k0_pay78 x0 x1 x2 x6) (View.ld x7 r0_5) (View.ld x7 r0_6)⟩,
    ⟨r0_16, k0_pay37 (k0_pay72 x0 x1 x2 x6) (k0_pay73 x0 x1 x2 x6 x7) (k0_pay74 x0 x1 x2 x6) (k0_pay75 x7) (View.ld x7 r0_6)⟩]
def out0_13 : Vec F S512x256 .bf16 :=
  View.canon [⟨r0_18, k0_pay45 (k0_pay71 x0 x1 x2)⟩,
    ⟨r0_16, k0_pay38 (k0_pay71 x0 x1 x2)⟩]
def out0_14 : Vec F S512x1024 .bf16 :=
  View.canon [⟨r0_14, k0_pay66 (k0_pay79 x0 x1 x3) (View.ld x8 r0_4) (View.ld x8 r0_5) (View.ld x8 r0_6)⟩,
    ⟨r0_13, k0_pay65 (k0_pay63 (k0_pay79 x0 x1 x3) (View.ld x8 r0_4) (View.ld x8 r0_5)) (k0_pay64 (k0_pay79 x0 x1 x3)) (View.ld x8 r0_6)⟩,
    ⟨r0_12, k0_pay61 (k0_pay79 x0 x1 x3) (View.ld x8 r0_4) (View.ld x8 r0_5) (View.ld x8 r0_6)⟩,
    ⟨r0_11, k0_pay60 (k0_pay58 (k0_pay79 x0 x1 x3) (View.ld x8 r0_4) (View.ld x8 r0_5)) (k0_pay59 (k0_pay79 x0 x1 x3)) (View.ld x8 r0_6)⟩,
    ⟨r0_10, k0_pay56 (k0_pay79 x0 x1 x3) (View.ld x8 r0_4) (View.ld x8 r0_5) (View.ld x8 r0_6)⟩,
    ⟨r0_9, k0_pay55 (k0_pay53 (k0_pay79 x0 x1 x3) (View.ld x8 r0_4) (View.ld x8 r0_5)) (k0_pay54 (k0_pay79 x0 x1 x3)) (View.ld x8 r0_6)⟩,
    ⟨r0_8, k0_pay51 (k0_pay79 x0 x1 x3) (View.ld x8 r0_4) (View.ld x8 r0_5) (View.ld x8 r0_6)⟩,
    ⟨r0_7, k0_pay50 (k0_pay48 (k0_pay70 x0 x1) (View.ld x3 r0_19) (View.ld x8 r0_4) (View.ld x8 r0_5)) (k0_pay49 (k0_pay70 x0 x1) (View.ld x3 r0_19)) (View.ld x8 r0_6)⟩]
def out0_15 : Vec F S512x128 .f32 :=
  View.canon [⟨r0_20, k0_pay1 (k0_pay80 x0 x1 x3 x8) (k0_pay81 x0 x1 x3) (View.ld x8 r0_6)⟩]
def out0_16 : Vec F S512x128 .bf16 :=
  View.canon [⟨r0_20, k0_pay2 (k0_pay80 x0 x1 x3 x8) (k0_pay81 x0 x1 x3) (View.ld x8 r0_6)⟩]
def out0_17 : Vec F S512x128 .f32 :=
  View.canon [⟨r0_20, k0_pay3 (k0_pay79 x0 x1 x3)⟩]
def out0_18 : Vec F S512x512 .f32 :=
  View.canon [⟨r0_22, k0_pay4 (k0_pay70 x0 x1) (View.ld x4 r0_21)⟩]
end Pay
theorem cover0_18 (p0 : Vec F S512x512 .f32) (y : S512x512.Idx) :
    ∃ pc ∈ ([⟨r0_22, p0⟩] : List (View.Piece (Elt F) S512x512 .f32)), y ∈ pc.1.set :=
  View.cover_of_tiled [⟨r0_22, p0⟩] S512x512.size (by rfl) y
set_option maxHeartbeats 1000000 in
theorem sound_kernel (c : Dev nD) (E : Set ℕ) (i : grid0.Coords) (arg1 : Memref sig .tc .vmem S512x2048 .f32) (harg1 : arg1.IsWhole) (arg2 : Memref sig .tc .vmem S1x2048 .f32) (harg2 : arg2.IsWhole) (arg3 : Memref sig .tc .vmem S2048x1536 .bf16) (harg3 : arg3.IsWhole) (arg4 : Memref sig .tc .vmem S2048x1280 .bf16) (harg4 : arg4.IsWhole) (arg5 : Memref sig .tc .vmem S2048x512 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S3x512x128 .f32) (harg8 : arg8.IsWhole) (arg9 : Memref sig .tc .vmem S3x512x128 .f32) (harg9 : arg9.IsWhole) (arg10 : Memref sig .tc .vmem S512x1024 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x1024 .bf16) (harg15 : arg15.IsWhole) (arg16 : Memref sig .tc .vmem S512x128 .f32) (harg16 : arg16.IsWhole) (arg17 : Memref sig .tc .vmem S512x128 .bf16) (harg17 : arg17.IsWhole) (arg18 : Memref sig .tc .vmem S512x128 .f32) (harg18 : arg18.IsWhole) (arg19 : Memref sig .tc .vmem S512x512 .f32) (harg19 : arg19.IsWhole)
    (x0 : Vec F S512x2048 .f32) (x1 : Vec F S1x2048 .f32) (x2 : Vec F S2048x1536 .bf16) (x3 : Vec F S2048x1280 .bf16) (x4 : Vec F S2048x512 .bf16) (x5 : Vec F S1x128 .f32) (x6 : Vec F S1x128 .f32) (x7 : Vec F S3x512x128 .f32) (x8 : Vec F S3x512x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ (∃ d, owns c arg10 fullShare d) ∗ (∃ d, owns c arg11 fullShare d) ∗ (∃ d, owns c arg12 fullShare d) ∗ (∃ d, owns c arg13 fullShare d) ∗ (∃ d, owns c arg14 fullShare d) ∗ (∃ d, owns c arg15 fullShare d) ∗ (∃ d, owns c arg16 fullShare d) ∗ (∃ d, owns c arg17 fullShare d) ∗ (∃ d, owns c arg18 fullShare d) ∗ (∃ d, owns c arg19 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out0_9 x0 x1 x2 x5 x7) ∗ owns c arg11 fullShare (out0_10 x0 x1 x2 x6 x7) ∗ owns c arg12 fullShare (out0_11 x0 x1 x2) ∗ owns c arg13 fullShare (out0_12 x0 x1 x2 x6 x7) ∗ owns c arg14 fullShare (out0_13 x0 x1 x2) ∗ owns c arg15 fullShare (out0_14 x0 x1 x3 x8) ∗ owns c arg16 fullShare (out0_15 x0 x1 x3 x8) ∗ owns c arg17 fullShare (out0_16 x0 x1 x3 x8) ∗ owns c arg18 fullShare (out0_17 x0 x1 x3) ∗ owns c arg19 fullShare (out0_18 x0 x1 x4)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _ _ _ _ _ _ _ _)).trans ?_
    rfl
  isplitl [H10]
  · iexists _; isplitr
    swap; · iexact H10
    ipureintro
    refine (View.read_writes_eq_canon _ _ _ (cover0_10 _ _)).trans ?_
    rfl
  isplitl [H11]
  · iexists _; isplitr
    swap; · iexact H11
    ipureintro
    refine (View.read_writes_eq_canon _ _ _ (cover0_11 _ _)).trans ?_
    rfl
  isplitl [H12]
  · iexists _; isplitr
    swap; · iexact H12
    ipureintro
    refine (View.read_writes_eq_canon _ _ _ (cover0_12 _ _)).trans ?_
    rfl
  isplitl [H13]
  · iexists _; isplitr
    swap; · iexact H13
    ipureintro
    refine (View.read_writes_eq_canon _ _ _ (cover0_13 _ _)).trans ?_
    rfl
  isplitl [H14]
  · iexists _; isplitr
    swap; · iexact H14
    ipureintro
    refine (View.read_writes_eq_canon _ _ _ (cover0_14 _ _ _ _ _ _ _ _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  iexists _; isplitr
  swap; · iexact H18
  ipureintro
  refine (View.read_writes_eq_canon _ _ _ (cover0_18 _)).trans ?_
  rfl
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 5 t) (iblk m c 7 t)
    | ⟨10, _⟩ => out0_10 (iblk m c 0 t) (iblk m c 1 t) (iblk m c 2 t) (iblk m c 6 t) (iblk m c 7 t)
    | ⟨11, _⟩ => out0_11 (iblk m c 0 t) (iblk m c 1 t) (iblk m c 2 t)
    | ⟨12, _⟩ => out0_12 (iblk m c 0 t) (iblk m c 1 t) (iblk m c 2 t) (iblk m c 6 t) (iblk m c 7 t)
    | ⟨13, _⟩ => out0_13 (iblk m c 0 t) (iblk m c 1 t) (iblk m c 2 t)
    | ⟨14, _⟩ => out0_14 (iblk m c 0 t) (iblk m c 1 t) (iblk m c 3 t) (iblk m c 8 t)
    | ⟨15, _⟩ => out0_15 (iblk m c 0 t) (iblk m c 1 t) (iblk m c 3 t) (iblk m c 8 t)
    | ⟨16, _⟩ => out0_16 (iblk m c 0 t) (iblk m c 1 t) (iblk m c 3 t) (iblk m c 8 t)
    | ⟨17, _⟩ => out0_17 (iblk m c 0 t) (iblk m c 1 t) (iblk m c 3 t)
    | ⟨18, _⟩ => out0_18 (iblk m c 0 t) (iblk m c 1 t) (iblk m c 4 t)
    | ⟨_ + 19, h⟩ => absurd h (Nat.not_lt.2 (Nat.le_add_left _ _))
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 5 t) (iblk m c 7 t) := by dsimp only [dats]
theorem after0_10 (c : Dev nD) (t : Fin cfg0.N) : (dats m 0 c).after 10 t = out0_10 (iblk m c 0 t) (iblk m c 1 t) (iblk m c 2 t) (iblk m c 6 t) (iblk m c 7 t) := by dsimp only [dats]
theorem after0_11 (c : Dev nD) (t : Fin cfg0.N) : (dats m 0 c).after 11 t = out0_11 (iblk m c 0 t) (iblk m c 1 t) (iblk m c 2 t) := by dsimp only [dats]
theorem after0_12 (c : Dev nD) (t : Fin cfg0.N) : (dats m 0 c).after 12 t = out0_12 (iblk m c 0 t) (iblk m c 1 t) (iblk m c 2 t) (iblk m c 6 t) (iblk m c 7 t) := by dsimp only [dats]
theorem after0_13 (c : Dev nD) (t : Fin cfg0.N) : (dats m 0 c).after 13 t = out0_13 (iblk m c 0 t) (iblk m c 1 t) (iblk m c 2 t) := by dsimp only [dats]
theorem after0_14 (c : Dev nD) (t : Fin cfg0.N) : (dats m 0 c).after 14 t = out0_14 (iblk m c 0 t) (iblk m c 1 t) (iblk m c 3 t) (iblk m c 8 t) := by dsimp only [dats]
theorem after0_15 (c : Dev nD) (t : Fin cfg0.N) : (dats m 0 c).after 15 t = out0_15 (iblk m c 0 t) (iblk m c 1 t) (iblk m c 3 t) (iblk m c 8 t) := by dsimp only [dats]
theorem after0_16 (c : Dev nD) (t : Fin cfg0.N) : (dats m 0 c).after 16 t = out0_16 (iblk m c 0 t) (iblk m c 1 t) (iblk m c 3 t) (iblk m c 8 t) := by dsimp only [dats]
theorem after0_17 (c : Dev nD) (t : Fin cfg0.N) : (dats m 0 c).after 17 t = out0_17 (iblk m c 0 t) (iblk m c 1 t) (iblk m c 3 t) := by dsimp only [dats]
theorem after0_18 (c : Dev nD) (t : Fin cfg0.N) : (dats m 0 c).after 18 t = out0_18 (iblk m c 0 t) (iblk m c 1 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d))
    ∗ (∃ d, owns c (st0_7 t) fullShare ((dats m 0 c).before 7 t d))
    ∗ (∃ d, owns c (st0_8 t) fullShare ((dats m 0 c).before 8 t d))
    ∗ (∃ d, owns c (st0_9 t) fullShare ((dats m 0 c).before 9 t d))
    ∗ (∃ d, owns c (st0_10 t) fullShare ((dats m 0 c).before 10 t d))
    ∗ (∃ d, owns c (st0_11 t) fullShare ((dats m 0 c).before 11 t d))
    ∗ (∃ d, owns c (st0_12 t) fullShare ((dats m 0 c).before 12 t d))
    ∗ (∃ d, owns c (st0_13 t) fullShare ((dats m 0 c).before 13 t d))
    ∗ (∃ d, owns c (st0_14 t) fullShare ((dats m 0 c).before 14 t d))
    ∗ (∃ d, owns c (st0_15 t) fullShare ((dats m 0 c).before 15 t d))
    ∗ (∃ d, owns c (st0_16 t) fullShare ((dats m 0 c).before 16 t d))
    ∗ (∃ d, owns c (st0_17 t) fullShare ((dats m 0 c).before 17 t d))
    ∗ (∃ d, owns c (st0_18 t) fullShare ((dats m 0 c).before 18 t d)))
def bodyPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t)
    ∗ owns c (st0_5 t) fullShare ((dats m 0 c).after 5 t)
    ∗ owns c (st0_6 t) fullShare ((dats m 0 c).after 6 t)
    ∗ owns c (st0_7 t) fullShare ((dats m 0 c).after 7 t)
    ∗ owns c (st0_8 t) fullShare ((dats m 0 c).after 8 t)
    ∗ owns c (st0_9 t) fullShare ((dats m 0 c).after 9 t)
    ∗ owns c (st0_10 t) fullShare ((dats m 0 c).after 10 t)
    ∗ owns c (st0_11 t) fullShare ((dats m 0 c).after 11 t)
    ∗ owns c (st0_12 t) fullShare ((dats m 0 c).after 12 t)
    ∗ owns c (st0_13 t) fullShare ((dats m 0 c).after 13 t)
    ∗ owns c (st0_14 t) fullShare ((dats m 0 c).after 14 t)
    ∗ owns c (st0_15 t) fullShare ((dats m 0 c).after 15 t)
    ∗ owns c (st0_16 t) fullShare ((dats m 0 c).after 16 t)
    ∗ owns c (st0_17 t) fullShare ((dats m 0 c).after 17 t)
    ∗ owns c (st0_18 t) fullShare ((dats m 0 c).after 18 t))
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))
end Cert.Kernel7Ideal.Gen
end
-- ==== Proof.InProjTab.lean ====
module
public import proofs.«01_k».proof.Defs
public import proofs.«01_k».proof.Proof.InProjRef
public import proofs.«01_k».proof.Proof.InProjFrame
public import Idealize.ShloMosaic.Lib.StableHlo.ReadAt
@[expose] public section
set_option maxRecDepth 16384
noncomputable section
open Idealize.ShloMosaic Idealize.ShloMosaic.TcCoe Idealize.SL.Sem
namespace Cert.Kernel7Ideal.InP
open Cert.Kernel7Ideal Cert.Kernel7Ideal.Gen InProjMath
open Cert.Reference7Ideal.InP (hr pr ang16 ang8 REFK REFV REFI REFK_at REFV_at REFI_at)
variable (m : (ℓ : Loc nD τ sig) → Buf (Elt Ideal) ℓ) (c : Dev nD)
theorem lit0_eq (i) : lit0 i = Cert.Reference7Ideal.lit0 i := rfl
theorem lit1_eq (i) : lit1 i = Cert.Reference7Ideal.lit1 i := rfl
theorem tc16_at (r : Fin 2048) (l : Fin 128) :
    V m c main_v34 (ix3 (0 : Fin 3) r l) = tc16 (fun j => Ideal.cos (ang16 r j)) l := by
  suffices h : ∀ z : EReal, tc16 (fun j => Ideal.cos (ang16 r j)) l = z → V m c main_v34 (ix3 (0 : Fin 3) r l) = z from h _ rfl
  intro z hz
  unfold V V0; simp only [List.flatten_cons, List.flatten_nil, List.append_nil, List.cons_append, List.nil_append]
  after_reads_at
  after_reads_at
  after_reads_at
  rw [← hz]
  rfl
theorem ta16_at (r : Fin 2048) (l : Fin 128) :
    V m c main_v34 (ix3 (1 : Fin 3) r l) = ta16 (fun j => Ideal.sin (ang16 r j)) l := by
  suffices h : ∀ z : EReal, ta16 (fun j => Ideal.sin (ang16 r j)) l = z → V m c main_v34 (ix3 (1 : Fin 3) r l) = z from h _ rfl
  intro z hz
  unfold V V0; simp only [List.flatten_cons, List.flatten_nil, List.append_nil, List.cons_append, List.nil_append]
  after_reads_at
  after_reads_at
  after_reads_at
  rw [← hz]
  rfl
theorem tb16_at (r : Fin 2048) (l : Fin 128) :
    V m c main_v34 (ix3 (2 : Fin 3) r l) = tb16 (fun j => Ideal.sin (ang16 r j)) l := by
  suffices h : ∀ z : EReal, tb16 (fun j => Ideal.sin (ang16 r j)) l = z → V m c main_v34 (ix3 (2 : Fin 3) r l) = z from h _ rfl
  intro z hz
  unfold V V0; simp only [List.flatten_cons, List.flatten_nil, List.append_nil, List.cons_append, List.nil_append]
  after_reads_at
  after_reads_at
  after_reads_at
  rw [← hz]
  rfl
theorem tc8_at (r : Fin 2048) (l : Fin 128) :
    V m c main_v62 (ix3 (0 : Fin 3) r l) = tc8 (fun j => Ideal.cos (ang8 r j)) l := by
  suffices h : ∀ z : EReal, tc8 (fun j => Ideal.cos (ang8 r j)) l = z → V m c main_v62 (ix3 (0 : Fin 3) r l) = z from h _ rfl
  intro z hz
  unfold V V0; simp only [List.flatten_cons, List.flatten_nil, List.append_nil, List.cons_append, List.nil_append]
  after_reads_at
  after_reads_at
  after_reads_at
  rw [← hz]
  rfl
theorem ta8_at (r : Fin 2048) (l : Fin 128) :
    V m c main_v62 (ix3 (1 : Fin 3) r l) = ta8 (fun j => Ideal.sin (ang8 r j)) l := by
  suffices h : ∀ z : EReal, ta8 (fun j => Ideal.sin (ang8 r j)) l = z → V m c main_v62 (ix3 (1 : Fin 3) r l) = z from h _ rfl
  intro z hz
  unfold V V0; simp only [List.flatten_cons, List.flatten_nil, List.append_nil, List.cons_append, List.nil_append]
  after_reads_at
  after_reads_at
  after_reads_at
  rw [← hz]
  rfl
theorem tb8_at (r : Fin 2048) (l : Fin 128) :
    V m c main_v62 (ix3 (2 : Fin 3) r l) = tb8 (fun j => Ideal.sin (ang8 r j)) l := by
  suffices h : ∀ z : EReal, tb8 (fun j => Ideal.sin (ang8 r j)) l = z → V m c main_v62 (ix3 (2 : Fin 3) r l) = z from h _ rfl
  intro z hz
  unfold V V0; simp only [List.flatten_cons, List.flatten_nil, List.append_nil, List.cons_append, List.nil_append]
  after_reads_at
  after_reads_at
  after_reads_at
  rw [← hz]
  rfl
def hb (x : FVec Ideal S512x2048 .f32) (g : FVec Ideal S1x2048 .f32) (r : Fin 512) (k : Fin 2048) : EReal :=
  x (ix2 r k) * Ideal.rsqrt (Ideal.div (∑ q : Fin 2048, x (ix2 r q) * x (ix2 r q)) (Ideal.ofBits FTy.f32 1157627904#32)
    + Ideal.ofBits FTy.f32 897988541#32) * g (ix2 0 k)
theorem lt_N (t : Fin cfg0.N) : t.val < 64 := lt_of_lt_of_eq t.isLt N_0
theorem idx : ∀ t : Fin cfg0.N, win0_0.index t = ![t.val, 0] ∧ win0_1.index t = ![0, 0] ∧ win0_2.index t = ![0, 0] ∧ win0_3.index t = ![0, 0] ∧ win0_6.index t = ![0, 0] ∧ win0_7.index t = ![0, t.val % 4, 0] ∧ win0_8.index t = ![0, t.val % 4, 0] ∧ win0_10.index t = ![t.val, 0] ∧ win0_11.index t = ![t.val, 0] ∧ win0_15.index t = ![t.val, 0] :=
  (by decide +kernel : ∀ t : Fin grid0.N, _)
theorem vx_at (R : Fin 32768) (k : Fin 2048) : V m c main_v63 (ix2 R k) = (m ((c : Thread nD τ).loc main_arg0)) (ix3 (⟨R.val / 2048, by omega⟩ : Fin 16) (⟨R.val % 2048, by omega⟩ : Fin 2048) k) := by
  suffices h : ∀ z : EReal, (m ((c : Thread nD τ).loc main_arg0)) (ix3 (⟨R.val / 2048, by omega⟩ : Fin 16) (⟨R.val % 2048, by omega⟩ : Fin 2048) k) = z → V m c main_v63 (ix2 R k) = z from h _ rfl
  intro z hz
  unfold V V0; simp only [List.flatten_cons, List.flatten_nil, List.append_nil, List.cons_append, List.nil_append]
  after_reads_at
  rw [← hz]
theorem vg_at (k : Fin 2048) : V m c main_v64 (ix2 (0 : Fin 1) k) = (m ((c : Thread nD τ).loc main_arg1)) (ix1 k) := by
  suffices h : ∀ z : EReal, (m ((c : Thread nD τ).loc main_arg1)) (ix1 k) = z → V m c main_v64 (ix2 (0 : Fin 1) k) = z from h _ rfl
  intro z hz
  unfold V V0; simp only [List.flatten_cons, List.flatten_nil, List.append_nil, List.cons_append, List.nil_append]
  after_reads_at
  rw [← hz]
theorem vw_at (k : Fin 2048) (l : Fin 1536) : V m c main_v66 (ix2 k l) = (m ((c : Thread nD τ).loc main_arg2)) (ix2 k (⟨l.val, by omega⟩ : Fin 7248)) := by
  suffices h : ∀ z : EReal, (m ((c : Thread nD τ).loc main_arg2)) (ix2 k (⟨l.val, by omega⟩ : Fin 7248)) = z → V m c main_v66 (ix2 k l) = z from h _ rfl
  intro z hz
  unfold V V0; simp only [List.flatten_cons, List.flatten_nil, List.append_nil, List.cons_append, List.nil_append]
  after_reads_at
  rw [← hz]
theorem vi_at (k : Fin 2048) (l : Fin 64) : V m c main_v67 (ix2 k (⟨1024 + l.val, by omega⟩ : Fin 1280)) = (m ((c : Thread nD τ).loc main_arg2)) (ix2 k (⟨2560 + l.val, by omega⟩ : Fin 7248)) := by
  suffices h : ∀ z : EReal, (m ((c : Thread nD τ).loc main_arg2)) (ix2 k (⟨2560 + l.val, by omega⟩ : Fin 7248)) = z → V m c main_v67 (ix2 k (⟨1024 + l.val, by omega⟩ : Fin 1280)) = z from h _ rfl
  intro z hz
  unfold V V0; simp only [List.flatten_cons, List.flatten_nil, List.append_nil, List.cons_append, List.nil_append]
  after_reads_at
  after_reads_at
  rw [← hz]
theorem vk_at (k : Fin 128) : V m c main_v70 (ix2 (0 : Fin 1) k) = (m ((c : Thread nD τ).loc main_arg4)) (ix1 k) := by
  suffices h : ∀ z : EReal, (m ((c : Thread nD τ).loc main_arg4)) (ix1 k) = z → V m c main_v70 (ix2 (0 : Fin 1) k) = z from h _ rfl
  intro z hz
  unfold V V0; simp only [List.flatten_cons, List.flatten_nil, List.append_nil, List.cons_append, List.nil_append]
  after_reads_at
  rw [← hz]
theorem rd0 (t : Fin cfg0.N) (r : Fin 512) (k : Fin 2048) : iblk m c 0 t (ix2 r k) = (m ((c : Thread nD τ).loc main_arg0)) (ix3 (⟨(t.val * 512 + r.val) / 2048, by have := lt_N t; omega⟩ : Fin 16) (⟨(t.val * 512 + r.val) % 2048, by omega⟩ : Fin 2048) k) := by
  have ht := lt_N t
  have e : ((cfg0.win 0).blk t).view.emb (ix2 r k) = ix2 (⟨t.val * 512 + r.val, by omega⟩ : Fin 32768) k := by blk_ext [idx t]
  blk_simp [iblk]
  erw [e]; exact vx_at m c (⟨t.val * 512 + r.val, by omega⟩ : Fin 32768) k
theorem rd1 (t : Fin cfg0.N) (k : Fin 2048) : iblk m c 1 t (ix2 (0 : Fin 1) k) = (m ((c : Thread nD τ).loc main_arg1)) (ix1 k) := by
  have ht := lt_N t
  have e : ((cfg0.win 1).blk t).view.emb (ix2 (0 : Fin 1) k) = ix2 (0 : Fin 1) k := by blk_ext [idx t]
  blk_simp [iblk]
  erw [e]; exact vg_at m c k
theorem rd2 (t : Fin cfg0.N) (k : Fin 2048) (l : Fin 1536) : iblk m c 2 t (ix2 k l) = (m ((c : Thread nD τ).loc main_arg2)) (ix2 k (⟨l.val, by omega⟩ : Fin 7248)) := by
  have ht := lt_N t
  have e : ((cfg0.win 2).blk t).view.emb (ix2 k l) = ix2 k l := by blk_ext [idx t]
  blk_simp [iblk]
  erw [e]; exact vw_at m c k l
theorem rd3 (t : Fin cfg0.N) (k : Fin 2048) (l : Fin 64) : iblk m c 3 t (ix2 k (⟨1024 + l.val, by omega⟩ : Fin 1280)) = (m ((c : Thread nD τ).loc main_arg2)) (ix2 k (⟨2560 + l.val, by omega⟩ : Fin 7248)) := by
  have ht := lt_N t
  have e : ((cfg0.win 3).blk t).view.emb (ix2 k (⟨1024 + l.val, by omega⟩ : Fin 1280)) = ix2 k (⟨1024 + l.val, by omega⟩ : Fin 1280) := by blk_ext [idx t]
  blk_simp [iblk]
  erw [e]; exact vi_at m c k l
theorem rd6 (t : Fin cfg0.N) (k : Fin 128) : iblk m c 6 t (ix2 (0 : Fin 1) k) = (m ((c : Thread nD τ).loc main_arg4)) (ix1 k) := by
  have ht := lt_N t
  have e : ((cfg0.win 6).blk t).view.emb (ix2 (0 : Fin 1) k) = ix2 (0 : Fin 1) k := by blk_ext [idx t]
  blk_simp [iblk]
  erw [e]; exact vk_at m c k
theorem rd7 (t : Fin cfg0.N) (q : Fin 3) (r : Fin 512) (l : Fin 128) : iblk m c 7 t (ix3 q r l) = V m c main_v34 (ix3 q (⟨t.val % 4 * 512 + r.val, by omega⟩ : Fin 2048) l) := by
  have ht := lt_N t
  have e : ((cfg0.win 7).blk t).view.emb (ix3 q r l) = ix3 q (⟨t.val % 4 * 512 + r.val, by omega⟩ : Fin 2048) l := by blk_ext [idx t]
  blk_simp [iblk]
  erw [e]
theorem rd8 (t : Fin cfg0.N) (q : Fin 3) (r : Fin 512) (l : Fin 128) : iblk m c 8 t (ix3 q r l) = V m c main_v62 (ix3 q (⟨t.val % 4 * 512 + r.val, by omega⟩ : Fin 2048) l) := by
  have ht := lt_N t
  have e : ((cfg0.win 8).blk t).view.emb (ix3 q r l) = ix3 q (⟨t.val % 4 * 512 + r.val, by omega⟩ : Fin 2048) l := by blk_ext [idx t]
  blk_simp [iblk]
  erw [e]
theorem hb_eq (t : Fin cfg0.N) (r : Fin 512) (k : Fin 2048) : hb (iblk m c 0 t) (iblk m c 1 t) r k
    = hr (m ((c : Thread nD τ).loc main_arg0)) (m ((c : Thread nD τ).loc main_arg1)) (⟨(t.val * 512 + r.val) / 2048, by have := lt_N t; omega⟩ : Fin 16) (⟨(t.val * 512 + r.val) % 2048, by omega⟩ : Fin 2048) k := by
  unfold hb hr
  simp only [rd0, rd1]
theorem pr2 (t : Fin cfg0.N) (r : Fin 512) (j : Fin 1536) : ∑ k : Fin 2048, hb (iblk m c 0 t) (iblk m c 1 t) r k * iblk m c 2 t (ix2 k j)
    = pr (m ((c : Thread nD τ).loc main_arg0)) (m ((c : Thread nD τ).loc main_arg1)) (m ((c : Thread nD τ).loc main_arg2)) (⟨(t.val * 512 + r.val) / 2048, by have := lt_N t; omega⟩ : Fin 16) (⟨(t.val * 512 + r.val) % 2048, by omega⟩ : Fin 2048) (⟨j.val, by omega⟩ : Fin 7248) :=
  Finset.sum_congr rfl fun k _ => by rw [hb_eq, rd2]
theorem pr3 (t : Fin cfg0.N) (r : Fin 512) (j : Fin 64) : ∑ k : Fin 2048, hb (iblk m c 0 t) (iblk m c 1 t) r k * iblk m c 3 t (ix2 k (⟨1024 + j.val, by omega⟩ : Fin 1280))
    = pr (m ((c : Thread nD τ).loc main_arg0)) (m ((c : Thread nD τ).loc main_arg1)) (m ((c : Thread nD τ).loc main_arg2)) (⟨(t.val * 512 + r.val) / 2048, by have := lt_N t; omega⟩ : Fin 16) (⟨(t.val * 512 + r.val) % 2048, by omega⟩ : Fin 2048) (⟨2560 + j.val, by omega⟩ : Fin 7248) :=
  Finset.sum_congr rfl fun k _ => by rw [hb_eq, rd3]
theorem pay5_at (x : FVec Ideal S512x2048 .f32) (g : FVec Ideal S1x2048 .f32) (r : Fin 512) (k : Fin 2048) :
    k0_pay5 (F := Ideal) x g (ix2 r k) = hb x g r k := by
  pointwise [k0_pay5, hb]
theorem pay6_at (x : FVec Ideal S512x2048 .f32) (g : FVec Ideal S1x2048 .f32) (w : FVec Ideal S2048x1536 .bf16) (r : Fin 512) (j : Fin 1536) :
    k0_pay6 (F := Ideal) x g w (ix2 r j) = ∑ k : Fin 2048, hb x g r k * w (ix2 k j) := by
  pointwise [k0_pay6, pay5_at]
theorem pay46_at (x : FVec Ideal S512x2048 .f32) (g : FVec Ideal S1x2048 .f32) (w : FVec Ideal S2048x1280 .bf16) (r : Fin 512) (j : Fin 1280) :
    k0_pay46 (F := Ideal) (k0_pay5 x g) w (ix2 r j) = ∑ k : Fin 2048, hb x g r k * w (ix2 k j) := by
  pointwise [k0_pay46, pay5_at]
theorem pay31_at (v : FVec Ideal S512x1536 .f32) (g : FVec Ideal S1x128 .f32) (r : Fin 512) (l : Fin 128) :
    k0_pay31 (F := Ideal) v g (ix2 r l) = nk (fun q => v (ix2 r (⟨1024 + q.val, by omega⟩ : Fin 1536))) (fun q => g (ix2 0 q)) l := by
  pointwise [k0_pay31, nk]
theorem pay39_at (v : FVec Ideal S512x1536 .f32) (g : FVec Ideal S1x128 .f32) (r : Fin 512) (l : Fin 128) :
    k0_pay39 (F := Ideal) v g (ix2 r l) = nk (fun q => v (ix2 r (⟨1152 + q.val, by omega⟩ : Fin 1536))) (fun q => g (ix2 0 q)) l := by
  pointwise [k0_pay39, nk]
theorem kev (v : FVec Ideal S512x1536 .f32) (g : FVec Ideal S1x128 .f32) (a b d : FVec Ideal S1x512x128 .f32) (C S : Fin 16 → EReal) (r : Fin 512)
    (ha : ∀ l, a (ix3 0 r l) = tc16 C l) (hb : ∀ l, b (ix3 0 r l) = ta16 S l) (hd : ∀ l, d (ix3 0 r l) = tb16 S l) (l : Fin 128) :
    k0_pay35 (F := Ideal) (k0_pay31 v g) (k0_pay32 v g a) (k0_pay33 v g) (k0_pay34 b) d (ix2 r l)
    = rot16 (nk (fun q => v (ix2 r (⟨1024 + q.val, by omega⟩ : Fin 1536))) (fun q => g (ix2 0 q))) C S l := by
  pointwise [k0_pay35, k0_pay32, k0_pay33, k0_pay34, pay31_at]
  rw [ha, hb, hd]
  exact rope16 _ C S l
theorem kod (v : FVec Ideal S512x1536 .f32) (g : FVec Ideal S1x128 .f32) (a b d : FVec Ideal S1x512x128 .f32) (C S : Fin 16 → EReal) (r : Fin 512)
    (ha : ∀ l, a (ix3 0 r l) = tc16 C l) (hb : ∀ l, b (ix3 0 r l) = ta16 S l) (hd : ∀ l, d (ix3 0 r l) = tb16 S l) (l : Fin 128) :
    k0_pay42 (F := Ideal) (k0_pay39 v g) (k0_pay40 v g a) (k0_pay41 v g) b d (ix2 r l)
    = rot16 (nk (fun q => v (ix2 r (⟨1152 + q.val, by omega⟩ : Fin 1536))) (fun q => g (ix2 0 q))) C S l := by
  pointwise [k0_pay42, k0_pay40, k0_pay41, pay39_at]
  rw [ha, hb, hd]
  exact rope16 _ C S l
theorem kix (v : FVec Ideal S512x1280 .f32) (a b d : FVec Ideal S1x512x128 .f32) (C S : Fin 8 → EReal) (r : Fin 512)
    (ha : ∀ l, a (ix3 0 r l) = tc8 C l) (hb : ∀ l, b (ix3 0 r l) = ta8 S l) (hd : ∀ l, d (ix3 0 r l) = tb8 S l) (l : Fin 64) (u : Fin 128) (hu : u.val = l.val) :
    k0_pay1 (F := Ideal) (k0_pay68 v a b) (k0_pay69 v) d (ix2 r u)
    = rot8 (fun q => v (ix2 r (⟨1024 + q.val, by omega⟩ : Fin 1280))) C S l := by
  pointwise [k0_pay1, k0_pay68, k0_pay69, k0_pay67]
  rw [ha, hb, hd]
  exact rope8 (fun q => v (ix2 r (⟨1024 + q.val, by omega⟩ : Fin 1280))) C S l u hu
theorem vev (v : FVec Ideal S512x1536 .f32) (r : Fin 512) (l : Fin 128) : k0_pay36 (F := Ideal) v (ix2 r l) = v (ix2 r (⟨1280 + l.val, by omega⟩ : Fin 1536)) := by
  pointwise [k0_pay36]
theorem vod (v : FVec Ideal S512x1536 .f32) (r : Fin 512) (l : Fin 128) : k0_pay43 (F := Ideal) v (ix2 r l) = v (ix2 r (⟨1408 + l.val, by omega⟩ : Fin 1536)) := by
  pointwise [k0_pay43]
theorem canon_pair (p q : FVec Ideal S512x128 .f32) (y : S1024x128.Idx) (r : Fin 512) (l : Fin 128) (hl : (y 1).val = l.val) :
    ((y 0).val = 2 * r.val → View.canon ([⟨r0_17, p⟩, ⟨r0_15, q⟩] : List (View.Piece (Elt Ideal) S1024x128 .f32)) y = q (ix2 r l))
    ∧ ((y 0).val = 2 * r.val + 1 → View.canon ([⟨r0_17, p⟩, ⟨r0_15, q⟩] : List (View.Piece (Elt Ideal) S1024x128 .f32)) y = p (ix2 r l)) := by
  constructor
  · intro h
    have e : y = r0_15.emb (ix2 r l) := by
      funext a; apply Fin.ext; revert a
      exact Fin.forall_fin_two.2 ⟨by show (y 0).val = 0 + 2 * r.val; omega, by show (y 1).val = 0 + 1 * l.val; omega⟩
    refine (View.canon_cons_of_not_mem _ _ ?_).trans ?_
    · intro hm
      obtain ⟨j, _, hj⟩ := (LoadRect.mem_set _).1 hm 0
      have hj' : (y 0).val = 1 + 2 * j := hj
      omega
    · rw [e]; exact View.canon_cons_emb _ _ _ _
  · intro h
    have e : y = r0_17.emb (ix2 r l) := by
      funext a; apply Fin.ext; revert a
      exact Fin.forall_fin_two.2 ⟨by show (y 0).val = 1 + 2 * r.val; omega, by show (y 1).val = 0 + 1 * l.val; omega⟩
    rw [e]; exact View.canon_cons_emb _ _ _ _
theorem ld0 (x : Vec Ideal S512x2048 .f32) : View.ld x r0_0 = x := View.ld_unit_zero (by funext a; fin_cases a <;> rfl) _ _
theorem ld1 (x : Vec Ideal S1x2048 .f32) : View.ld x r0_1 = x := View.ld_unit_zero (by funext a; fin_cases a <;> rfl) _ _
theorem ld2 (x : Vec Ideal S2048x1536 .bf16) : View.ld x r0_2 = x := View.ld_unit_zero (by funext a; fin_cases a <;> rfl) _ _
theorem ld3 (x : Vec Ideal S1x128 .f32) : View.ld x r0_3 = x := View.ld_unit_zero (by funext a; fin_cases a <;> rfl) _ _
theorem ld19 (x : Vec Ideal S2048x1280 .bf16) : View.ld x r0_19 = x := View.ld_unit_zero (by funext a; fin_cases a <;> rfl) _ _
theorem ld4 (x : Vec Ideal S3x512x128 .f32) (r : Fin 512) (l : Fin 128) : View.ld x r0_4 (ix3 0 r l) = x (ix3 (0 : Fin 3) r l) :=
  View.ld_unit_apply_of x _ _ _ _ _ fun | 0 => rfl | 1 => (Nat.zero_add _).symm | 2 => (Nat.zero_add _).symm
theorem ld5 (x : Vec Ideal S3x512x128 .f32) (r : Fin 512) (l : Fin 128) : View.ld x r0_5 (ix3 0 r l) = x (ix3 (1 : Fin 3) r l) :=
  View.ld_unit_apply_of x _ _ _ _ _ fun | 0 => rfl | 1 => (Nat.zero_add _).symm | 2 => (Nat.zero_add _).symm
theorem ld6 (x : Vec Ideal S3x512x128 .f32) (r : Fin 512) (l : Fin 128) : View.ld x r0_6 (ix3 0 r l) = x (ix3 (2 : Fin 3) r l) :=
  View.ld_unit_apply_of x _ _ _ _ _ fun | 0 => rfl | 1 => (Nat.zero_add _).symm | 2 => (Nat.zero_add _).symm
end Cert.Kernel7Ideal.InP
end
-- ==== Proof.InProjValue.lean ====
module
public import proofs.«01_k».proof.Defs
public import proofs.«01_k».proof.Proof.InProjTab
@[expose] public section
set_option maxRecDepth 16384
noncomputable section
open Idealize.ShloMosaic Idealize.ShloMosaic.TcCoe Idealize.SL.Sem
namespace Cert.Kernel7Ideal.InP
open Cert.Kernel7Ideal Cert.Kernel7Ideal.Gen InProjMath
open Cert.Reference7Ideal.InP (hr pr ang16 ang8 REFK REFV REFI REFK_at REFV_at REFI_at)
variable (m : (ℓ : Loc nD τ sig) → Buf (Elt Ideal) ℓ) (c : Dev nD)
theorem v_at (t : Fin cfg0.N) (r : Fin 512) (j : Fin 1536) (b : Fin 16) (s : Fin 2048) (hb : b.val = (t.val * 512 + r.val) / 2048) (hs : s.val = (t.val * 512 + r.val) % 2048) (J : Fin 7248) (hJ : J.val = j.val) :
    k0_pay71 (iblk m c 0 t) (iblk m c 1 t) (iblk m c 2 t) (ix2 r j) = pr (m ((c : Thread nD τ).loc main_arg0)) (m ((c : Thread nD τ).loc main_arg1)) (m ((c : Thread nD τ).loc main_arg2)) b s J := by
  unfold k0_pay71
  rw [ld0, ld1, ld2]
  refine ((pay6_at _ _ _ r j).trans (pr2 m c t r j)).trans ?_
  congr 1
  exacts [Fin.ext hb.symm, Fin.ext hs.symm, Fin.ext hJ.symm]
theorem i_at (t : Fin cfg0.N) (r : Fin 512) (q : Fin 64) (b : Fin 16) (s : Fin 2048) (hb : b.val = (t.val * 512 + r.val) / 2048) (hs : s.val = (t.val * 512 + r.val) % 2048) :
    k0_pay79 (iblk m c 0 t) (iblk m c 1 t) (iblk m c 3 t) (ix2 r (⟨1024 + q.val, by omega⟩ : Fin 1280)) = pr (m ((c : Thread nD τ).loc main_arg0)) (m ((c : Thread nD τ).loc main_arg1)) (m ((c : Thread nD τ).loc main_arg2)) b s (⟨2560 + q.val, by omega⟩ : Fin 7248) := by
  unfold k0_pay79 k0_pay70
  rw [ld0, ld1, ld19]
  refine ((pay46_at _ _ _ r _).trans (pr3 m c t r q)).trans ?_
  congr 1
  exacts [Fin.ext hb.symm, Fin.ext hs.symm]
theorem tc16_rd (t : Fin cfg0.N) (r : Fin 512) (s : Fin 2048) (hs : s.val = (t.val * 512 + r.val) % 2048) (l : Fin 128) :
    View.ld (Val := Elt Ideal) (e' := .f32) (iblk m c 7 t) r0_4 (ix3 0 r l) = tc16 (fun j => Ideal.cos (ang16 s j)) l := by
  have ht := lt_N t
  have es : (⟨t.val % 4 * 512 + r.val, by omega⟩ : Fin 2048) = s := Fin.ext (by show t.val % 4 * 512 + r.val = s.val; omega)
  exact (ld4 _ r l).trans ((rd7 m c t 0 r l).trans ((tc16_at m c _ l).trans (by rw [es])))
theorem ta16_rd (t : Fin cfg0.N) (r : Fin 512) (s : Fin 2048) (hs : s.val = (t.val * 512 + r.val) % 2048) (l : Fin 128) :
    View.ld (Val := Elt Ideal) (e' := .f32) (iblk m c 7 t) r0_5 (ix3 0 r l) = ta16 (fun j => Ideal.sin (ang16 s j)) l := by
  have ht := lt_N t
  have es : (⟨t.val % 4 * 512 + r.val, by omega⟩ : Fin 2048) = s := Fin.ext (by show t.val % 4 * 512 + r.val = s.val; omega)
  exact (ld5 _ r l).trans ((rd7 m c t 1 r l).trans ((ta16_at m c _ l).trans (by rw [es])))
theorem tb16_rd (t : Fin cfg0.N) (r : Fin 512) (s : Fin 2048) (hs : s.val = (t.val * 512 + r.val) % 2048) (l : Fin 128) :
    View.ld (Val := Elt Ideal) (e' := .f32) (iblk m c 7 t) r0_6 (ix3 0 r l) = tb16 (fun j => Ideal.sin (ang16 s j)) l := by
  have ht := lt_N t
  have es : (⟨t.val % 4 * 512 + r.val, by omega⟩ : Fin 2048) = s := Fin.ext (by show t.val % 4 * 512 + r.val = s.val; omega)
  exact (ld6 _ r l).trans ((rd7 m c t 2 r l).trans ((tb16_at m c _ l).trans (by rw [es])))
theorem tc8_rd (t : Fin cfg0.N) (r : Fin 512) (s : Fin 2048) (hs : s.val = (t.val * 512 + r.val) % 2048) (l : Fin 128) :
    View.ld (Val := Elt Ideal) (e' := .f32) (iblk m c 8 t) r0_4 (ix3 0 r l) = tc8 (fun j => Ideal.cos (ang8 s j)) l := by
  have ht := lt_N t
  have es : (⟨t.val % 4 * 512 + r.val, by omega⟩ : Fin 2048) = s := Fin.ext (by show t.val % 4 * 512 + r.val = s.val; omega)
  exact (ld4 _ r l).trans ((rd8 m c t 0 r l).trans ((tc8_at m c _ l).trans (by rw [es])))
theorem ta8_rd (t : Fin cfg0.N) (r : Fin 512) (s : Fin 2048) (hs : s.val = (t.val * 512 + r.val) % 2048) (l : Fin 128) :
    View.ld (Val := Elt Ideal) (e' := .f32) (iblk m c 8 t) r0_5 (ix3 0 r l) = ta8 (fun j => Ideal.sin (ang8 s j)) l := by
  have ht := lt_N t
  have es : (⟨t.val % 4 * 512 + r.val, by omega⟩ : Fin 2048) = s := Fin.ext (by show t.val % 4 * 512 + r.val = s.val; omega)
  exact (ld5 _ r l).trans ((rd8 m c t 1 r l).trans ((ta8_at m c _ l).trans (by rw [es])))
theorem tb8_rd (t : Fin cfg0.N) (r : Fin 512) (s : Fin 2048) (hs : s.val = (t.val * 512 + r.val) % 2048) (l : Fin 128) :
    View.ld (Val := Elt Ideal) (e' := .f32) (iblk m c 8 t) r0_6 (ix3 0 r l) = tb8 (fun j => Ideal.sin (ang8 s j)) l := by
  have ht := lt_N t
  have es : (⟨t.val % 4 * 512 + r.val, by omega⟩ : Fin 2048) = s := Fin.ext (by show t.val % 4 * 512 + r.val = s.val; omega)
  exact (ld6 _ r l).trans ((rd8 m c t 2 r l).trans ((tb8_at m c _ l).trans (by rw [es])))
theorem point10 (t : Fin cfg0.N) (y : S1024x128.Idx) : out0_10 (iblk m c 0 t) (iblk m c 1 t) (iblk m c 2 t) (iblk m c 6 t) (iblk m c 7 t) y
    = REFK (m ((c : Thread nD τ).loc main_arg0)) (m ((c : Thread nD τ).loc main_arg1)) (m ((c : Thread nD τ).loc main_arg2)) (m ((c : Thread nD τ).loc main_arg4)) (((cfg0.win 10).blk t).view.emb y) := by
  have hy0 : (y 0).val < 1024 := (y 0).isLt
  have ht := lt_N t
  have he : ((cfg0.win 10).blk t).view.emb y = ix2 (⟨t.val * 1024 + (y 0).val, by omega⟩ : Fin 65536) (y 1) := by blk_ext [idx t]
  refine Eq.trans ?_ ((congrArg (REFK (m ((c : Thread nD τ).loc main_arg0)) (m ((c : Thread nD τ).loc main_arg1)) (m ((c : Thread nD τ).loc main_arg2)) (m ((c : Thread nD τ).loc main_arg4))) he).trans (REFK_at _ _ _ _ _ (y 1))).symm
  unfold out0_10
  rcases Nat.mod_two_eq_zero_or_one (y 0).val with h | h
  · have hr : (y 0).val = 2 * (⟨(y 0).val / 2, by omega⟩ : Fin 512).val := by show (y 0).val = 2 * ((y 0).val / 2); omega
    generalize (⟨(y 0).val / 2, by omega⟩ : Fin 512) = r at hr
    refine ((canon_pair _ _ y r (y 1) rfl).1 hr).trans ?_
    have hs : (⟨(t.val * 1024 + (y 0).val) / 2 % 2048, by omega⟩ : Fin 2048).val = (t.val * 512 + r.val) % 2048 := by show (t.val * 1024 + (y 0).val) / 2 % 2048 = _; omega
    unfold k0_pay72 k0_pay73 k0_pay74 k0_pay75
    rw [ld3]
    refine (kev _ _ _ _ _ _ _ r (tc16_rd m c t r _ hs) (ta16_rd m c t r _ hs) (tb16_rd m c t r _ hs) (y 1)).trans ?_
    refine congrArg₂ (fun p g => rot16 (nk p g) _ _ (y 1)) (funext fun q => ?_) (funext fun q => rd6 m c t q)
    exact v_at m c t r _ _ _ (by show (t.val * 1024 + (y 0).val) / 4096 = _; omega) (by show (t.val * 1024 + (y 0).val) / 2 % 2048 = _; omega) _ (by show 1024 + ((t.val * 1024 + (y 0).val) % 2 * 128 + q.val) = 1024 + q.val; omega)
  · have hr : (y 0).val = 2 * (⟨(y 0).val / 2, by omega⟩ : Fin 512).val + 1 := by show (y 0).val = 2 * ((y 0).val / 2) + 1; omega
    generalize (⟨(y 0).val / 2, by omega⟩ : Fin 512) = r at hr
    refine ((canon_pair _ _ y r (y 1) rfl).2 hr).trans ?_
    have hs : (⟨(t.val * 1024 + (y 0).val) / 2 % 2048, by omega⟩ : Fin 2048).val = (t.val * 512 + r.val) % 2048 := by show (t.val * 1024 + (y 0).val) / 2 % 2048 = _; omega
    unfold k0_pay76 k0_pay77 k0_pay78
    rw [ld3]
    refine (kod _ _ _ _ _ _ _ r (tc16_rd m c t r _ hs) (ta16_rd m c t r _ hs) (tb16_rd m c t r _ hs) (y 1)).trans ?_
    refine congrArg₂ (fun p g => rot16 (nk p g) _ _ (y 1)) (funext fun q => ?_) (funext fun q => rd6 m c t q)
    exact v_at m c t r _ _ _ (by show (t.val * 1024 + (y 0).val) / 4096 = _; omega) (by show (t.val * 1024 + (y 0).val) / 2 % 2048 = _; omega) _ (by show 1024 + ((t.val * 1024 + (y 0).val) % 2 * 128 + q.val) = 1152 + q.val; omega)
theorem final10 : (dats m 0 c).arrAt 10 (cfgs 0).N = REFK (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t _ y => ?_
  blk_simp
  rw [after0_10]
  exact point10 m c t y
theorem point11 (t : Fin cfg0.N) (y : S1024x128.Idx) : out0_11 (iblk m c 0 t) (iblk m c 1 t) (iblk m c 2 t) y
    = REFV (m ((c : Thread nD τ).loc main_arg0)) (m ((c : Thread nD τ).loc main_arg1)) (m ((c : Thread nD τ).loc main_arg2)) (((cfg0.win 11).blk t).view.emb y) := by
  have hy0 : (y 0).val < 1024 := (y 0).isLt
  have ht := lt_N t
  have he : ((cfg0.win 11).blk t).view.emb y = ix2 (⟨t.val * 1024 + (y 0).val, by omega⟩ : Fin 65536) (y 1) := by blk_ext [idx t]
  refine Eq.trans ?_ ((congrArg (REFV (m ((c : Thread nD τ).loc main_arg0)) (m ((c : Thread nD τ).loc main_arg1)) (m ((c : Thread nD τ).loc main_arg2))) he).trans (REFV_at _ _ _ _ (y 1))).symm
  unfold out0_11
  rcases Nat.mod_two_eq_zero_or_one (y 0).val with h | h
  · have hr : (y 0).val = 2 * (⟨(y 0).val / 2, by omega⟩ : Fin 512).val := by show (y 0).val = 2 * ((y 0).val / 2); omega
    generalize (⟨(y 0).val / 2, by omega⟩ : Fin 512) = r at hr
    refine ((canon_pair _ _ y r (y 1) rfl).1 hr).trans ?_
    refine (vev _ r (y 1)).trans ?_
    exact v_at m c t r _ _ _ (by show (t.val * 1024 + (y 0).val) / 4096 = _; omega) (by show (t.val * 1024 + (y 0).val) / 2 % 2048 = _; omega) _ (by show 1280 + ((t.val * 1024 + (y 0).val) % 2 * 128 + (y 1).val) = 1280 + (y 1).val; omega)
  · have hr : (y 0).val = 2 * (⟨(y 0).val / 2, by omega⟩ : Fin 512).val + 1 := by show (y 0).val = 2 * ((y 0).val / 2) + 1; omega
    generalize (⟨(y 0).val / 2, by omega⟩ : Fin 512) = r at hr
    refine ((canon_pair _ _ y r (y 1) rfl).2 hr).trans ?_
    refine (vod _ r (y 1)).trans ?_
    exact v_at m c t r _ _ _ (by show (t.val * 1024 + (y 0).val) / 4096 = _; omega) (by show (t.val * 1024 + (y 0).val) / 2 % 2048 = _; omega) _ (by show 1280 + ((t.val * 1024 + (y 0).val) % 2 * 128 + (y 1).val) = 1408 + (y 1).val; omega)
theorem final11 : (dats m 0 c).arrAt 11 (cfgs 0).N = REFV (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  exact point11 m c t y
def o15 (t : Fin cfg0.N) : FVec Ideal S512x128 .f32 := out0_15 (iblk m c 0 t) (iblk m c 1 t) (iblk m c 3 t) (iblk m c 8 t)
theorem canon20 (p : FVec Ideal S512x128 .f32) : View.canon ([⟨r0_20, p⟩] : List (View.Piece (Elt Ideal) S512x128 .f32)) = p := by
  funext y
  have e : y = r0_20.emb y := by
    funext a; apply Fin.ext; revert a
    exact Fin.forall_fin_two.2 ⟨by show (y 0).val = 0 + 1 * (y 0).val; omega, by show (y 1).val = 0 + 1 * (y 1).val; omega⟩
  refine (congrArg _ e).trans ?_
  exact View.canon_cons_emb _ _ _ _
theorem o15_at (t : Fin cfg0.N) (r : Fin 512) (l : Fin 64) (u : Fin 128) (hu : u.val = l.val) (R : Fin 32768) (hR : R.val = t.val * 512 + r.val) :
    o15 m c t (ix2 r u) = REFI (m ((c : Thread nD τ).loc main_arg0)) (m ((c : Thread nD τ).loc main_arg1)) (m ((c : Thread nD τ).loc main_arg2)) (ix2 R l) := by
  refine Eq.trans ?_ (REFI_at _ _ _ R l).symm
  unfold o15 out0_15
  rw [canon20]
  have hb : (⟨R.val / 2048, by omega⟩ : Fin 16).val = (t.val * 512 + r.val) / 2048 := by show R.val / 2048 = _; rw [hR]
  have hs : (⟨R.val % 2048, by omega⟩ : Fin 2048).val = (t.val * 512 + r.val) % 2048 := by show R.val % 2048 = _; rw [hR]
  unfold k0_pay80 k0_pay81
  refine (kix _ _ _ _ _ _ r (tc8_rd m c t r _ hs) (ta8_rd m c t r _ hs) (tb8_rd m c t r _ hs) l u hu).trans ?_
  exact congrArg (fun p => rot8 p _ _ l) (funext fun q => i_at m c t r q _ _ hb hs)
theorem div_lt (i : S32768x128.Idx) : (i 0).val / 512 < cfg0.N := by
  have h : (i 0).val < 32768 := (i 0).isLt
  exact lt_of_lt_of_eq (by omega : (i 0).val / 512 < 64) N_0.symm
def g15 : FVec Ideal S32768x128 .f32 := fun i => o15 m c ⟨(i 0).val / 512, div_lt i⟩ (ix2 (⟨(i 0).val % 512, by omega⟩ : Fin 512) (i 1))
theorem g15_at (t : Fin cfg0.N) (r : Fin 512) (u : Fin 128) (i : S32768x128.Idx) (h0 : (i 0).val = t.val * 512 + r.val) (h1 : i 1 = u) :
    g15 m c i = o15 m c t (ix2 r u) := by
  have et : (⟨(i 0).val / 512, div_lt i⟩ : Fin cfg0.N) = t := Fin.ext (by show (i 0).val / 512 = t.val; omega)
  have er : (⟨(i 0).val % 512, by omega⟩ : Fin 512) = r := Fin.ext (by show (i 0).val % 512 = r.val; omega)
  unfold g15
  rw [et, er, h1]
theorem point15 (t : Fin cfg0.N) (y : S512x128.Idx) : o15 m c t y = g15 m c (((cfg0.win 15).blk t).view.emb y) := by
  have hy0 : (y 0).val < 512 := (y 0).isLt
  have ht := lt_N t
  have he : ((cfg0.win 15).blk t).view.emb y = ix2 (⟨t.val * 512 + (y 0).val, by omega⟩ : Fin 32768) (y 1) := by blk_ext [idx t]
  have hy : y = ix2 (y 0) (y 1) := by blk_ext []
  refine Eq.trans ?_ (congrArg (g15 m c) he).symm
  have hg := g15_at m c t (y 0) (y 1) (ix2 (⟨t.val * 512 + (y 0).val, by omega⟩ : Fin 32768) (y 1)) rfl rfl
  exact Eq.trans (congrArg (o15 m c t) hy) hg.symm
theorem final15 : (dats m 0 c).arrAt 15 (cfgs 0).N = g15 m c := by
  refine (dats m 0 c).arrAt_eq_of_covers 15 _ (by decide +kernel) fun t _ y => ?_
  blk_simp
  rw [after0_15]
  exact point15 m c t y
theorem fin15_at (R : Fin 32768) (l : Fin 64) (u : Fin 128) (hu : u.val = l.val) :
    (dats m 0 c).arrAt 15 (cfgs 0).N (ix2 R u) = REFI (m ((c : Thread nD τ).loc main_arg0)) (m ((c : Thread nD τ).loc main_arg1)) (m ((c : Thread nD τ).loc main_arg2)) (ix2 R l) := by
  refine (congrFun (final15 m c) (ix2 R u)).trans ?_
  refine (g15_at m c ⟨R.val / 512, div_lt (ix2 R u)⟩ (⟨R.val % 512, by omega⟩ : Fin 512) u _ (by show R.val = R.val / 512 * 512 + R.val % 512; omega) rfl).trans ?_
  exact o15_at m c _ _ l u hu R (by show R.val = R.val / 512 * 512 + R.val % 512; omega)
theorem tail : Pipeline.afterTail₀ cfgs (dats m) 0 (V0 m) [hostOps1] c main_v72 = REFI (m ((c.tc : Thread nD τ).loc main_arg0)) (m ((c.tc : Thread nD τ).loc main_arg1)) (m ((c.tc : Thread nD τ).loc main_arg2)) := by
  have ew : Pipeline.withArrays (cfgs 0).spec c (V0 m c) (fun w => (dats m 0 c).arrAt w (cfgs 0).N) (Proc.devRef .tc main_v71_6) = (dats m 0 c).arrAt 15 (cfgs 0).N :=
    Pipeline.withArrays_arr (cfgs 0).spec (by decide) c (V0 m c) (fun w => (dats m 0 c).arrAt w (cfgs 0).N) 15
  have e : Pipeline.afterTail₀ cfgs (dats m) 0 (V0 m) [hostOps1] c main_v72
      = extractStridedSlice S32768x64 ![0, 0] (Pipeline.withArrays (cfgs 0).spec c (V0 m c) (fun w => (dats m 0 c).arrAt w (cfgs 0).N) (Proc.devRef .tc main_v71_6) : FVec Ideal S32768x128 .f32) slices_S32768x128_S32768x64_0_0 := by
    unfold Pipeline.afterTail₀
    simp only [List.flatten_cons, List.flatten_nil, List.append_nil]
    after_results
  rw [e, ew]
  funext j
  have hj : (j 1).val < 64 := (j 1).isLt
  have ej : j = ix2 (j 0) (j 1) := by blk_ext []
  refine Eq.trans ?_ ((fin15_at m c (j 0) (j 1) (⟨(j 1).val, by omega⟩ : Fin 128) rfl).trans (congrArg _ ej.symm))
  pointwise
theorem run (ρ : Dev nD → PrngReg) : θ_run defs (onTc (τ := τ) (main (F := Ideal))) ⟨m, fun _ => 0, ρ⟩ fun r => ∀ c : Dev nD,
      r.2.mem ((c.tc : Thread nD τ).loc main_v71_1) = REFK (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v71_2) = REFV (m ((c.tc : Thread nD τ).loc main_arg0)) (m ((c.tc : Thread nD τ).loc main_arg1)) (m ((c.tc : Thread nD τ).loc main_arg2))
      ∧ r.2.mem ((c.tc : Thread nD τ).loc main_v72) = REFI (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 10).trans (final10 m c), ((h.1 c).1 11).trans (final11 m c),
      ((h.1 c).2 main_v72 (by decide)).trans (tail m c), h.2 c⟩)
    (θ_run_and (run_main m ρ) (unchanged m ρ))
end Cert.Kernel7Ideal.InP
theorem Cert.algebraic7 : Cert.algebraic_Kernel7Ideal_Reference7Ideal := by
  intro m g m' g' hpre hagree
  refine ⟨fun c => Cert.Reference7Ideal.InP.REFK (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg4)),
    fun c => Cert.Reference7Ideal.InP.REFV (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    fun c => Cert.Reference7Ideal.InP.REFI (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    Cert.Kernel7Ideal.InP.run m g, ?_⟩
  refine (θ_run _ _ _).mono (fun r h c => ?_) (Cert.Reference7Ideal.InP.run m' g')
  obtain ⟨e0, e1, e2, e3, e4⟩ := hagree c
  obtain ⟨hk, hv, hi, ha⟩ := h c
  rw [e0, e1, e2, e4] at hk
  rw [e0, e1, e2] at hv hi
  exact ⟨hk, hv, hi, ha⟩
end
-- ==== Proof.InProjSRef.lean ====
module
public import proofs.«01_k».proof.Defs
public import proofs.«01_k».proof.Proof.Gen.Reference8Ideal.Run
public import Idealize.ShloMosaic.Lib.Pipeline.ValueKit
public import Idealize.ShloMosaic.Lib.Claim
public import proofs.«01_k».proof.Proof.InProjMath
@[expose] public section
set_option maxRecDepth 16384
noncomputable section
open Idealize.ShloMosaic Idealize.ShloMosaic.TcCoe Idealize.SL.Sem
namespace Cert.Reference8Ideal.InP
open Cert.Reference8Ideal Cert.Reference8Ideal.Gen InProjMath
variable (x : FVec Ideal S32x4x2048 .f32) (gm : FVec Ideal S2048 .f32) (w : FVec Ideal S2048x7248 .f32) (gk : FVec Ideal S128 .f32)
def HR : FVec Ideal S32x4x2048 .f32 :=
  (mulf (mulf x (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf x x) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))))) (broadcastInDim S32x4x2048 ![0, 1, 2] bcast_S1x1x2048_S32x4x2048_0_1_2 (broadcastInDim S1x1x2048 ![2] bcast_S2048_S1x1x2048_2 gm)))
def PR : FVec Ideal S32x4x7248 .f32 :=
  (Host.dotGeneral dot_S32x4x2048_S2048x7248_S32x4x7248_2_0_01_1_n_n none (HR x gm) w)
def K4 : FVec Ideal S32x4x2x128 .f32 :=
  (shapeCast _ (extractStridedSlice S32x4x256 ![0, 0, 1024] (PR x gm w) slices_S32x4x7248_S32x4x256_0_0_1024) shapeCasts_S32x4x256_S32x4x2x128)
def KN : FVec Ideal S32x4x2x128 .f32 :=
  (mulf (mulf (K4 x gm w) (broadcastInDim S32x4x2x128 ![0, 1, 2, 3] bcast_S32x4x2x1_S32x4x2x128_0_1_2_3 (Host.rsqrt (addf (Host.divf (broadcastInDim S32x4x2x1 ![0, 1, 2] bcast_S32x4x2_S32x4x2x1_0_1_2 (Host.reduceAdd (mulf (K4 x gm w) (K4 x gm w)) (constant S_ .f32 0x00000000#32) reducesTo_S32x4x2x128_S32x4x2_d3 h_S_)) (broadcastInDim S32x4x2x1 ![] bcast_S_S32x4x2x1 (constant S_ .f32 0x43000000#32))) (broadcastInDim S32x4x2x1 ![] bcast_S_S32x4x2x1 (constant S_ .f32 0x358637BD#32)))))) (broadcastInDim S32x4x2x128 ![0, 1, 2, 3] bcast_S1x1x1x128_S32x4x2x128_0_1_2_3 (broadcastInDim S1x1x1x128 ![3] bcast_S128_S1x1x1x128_3 gk)))
def IK : FVec Ideal S32x4x1x64 .f32 :=
  (shapeCast _ (extractStridedSlice S32x4x64 ![0, 0, 2560] (PR x gm w) slices_S32x4x7248_S32x4x64_0_0_2560) shapeCasts_S32x4x64_S32x4x1x64)
def CA : FVec Ideal S32x4x2x16 .f32 :=
  (broadcastInDim S32x4x2x16 ![0, 1, 2, 3] bcast_S1x4x1x16_S32x4x2x16_0_1_2_3 (broadcastInDim S1x4x1x16 ![1, 2, 3] bcast_S4x1x16_S1x4x1x16_1_2_3 (broadcastInDim S4x1x16 ![0, 2] bcast_S4x16_S4x1x16_0_2 (Host.cos (mulf (broadcastInDim S4x16 ![0, 1] bcast_S4x1_S4x16_0_1 (broadcastInDim S4x1 ![0] bcast_S4_S4x1_0 (sitofp .f32 (addi (broadcastInDim S4 ![] bcast_S_S4 (constantI S_ 32 16384#32)) (iotaInDim S4 32 0))))) (broadcastInDim S4x16 ![0, 1] bcast_S1x16_S4x16_0_1 (broadcastInDim S1x16 ![1] bcast_S16_S1x16_1 ((fun i => FloatOps.ofBits .f32 (lit0 (S16.rowMajor i)))))))))))
def SA : FVec Ideal S32x4x2x16 .f32 :=
  (broadcastInDim S32x4x2x16 ![0, 1, 2, 3] bcast_S1x4x1x16_S32x4x2x16_0_1_2_3 (broadcastInDim S1x4x1x16 ![1, 2, 3] bcast_S4x1x16_S1x4x1x16_1_2_3 (broadcastInDim S4x1x16 ![0, 2] bcast_S4x16_S4x1x16_0_2 (Host.sin (mulf (broadcastInDim S4x16 ![0, 1] bcast_S4x1_S4x16_0_1 (broadcastInDim S4x1 ![0] bcast_S4_S4x1_0 (sitofp .f32 (addi (broadcastInDim S4 ![] bcast_S_S4 (constantI S_ 32 16384#32)) (iotaInDim S4 32 0))))) (broadcastInDim S4x16 ![0, 1] bcast_S1x16_S4x16_0_1 (broadcastInDim S1x16 ![1] bcast_S16_S1x16_1 ((fun i => FloatOps.ofBits .f32 (lit0 (S16.rowMajor i)))))))))))
def CI : FVec Ideal S32x4x1x8 .f32 :=
  (broadcastInDim S32x4x1x8 ![0, 1, 2, 3] bcast_S1x4x1x8_S32x4x1x8_0_1_2_3 (broadcastInDim S1x4x1x8 ![1, 2, 3] bcast_S4x1x8_S1x4x1x8_1_2_3 (broadcastInDim S4x1x8 ![0, 2] bcast_S4x8_S4x1x8_0_2 (Host.cos (mulf (broadcastInDim S4x8 ![0, 1] bcast_S4x1_S4x8_0_1 (broadcastInDim S4x1 ![0] bcast_S4_S4x1_0 (sitofp .f32 (addi (broadcastInDim S4 ![] bcast_S_S4 (constantI S_ 32 16384#32)) (iotaInDim S4 32 0))))) (broadcastInDim S4x8 ![0, 1] bcast_S1x8_S4x8_0_1 (broadcastInDim S1x8 ![1] bcast_S8_S1x8_1 ((fun i => FloatOps.ofBits .f32 (lit1 (S8.rowMajor i)))))))))))
def SI : FVec Ideal S32x4x1x8 .f32 :=
  (broadcastInDim S32x4x1x8 ![0, 1, 2, 3] bcast_S1x4x1x8_S32x4x1x8_0_1_2_3 (broadcastInDim S1x4x1x8 ![1, 2, 3] bcast_S4x1x8_S1x4x1x8_1_2_3 (broadcastInDim S4x1x8 ![0, 2] bcast_S4x8_S4x1x8_0_2 (Host.sin (mulf (broadcastInDim S4x8 ![0, 1] bcast_S4x1_S4x8_0_1 (broadcastInDim S4x1 ![0] bcast_S4_S4x1_0 (sitofp .f32 (addi (broadcastInDim S4 ![] bcast_S_S4 (constantI S_ 32 16384#32)) (iotaInDim S4 32 0))))) (broadcastInDim S4x8 ![0, 1] bcast_S1x8_S4x8_0_1 (broadcastInDim S1x8 ![1] bcast_S8_S1x8_1 ((fun i => FloatOps.ofBits .f32 (lit1 (S8.rowMajor i)))))))))))
def REFK : FVec Ideal S256x128 .f32 :=
  shapeCast _ ((concatenate S32x4x2x128 3 [⟨S32x4x2x16, ((subf (mulf (extractStridedSlice S32x4x2x16 ![0, 0, 0, 0] (KN x gm w gk) slices_S32x4x2x128_S32x4x2x16_0_0_0_0) CA) (mulf (extractStridedSlice S32x4x2x16 ![0, 0, 0, 16] (KN x gm w gk) slices_S32x4x2x128_S32x4x2x16_0_0_0_16) SA)) : (⟨S32x4x2x16, .f32⟩ : BufTy).Contents (Elt Ideal))⟩, ⟨S32x4x2x16, ((addf (mulf (extractStridedSlice S32x4x2x16 ![0, 0, 0, 16] (KN x gm w gk) slices_S32x4x2x128_S32x4x2x16_0_0_0_16) CA) (mulf (extractStridedSlice S32x4x2x16 ![0, 0, 0, 0] (KN x gm w gk) slices_S32x4x2x128_S32x4x2x16_0_0_0_0) SA)) : (⟨S32x4x2x16, .f32⟩ : BufTy).Contents (Elt Ideal))⟩, ⟨S32x4x2x96, ((extractStridedSlice S32x4x2x96 ![0, 0, 0, 32] (KN x gm w gk) slices_S32x4x2x128_S32x4x2x96_0_0_0_32) : (⟨S32x4x2x96, .f32⟩ : BufTy).Contents (Elt Ideal))⟩] concatenates_S32x4x2x16_S32x4x2x16_S32x4x2x96_S32x4x2x128_d3 : (⟨S32x4x2x128, .f32⟩ : BufTy).Contents (Elt Ideal))) shapeCasts_S32x4x2x128_S256x128
def REFV : FVec Ideal S256x128 .f32 :=
  shapeCast _ (shapeCast _ (extractStridedSlice S32x4x256 ![0, 0, 1280] (PR x gm w) slices_S32x4x7248_S32x4x256_0_0_1280) shapeCasts_S32x4x256_S32x4x2x128) shapeCasts_S32x4x2x128_S256x128
def REFI : FVec Ideal S128x64 .f32 :=
  shapeCast _ ((concatenate S32x4x1x64 3 [⟨S32x4x1x8, ((subf (mulf (extractStridedSlice S32x4x1x8 ![0, 0, 0, 0] (IK x gm w) slices_S32x4x1x64_S32x4x1x8_0_0_0_0) CI) (mulf (extractStridedSlice S32x4x1x8 ![0, 0, 0, 8] (IK x gm w) slices_S32x4x1x64_S32x4x1x8_0_0_0_8) SI)) : (⟨S32x4x1x8, .f32⟩ : BufTy).Contents (Elt Ideal))⟩, ⟨S32x4x1x8, ((addf (mulf (extractStridedSlice S32x4x1x8 ![0, 0, 0, 8] (IK x gm w) slices_S32x4x1x64_S32x4x1x8_0_0_0_8) CI) (mulf (extractStridedSlice S32x4x1x8 ![0, 0, 0, 0] (IK x gm w) slices_S32x4x1x64_S32x4x1x8_0_0_0_0) SI)) : (⟨S32x4x1x8, .f32⟩ : BufTy).Contents (Elt Ideal))⟩, ⟨S32x4x1x48, ((extractStridedSlice S32x4x1x48 ![0, 0, 0, 16] (IK x gm w) slices_S32x4x1x64_S32x4x1x48_0_0_0_16) : (⟨S32x4x1x48, .f32⟩ : BufTy).Contents (Elt Ideal))⟩] concatenates_S32x4x1x8_S32x4x1x8_S32x4x1x48_S32x4x1x64_d3 : (⟨S32x4x1x64, .f32⟩ : BufTy).Contents (Elt Ideal))) shapeCasts_S32x4x1x64_S128x64
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92) = REFK (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v93) = REFV (m ((c.tc : Thread nD τ).loc main_arg0)) (m ((c.tc : Thread nD τ).loc main_arg1)) (m ((c.tc : Thread nD τ).loc main_arg2))
      ∧ r.2.mem ((c.tc : Thread nD τ).loc main_v94) = REFI (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2⟩) (Value.run (F := Ideal) m ρ)
def hr (b : Fin 32) (t : Fin 4) (k : Fin 2048) : EReal :=
  x (ix3 b t k) * Ideal.rsqrt (Ideal.div (∑ q : Fin 2048, x (ix3 b t q) * x (ix3 b t q)) (Ideal.ofBits FTy.f32 1157627904#32)
    + Ideal.ofBits FTy.f32 897988541#32) * gm (ix1 k)
def pr (b : Fin 32) (t : Fin 4) (j : Fin 7248) : EReal := ∑ k : Fin 2048, hr x gm b t k * w (ix2 k j)
theorem HR_at (b : Fin 32) (t : Fin 4) (k : Fin 2048) :
    HR x gm (ix3 b t k) = hr x gm b t k := by
  pointwise [HR, hr]
theorem PR_at (b : Fin 32) (t : Fin 4) (j : Fin 7248) : PR x gm w (ix3 b t j) = pr x gm w b t j := by
  pointwise [PR, HR_at, pr]
theorem K4_at (b : Fin 32) (t : Fin 4) (h : Fin 2) (l : Fin 128) :
    K4 x gm w (ix4 b t h l) = pr x gm w b t ⟨1024 + (h.val * 128 + l.val), by omega⟩ := by
  pointwise [K4, PR_at]
theorem KN_at (b : Fin 32) (t : Fin 4) (h : Fin 2) (l : Fin 128) :
    KN x gm w gk (ix4 b t h l) = nk (fun q => pr x gm w b t ⟨1024 + (h.val * 128 + q.val), by omega⟩) (fun q => gk (ix1 q)) l := by
  pointwise [KN, K4_at, nk]
theorem IK_at (b : Fin 32) (t : Fin 4) (l : Fin 64) :
    IK x gm w (ix4 b t 0 l) = pr x gm w b t ⟨2560 + l.val, by omega⟩ := by
  pointwise [IK, PR_at]
def ang16 (t : Fin 4) (j : Fin 16) : EReal :=
  FloatOps.sitofp (F := Ideal) FTy.f32 (IntOp.addi 16384#32 (BitVec.ofNat 32 t.val)) * Ideal.ofBits FTy.f32 (lit0 (S16.rowMajor (ix1 j)))
def ang8 (t : Fin 4) (j : Fin 8) : EReal :=
  FloatOps.sitofp (F := Ideal) FTy.f32 (IntOp.addi 16384#32 (BitVec.ofNat 32 t.val)) * Ideal.ofBits FTy.f32 (lit1 (S8.rowMajor (ix1 j)))
theorem CA_at (b : Fin 32) (t : Fin 4) (h : Fin 2) (l : Fin 16) : CA (ix4 b t h l) = Ideal.cos (ang16 t l) := by
  pointwise [CA, ang16]
theorem SA_at (b : Fin 32) (t : Fin 4) (h : Fin 2) (l : Fin 16) : SA (ix4 b t h l) = Ideal.sin (ang16 t l) := by
  pointwise [SA, ang16]
theorem CI_at (b : Fin 32) (t : Fin 4) (l : Fin 8) : CI (ix4 b t 0 l) = Ideal.cos (ang8 t l) := by
  pointwise [CI, ang8]
theorem SI_at (b : Fin 32) (t : Fin 4) (l : Fin 8) : SI (ix4 b t 0 l) = Ideal.sin (ang8 t l) := by
  pointwise [SI, ang8]
theorem REFK_at (r : Fin 256) (l : Fin 128) : REFK x gm w gk (ix2 r l)
    = rot16 (nk (fun q => pr x gm w (⟨r.val / 8, by omega⟩ : Fin 32) (⟨r.val / 2 % 4, by omega⟩ : Fin 4) (⟨1024 + (r.val % 2 * 128 + q.val), by omega⟩ : Fin 7248)) (fun q => gk (ix1 q)))
      (fun j => Ideal.cos (ang16 (⟨r.val / 2 % 4, by omega⟩ : Fin 4) j)) (fun j => Ideal.sin (ang16 (⟨r.val / 2 % 4, by omega⟩ : Fin 4) j)) l := by
  pointwise [REFK, KN_at, CA_at, SA_at, rot16]
theorem REFV_at (r : Fin 256) (l : Fin 128) : REFV x gm w (ix2 r l)
    = pr x gm w (⟨r.val / 8, by omega⟩ : Fin 32) (⟨r.val / 2 % 4, by omega⟩ : Fin 4) (⟨1280 + (r.val % 2 * 128 + l.val), by omega⟩ : Fin 7248) := by
  pointwise [REFV, PR_at]
theorem REFI_at (r : Fin 128) (l : Fin 64) : REFI x gm w (ix2 r l)
    = rot8 (fun q => pr x gm w (⟨r.val / 4, by omega⟩ : Fin 32) (⟨r.val % 4, by omega⟩ : Fin 4) (⟨2560 + q.val, by omega⟩ : Fin 7248))
      (fun j => Ideal.cos (ang8 (⟨r.val % 4, by omega⟩ : Fin 4) j)) (fun j => Ideal.sin (ang8 (⟨r.val % 4, by omega⟩ : Fin 4) j)) l := by
  pointwise [REFI, IK_at, CI_at, SI_at, rot8]
end Cert.Reference8Ideal.InP
theorem Cert.frame_reference8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)
end
-- ==== Proof.InProjSFrame.lean ====
module
public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.Gen.Kernel8Ideal.Frame
@[expose] public section
set_option maxRecDepth 16384
noncomputable section
namespace Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev r0_0 : Rect S128x2048 := Rect.unit (s := S128x2048) ![0, 0] S128x2048.size inb_S128x2048_S128x2048_0_0
abbrev r0_1 : Rect S1x2048 := Rect.unit (s := S1x2048) ![0, 0] S1x2048.size inb_S1x2048_S1x2048_0_0
abbrev r0_2 : Rect S2048x1536 := Rect.unit (s := S2048x1536) ![0, 0] S2048x1536.size inb_S2048x1536_S2048x1536_0_0
abbrev r0_3 : Rect S1x128 := Rect.unit (s := S1x128) ![0, 0] S1x128.size inb_S1x128_S1x128_0_0
abbrev r0_4 : Rect S3x128x128 := Rect.unit (s := S3x128x128) ![0, 0, 0] S1x128x128.size inb_S3x128x128_S1x128x128_0_0_0
abbrev r0_5 : Rect S3x128x128 := Rect.unit (s := S3x128x128) ![1, 0, 0] S1x128x128.size inb_S3x128x128_S1x128x128_1_0_0
abbrev r0_6 : Rect S3x128x128 := Rect.unit (s := S3x128x128) ![2, 0, 0] S1x128x128.size inb_S3x128x128_S1x128x128_2_0_0
abbrev r0_7 : Rect S128x1024 := Rect.unit (s := S128x1024) ![0, 0] S128x128.size inb_S128x1024_S128x128_0_0
abbrev r0_8 : Rect S128x1024 := Rect.unit (s := S128x1024) ![0, 128] S128x128.size inb_S128x1024_S128x128_0_128
abbrev r0_9 : Rect S128x1024 := Rect.unit (s := S128x1024) ![0, 256] S128x128.size inb_S128x1024_S128x128_0_256
abbrev r0_10 : Rect S128x1024 := Rect.unit (s := S128x1024) ![0, 384] S128x128.size inb_S128x1024_S128x128_0_384
abbrev r0_11 : Rect S128x1024 := Rect.unit (s := S128x1024) ![0, 512] S128x128.size inb_S128x1024_S128x128_0_512
abbrev r0_12 : Rect S128x1024 := Rect.unit (s := S128x1024) ![0, 640] S128x128.size inb_S128x1024_S128x128_0_640
abbrev r0_13 : Rect S128x1024 := Rect.unit (s := S128x1024) ![0, 768] S128x128.size inb_S128x1024_S128x128_0_768
abbrev r0_14 : Rect S128x1024 := Rect.unit (s := S128x1024) ![0, 896] S128x128.size inb_S128x1024_S128x128_0_896
abbrev r0_15 : Rect S256x128 := ⟨(⟨![0, 0], S128x128.size, ![2, 1], inb_S256x128_S128x128_0_0_s_2_1⟩ : LoadRect S256x128), spos_2_1⟩
abbrev r0_16 : Rect S128x256 := Rect.unit (s := S128x256) ![0, 0] S128x128.size inb_S128x256_S128x128_0_0
abbrev r0_17 : Rect S256x128 := ⟨(⟨![1, 0], S128x128.size, ![2, 1], inb_S256x128_S128x128_1_0_s_2_1⟩ : LoadRect S256x128), spos_2_1⟩
abbrev r0_18 : Rect S128x256 := Rect.unit (s := S128x256) ![0, 128] S128x128.size inb_S128x256_S128x128_0_128
abbrev r0_19 : Rect S2048x1280 := Rect.unit (s := S2048x1280) ![0, 0] S2048x1280.size inb_S2048x1280_S2048x1280_0_0
abbrev r0_20 : Rect S128x128 := Rect.unit (s := S128x128) ![0, 0] S128x128.size inb_S128x128_S128x128_0_0
abbrev r0_21 : Rect S2048x512 := Rect.unit (s := S2048x512) ![0, 0] S2048x512.size inb_S2048x512_S2048x512_0_0
abbrev r0_22 : Rect S128x512 := Rect.unit (s := S128x512) ![0, 0] S128x512.size inb_S128x512_S128x512_0_0
theorem cover_pair (p0 : Vec F S128x128 .f32) (p1 : Vec F S128x128 .f32) (y : S256x128.Idx) :
    ∃ pc ∈ ([⟨r0_17, p0⟩, ⟨r0_15, p1⟩] : List (View.Piece (Elt F) S256x128 .f32)), y ∈ pc.1.set := by
  have h0 : (y 0).val < 256 := (y 0).isLt
  have h1 : (y 1).val < 128 := (y 1).isLt
  rcases Nat.mod_two_eq_zero_or_one (y 0).val with h | h
  · exact ⟨⟨r0_15, p1⟩, .tail _ (.head _), (LoadRect.mem_set _).2 (Fin.forall_fin_two.2
      ⟨⟨(y 0).val / 2, (by omega : (y 0).val / 2 < 128), (by omega : (y 0).val = 0 + 2 * ((y 0).val / 2))⟩,
       ⟨(y 1).val, h1, (by omega : (y 1).val = 0 + 1 * (y 1).val)⟩⟩)⟩
  · exact ⟨⟨r0_17, p0⟩, .head _, (LoadRect.mem_set _).2 (Fin.forall_fin_two.2
      ⟨⟨(y 0).val / 2, (by omega : (y 0).val / 2 < 128), (by omega : (y 0).val = 1 + 2 * ((y 0).val / 2))⟩,
       ⟨(y 1).val, h1, (by omega : (y 1).val = 0 + 1 * (y 1).val)⟩⟩)⟩
theorem cover0_9 (p0 : Vec F S128x128 .bf16) (p1 : Vec F S128x128 .bf16) (p2 : Vec F S128x128 .bf16) (p3 : Vec F S128x128 .bf16) (p4 : Vec F S128x128 .bf16) (p5 : Vec F S128x128 .bf16) (p6 : Vec F S128x128 .bf16) (p7 : Vec F S128x128 .bf16) (y : S128x1024.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S128x1024 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S128x128.size (by rfl) y
theorem cover0_10 (p0 : Vec F S128x128 .f32) (p1 : Vec F S128x128 .f32) (y : S256x128.Idx) :
    ∃ pc ∈ ([⟨r0_17, p0⟩, ⟨r0_15, p1⟩] : List (View.Piece (Elt F) S256x128 .f32)), y ∈ pc.1.set :=
  cover_pair p0 p1 y
theorem cover0_11 (p0 : Vec F S128x128 .f32) (p1 : Vec F S128x128 .f32) (y : S256x128.Idx) :
    ∃ pc ∈ ([⟨r0_17, p0⟩, ⟨r0_15, p1⟩] : List (View.Piece (Elt F) S256x128 .f32)), y ∈ pc.1.set :=
  cover_pair p0 p1 y
theorem cover0_12 (p0 : Vec F S128x128 .bf16) (p1 : Vec F S128x128 .bf16) (y : S128x256.Idx) :
    ∃ pc ∈ ([⟨r0_18, p0⟩, ⟨r0_16, p1⟩] : List (View.Piece (Elt F) S128x256 .bf16)), y ∈ pc.1.set :=
  View.cover_of_tiled [⟨r0_18, p0⟩, ⟨r0_16, p1⟩] S128x128.size (by rfl) y
theorem cover0_13 (p0 : Vec F S128x128 .bf16) (p1 : Vec F S128x128 .bf16) (y : S128x256.Idx) :
    ∃ pc ∈ ([⟨r0_18, p0⟩, ⟨r0_16, p1⟩] : List (View.Piece (Elt F) S128x256 .bf16)), y ∈ pc.1.set :=
  View.cover_of_tiled [⟨r0_18, p0⟩, ⟨r0_16, p1⟩] S128x128.size (by rfl) y
theorem cover0_14 (p0 : Vec F S128x128 .bf16) (p1 : Vec F S128x128 .bf16) (p2 : Vec F S128x128 .bf16) (p3 : Vec F S128x128 .bf16) (p4 : Vec F S128x128 .bf16) (p5 : Vec F S128x128 .bf16) (p6 : Vec F S128x128 .bf16) (p7 : Vec F S128x128 .bf16) (y : S128x1024.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S128x1024 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S128x128.size (by rfl) y
theorem cover0_15 (p0 : Vec F S128x128 .f32) (y : S128x128.Idx) :
    ∃ pc ∈ ([⟨r0_20, p0⟩] : List (View.Piece (Elt F) S128x128 .f32)), y ∈ pc.1.set :=
  View.cover_of_tiled [⟨r0_20, p0⟩] S128x128.size (by rfl) y
theorem cover0_16 (p0 : Vec F S128x128 .bf16) (y : S128x128.Idx) :
    ∃ pc ∈ ([⟨r0_20, p0⟩] : List (View.Piece (Elt F) S128x128 .bf16)), y ∈ pc.1.set :=
  View.cover_of_tiled [⟨r0_20, p0⟩] S128x128.size (by rfl) y
theorem cover0_17 (p0 : Vec F S128x128 .f32) (y : S128x128.Idx) :
    ∃ pc ∈ ([⟨r0_20, p0⟩] : List (View.Piece (Elt F) S128x128 .f32)), y ∈ pc.1.set :=
  View.cover_of_tiled [⟨r0_20, p0⟩] S128x128.size (by rfl) y
section Pay
variable (x0 : Vec F S128x2048 .f32) (x1 : Vec F S1x2048 .f32) (x2 : Vec F S2048x1536 .bf16) (x3 : Vec F S2048x1280 .bf16) (x4 : Vec F S2048x512 .bf16) (x5 : Vec F S1x128 .f32) (x6 : Vec F S1x128 .f32) (x7 : Vec F S3x128x128 .f32) (x8 : Vec F S3x128x128 .f32)
def k0_pay70 : FVec F S128x2048 .bf16 :=
  k0_pay5 (View.ld x0 r0_0) (View.ld x1 r0_1)
def k0_pay71 : FVec F S128x1536 .f32 :=
  k0_pay6 (View.ld x0 r0_0) (View.ld x1 r0_1) (View.ld x2 r0_2)
def k0_pay72 : FVec F S128x128 .f32 :=
  k0_pay31 (k0_pay71 x0 x1 x2) (View.ld x6 r0_3)
def k0_pay73 : FVec F S128x128 .f32 :=
  k0_pay32 (k0_pay71 x0 x1 x2) (View.ld x6 r0_3) (View.ld x7 r0_4)
def k0_pay74 : FVec F S128x128 .f32 :=
  k0_pay33 (k0_pay71 x0 x1 x2) (View.ld x6 r0_3)
def k0_pay75 : FVec F S128x128 .f32 :=
  k0_pay34 (View.ld x7 r0_5)
def k0_pay76 : FVec F S128x128 .f32 :=
  k0_pay39 (k0_pay71 x0 x1 x2) (View.ld x6 r0_3)
def k0_pay77 : FVec F S128x128 .f32 :=
  k0_pay40 (k0_pay71 x0 x1 x2) (View.ld x6 r0_3) (View.ld x7 r0_4)
def k0_pay78 : FVec F S128x128 .f32 :=
  k0_pay41 (k0_pay71 x0 x1 x2) (View.ld x6 r0_3)
def k0_pay79 : FVec F S128x1280 .f32 :=
  k0_pay46 (k0_pay70 x0 x1) (View.ld x3 r0_19)
def k0_pay80 : FVec F S128x128 .f32 :=
  k0_pay68 (k0_pay79 x0 x1 x3) (View.ld x8 r0_4) (View.ld x8 r0_5)
def k0_pay81 : FVec F S128x128 .f32 :=
  k0_pay69 (k0_pay79 x0 x1 x3)
def out0_9 : Vec F S128x1024 .bf16 :=
  View.canon [⟨r0_14, k0_pay30 (k0_pay28 (k0_pay71 x0 x1 x2) (View.ld x5 r0_3)) (k0_pay29 (View.ld x7 r0_4)) (View.ld x7 r0_5) (View.ld x7 r0_6)⟩,
    ⟨r0_13, k0_pay27 (k0_pay24 (k0_pay71 x0 x1 x2)) (k0_pay25 (View.ld x5 r0_3)) (k0_pay26 (k0_pay71 x0 x1 x2)) (View.ld x7 r0_4) (View.ld x7 r0_5) (View.ld x7 r0_6)⟩,
    ⟨r0_12, k0_pay23 (k0_pay20 (k0_pay71 x0 x1 x2)) (k0_pay21 (View.ld x5 r0_3)) (k0_pay22 (k0_pay71 x0 x1 x2)) (View.ld x7 r0_4) (View.ld x7 r0_5) (View.ld x7 r0_6)⟩,
    ⟨r0_11, k0_pay19 (k0_pay18 (k0_pay71 x0 x1 x2)) (View.ld x5 r0_3) (View.ld x7 r0_4) (View.ld x7 r0_5) (View.ld x7 r0_6)⟩,
    ⟨r0_10, k0_pay17 (k0_pay71 x0 x1 x2) (View.ld x5 r0_3) (View.ld x7 r0_4) (View.ld x7 r0_5) (View.ld x7 r0_6)⟩,
    ⟨r0_9, k0_pay16 (k0_pay15 (k0_pay71 x0 x1 x2) (View.ld x5 r0_3) (View.ld x7 r0_4) (View.ld x7 r0_5) (View.ld x7 r0_6)) (Scalar.ofBits .f32 0x3DB504F3#32)⟩,
    ⟨r0_8, k0_pay14 (k0_pay12 (k0_pay71 x0 x1 x2) (View.ld x5 r0_3) (View.ld x7 r0_4) (View.ld x7 r0_5)) (k0_pay13 (k0_pay71 x0 x1 x2) (View.ld x5 r0_3)) (View.ld x7 r0_6)⟩,
    ⟨r0_7, k0_pay10 (k0_pay7 (View.ld x0 r0_0) (View.ld x1 r0_1) (View.ld x2 r0_2) (View.ld x5 r0_3)) (k0_pay8 (View.ld x0 r0_0) (View.ld x1 r0_1) (View.ld x2 r0_2) (View.ld x5 r0_3) (View.ld x7 r0_4)) (k0_pay9 (View.ld x0 r0_0) (View.ld x1 r0_1) (View.ld x2 r0_2) (View.ld x5 r0_3)) (View.ld x7 r0_5) (View.ld x7 r0_6)⟩]
def out0_10 : Vec F S256x128 .f32 :=
  View.canon [⟨r0_17, k0_pay42 (k0_pay76 x0 x1 x2 x6) (k0_pay77 x0 x1 x2 x6 x7) (k0_pay78 x0 x1 x2 x6) (View.ld x7 r0_5) (View.ld x7 r0_6)⟩,
    ⟨r0_15, k0_pay35 (k0_pay72 x0 x1 x2 x6) (k0_pay73 x0 x1 x2 x6 x7) (k0_pay74 x0 x1 x2 x6) (k0_pay75 x7) (View.ld x7 r0_6)⟩]
def out0_11 : Vec F S256x128 .f32 :=
  View.canon [⟨r0_17, k0_pay43 (k0_pay71 x0 x1 x2)⟩,
    ⟨r0_15, k0_pay36 (k0_pay71 x0 x1 x2)⟩]
def out0_12 : Vec F S128x256 .bf16 :=
  View.canon [⟨r0_18, k0_pay44 (k0_pay76 x0 x1 x2 x6) (k0_pay77 x0 x1 x2 x6 x7) (k0_pay78 x0 x1 x2 x6) (View.ld x7 r0_5) (View.ld x7 r0_6)⟩,
    ⟨r0_16, k0_pay37 (k0_pay72 x0 x1 x2 x6) (k0_pay73 x0 x1 x2 x6 x7) (k0_pay74 x0 x1 x2 x6) (k0_pay75 x7) (View.ld x7 r0_6)⟩]
def out0_13 : Vec F S128x256 .bf16 :=
  View.canon [⟨r0_18, k0_pay45 (k0_pay71 x0 x1 x2)⟩,
    ⟨r0_16, k0_pay38 (k0_pay71 x0 x1 x2)⟩]
def out0_14 : Vec F S128x1024 .bf16 :=
  View.canon [⟨r0_14, k0_pay66 (k0_pay79 x0 x1 x3) (View.ld x8 r0_4) (View.ld x8 r0_5) (View.ld x8 r0_6)⟩,
    ⟨r0_13, k0_pay65 (k0_pay63 (k0_pay79 x0 x1 x3) (View.ld x8 r0_4) (View.ld x8 r0_5)) (k0_pay64 (k0_pay79 x0 x1 x3)) (View.ld x8 r0_6)⟩,
    ⟨r0_12, k0_pay61 (k0_pay79 x0 x1 x3) (View.ld x8 r0_4) (View.ld x8 r0_5) (View.ld x8 r0_6)⟩,
    ⟨r0_11, k0_pay60 (k0_pay58 (k0_pay79 x0 x1 x3) (View.ld x8 r0_4) (View.ld x8 r0_5)) (k0_pay59 (k0_pay79 x0 x1 x3)) (View.ld x8 r0_6)⟩,
    ⟨r0_10, k0_pay56 (k0_pay79 x0 x1 x3) (View.ld x8 r0_4) (View.ld x8 r0_5) (View.ld x8 r0_6)⟩,
    ⟨r0_9, k0_pay55 (k0_pay53 (k0_pay79 x0 x1 x3) (View.ld x8 r0_4) (View.ld x8 r0_5)) (k0_pay54 (k0_pay79 x0 x1 x3)) (View.ld x8 r0_6)⟩,
    ⟨r0_8, k0_pay51 (k0_pay79 x0 x1 x3) (View.ld x8 r0_4) (View.ld x8 r0_5) (View.ld x8 r0_6)⟩,
    ⟨r0_7, k0_pay50 (k0_pay48 (k0_pay70 x0 x1) (View.ld x3 r0_19) (View.ld x8 r0_4) (View.ld x8 r0_5)) (k0_pay49 (k0_pay70 x0 x1) (View.ld x3 r0_19)) (View.ld x8 r0_6)⟩]
def out0_15 : Vec F S128x128 .f32 :=
  View.canon [⟨r0_20, k0_pay1 (k0_pay80 x0 x1 x3 x8) (k0_pay81 x0 x1 x3) (View.ld x8 r0_6)⟩]
def out0_16 : Vec F S128x128 .bf16 :=
  View.canon [⟨r0_20, k0_pay2 (k0_pay80 x0 x1 x3 x8) (k0_pay81 x0 x1 x3) (View.ld x8 r0_6)⟩]
def out0_17 : Vec F S128x128 .f32 :=
  View.canon [⟨r0_20, k0_pay3 (k0_pay79 x0 x1 x3)⟩]
def out0_18 : Vec F S128x512 .f32 :=
  View.canon [⟨r0_22, k0_pay4 (k0_pay70 x0 x1) (View.ld x4 r0_21)⟩]
end Pay
theorem cover0_18 (p0 : Vec F S128x512 .f32) (y : S128x512.Idx) :
    ∃ pc ∈ ([⟨r0_22, p0⟩] : List (View.Piece (Elt F) S128x512 .f32)), y ∈ pc.1.set :=
  View.cover_of_tiled [⟨r0_22, p0⟩] S128x512.size (by rfl) y
set_option maxHeartbeats 1000000 in
theorem sound_kernel (c : Dev nD) (E : Set ℕ) (i : grid0.Coords) (arg1 : Memref sig .tc .vmem S128x2048 .f32) (harg1 : arg1.IsWhole) (arg2 : Memref sig .tc .vmem S1x2048 .f32) (harg2 : arg2.IsWhole) (arg3 : Memref sig .tc .vmem S2048x1536 .bf16) (harg3 : arg3.IsWhole) (arg4 : Memref sig .tc .vmem S2048x1280 .bf16) (harg4 : arg4.IsWhole) (arg5 : Memref sig .tc .vmem S2048x512 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S3x128x128 .f32) (harg8 : arg8.IsWhole) (arg9 : Memref sig .tc .vmem S3x128x128 .f32) (harg9 : arg9.IsWhole) (arg10 : Memref sig .tc .vmem S128x1024 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S128x256 .bf16) (harg13 : arg13.IsWhole) (arg14 : Memref sig .tc .vmem S128x256 .bf16) (harg14 : arg14.IsWhole) (arg15 : Memref sig .tc .vmem S128x1024 .bf16) (harg15 : arg15.IsWhole) (arg16 : Memref sig .tc .vmem S128x128 .f32) (harg16 : arg16.IsWhole) (arg17 : Memref sig .tc .vmem S128x128 .bf16) (harg17 : arg17.IsWhole) (arg18 : Memref sig .tc .vmem S128x128 .f32) (harg18 : arg18.IsWhole) (arg19 : Memref sig .tc .vmem S128x512 .f32) (harg19 : arg19.IsWhole)
    (x0 : Vec F S128x2048 .f32) (x1 : Vec F S1x2048 .f32) (x2 : Vec F S2048x1536 .bf16) (x3 : Vec F S2048x1280 .bf16) (x4 : Vec F S2048x512 .bf16) (x5 : Vec F S1x128 .f32) (x6 : Vec F S1x128 .f32) (x7 : Vec F S3x128x128 .f32) (x8 : Vec F S3x128x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ (∃ d, owns c arg10 fullShare d) ∗ (∃ d, owns c arg11 fullShare d) ∗ (∃ d, owns c arg12 fullShare d) ∗ (∃ d, owns c arg13 fullShare d) ∗ (∃ d, owns c arg14 fullShare d) ∗ (∃ d, owns c arg15 fullShare d) ∗ (∃ d, owns c arg16 fullShare d) ∗ (∃ d, owns c arg17 fullShare d) ∗ (∃ d, owns c arg18 fullShare d) ∗ (∃ d, owns c arg19 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out0_9 x0 x1 x2 x5 x7) ∗ owns c arg11 fullShare (out0_10 x0 x1 x2 x6 x7) ∗ owns c arg12 fullShare (out0_11 x0 x1 x2) ∗ owns c arg13 fullShare (out0_12 x0 x1 x2 x6 x7) ∗ owns c arg14 fullShare (out0_13 x0 x1 x2) ∗ owns c arg15 fullShare (out0_14 x0 x1 x3 x8) ∗ owns c arg16 fullShare (out0_15 x0 x1 x3 x8) ∗ owns c arg17 fullShare (out0_16 x0 x1 x3 x8) ∗ owns c arg18 fullShare (out0_17 x0 x1 x3) ∗ owns c arg19 fullShare (out0_18 x0 x1 x4)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _ _ _ _ _ _ _ _)).trans ?_
    rfl
  isplitl [H10]
  · iexists _; isplitr
    swap; · iexact H10
    ipureintro
    refine (View.read_writes_eq_canon _ _ _ (cover0_10 _ _)).trans ?_
    rfl
  isplitl [H11]
  · iexists _; isplitr
    swap; · iexact H11
    ipureintro
    refine (View.read_writes_eq_canon _ _ _ (cover0_11 _ _)).trans ?_
    rfl
  isplitl [H12]
  · iexists _; isplitr
    swap; · iexact H12
    ipureintro
    refine (View.read_writes_eq_canon _ _ _ (cover0_12 _ _)).trans ?_
    rfl
  isplitl [H13]
  · iexists _; isplitr
    swap; · iexact H13
    ipureintro
    refine (View.read_writes_eq_canon _ _ _ (cover0_13 _ _)).trans ?_
    rfl
  isplitl [H14]
  · iexists _; isplitr
    swap; · iexact H14
    ipureintro
    refine (View.read_writes_eq_canon _ _ _ (cover0_14 _ _ _ _ _ _ _ _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  iexists _; isplitr
  swap; · iexact H18
  ipureintro
  refine (View.read_writes_eq_canon _ _ _ (cover0_18 _)).trans ?_
  rfl
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 5 t) (iblk m c 7 t)
    | ⟨10, _⟩ => out0_10 (iblk m c 0 t) (iblk m c 1 t) (iblk m c 2 t) (iblk m c 6 t) (iblk m c 7 t)
    | ⟨11, _⟩ => out0_11 (iblk m c 0 t) (iblk m c 1 t) (iblk m c 2 t)
    | ⟨12, _⟩ => out0_12 (iblk m c 0 t) (iblk m c 1 t) (iblk m c 2 t) (iblk m c 6 t) (iblk m c 7 t)
    | ⟨13, _⟩ => out0_13 (iblk m c 0 t) (iblk m c 1 t) (iblk m c 2 t)
    | ⟨14, _⟩ => out0_14 (iblk m c 0 t) (iblk m c 1 t) (iblk m c 3 t) (iblk m c 8 t)
    | ⟨15, _⟩ => out0_15 (iblk m c 0 t) (iblk m c 1 t) (iblk m c 3 t) (iblk m c 8 t)
    | ⟨16, _⟩ => out0_16 (iblk m c 0 t) (iblk m c 1 t) (iblk m c 3 t) (iblk m c 8 t)
    | ⟨17, _⟩ => out0_17 (iblk m c 0 t) (iblk m c 1 t) (iblk m c 3 t)
    | ⟨18, _⟩ => out0_18 (iblk m c 0 t) (iblk m c 1 t) (iblk m c 4 t)
    | ⟨_ + 19, h⟩ => absurd h (Nat.not_lt.2 (Nat.le_add_left _ _))
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 5 t) (iblk m c 7 t) := by dsimp only [dats]
theorem after0_10 (c : Dev nD) (t : Fin cfg0.N) : (dats m 0 c).after 10 t = out0_10 (iblk m c 0 t) (iblk m c 1 t) (iblk m c 2 t) (iblk m c 6 t) (iblk m c 7 t) := by dsimp only [dats]
theorem after0_11 (c : Dev nD) (t : Fin cfg0.N) : (dats m 0 c).after 11 t = out0_11 (iblk m c 0 t) (iblk m c 1 t) (iblk m c 2 t) := by dsimp only [dats]
theorem after0_12 (c : Dev nD) (t : Fin cfg0.N) : (dats m 0 c).after 12 t = out0_12 (iblk m c 0 t) (iblk m c 1 t) (iblk m c 2 t) (iblk m c 6 t) (iblk m c 7 t) := by dsimp only [dats]
theorem after0_13 (c : Dev nD) (t : Fin cfg0.N) : (dats m 0 c).after 13 t = out0_13 (iblk m c 0 t) (iblk m c 1 t) (iblk m c 2 t) := by dsimp only [dats]
theorem after0_14 (c : Dev nD) (t : Fin cfg0.N) : (dats m 0 c).after 14 t = out0_14 (iblk m c 0 t) (iblk m c 1 t) (iblk m c 3 t) (iblk m c 8 t) := by dsimp only [dats]
theorem after0_15 (c : Dev nD) (t : Fin cfg0.N) : (dats m 0 c).after 15 t = out0_15 (iblk m c 0 t) (iblk m c 1 t) (iblk m c 3 t) (iblk m c 8 t) := by dsimp only [dats]
theorem after0_16 (c : Dev nD) (t : Fin cfg0.N) : (dats m 0 c).after 16 t = out0_16 (iblk m c 0 t) (iblk m c 1 t) (iblk m c 3 t) (iblk m c 8 t) := by dsimp only [dats]
theorem after0_17 (c : Dev nD) (t : Fin cfg0.N) : (dats m 0 c).after 17 t = out0_17 (iblk m c 0 t) (iblk m c 1 t) (iblk m c 3 t) := by dsimp only [dats]
theorem after0_18 (c : Dev nD) (t : Fin cfg0.N) : (dats m 0 c).after 18 t = out0_18 (iblk m c 0 t) (iblk m c 1 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d))
    ∗ (∃ d, owns c (st0_7 t) fullShare ((dats m 0 c).before 7 t d))
    ∗ (∃ d, owns c (st0_8 t) fullShare ((dats m 0 c).before 8 t d))
    ∗ (∃ d, owns c (st0_9 t) fullShare ((dats m 0 c).before 9 t d))
    ∗ (∃ d, owns c (st0_10 t) fullShare ((dats m 0 c).before 10 t d))
    ∗ (∃ d, owns c (st0_11 t) fullShare ((dats m 0 c).before 11 t d))
    ∗ (∃ d, owns c (st0_12 t) fullShare ((dats m 0 c).before 12 t d))
    ∗ (∃ d, owns c (st0_13 t) fullShare ((dats m 0 c).before 13 t d))
    ∗ (∃ d, owns c (st0_14 t) fullShare ((dats m 0 c).before 14 t d))
    ∗ (∃ d, owns c (st0_15 t) fullShare ((dats m 0 c).before 15 t d))
    ∗ (∃ d, owns c (st0_16 t) fullShare ((dats m 0 c).before 16 t d))
    ∗ (∃ d, owns c (st0_17 t) fullShare ((dats m 0 c).before 17 t d))
    ∗ (∃ d, owns c (st0_18 t) fullShare ((dats m 0 c).before 18 t d)))
def bodyPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t)
    ∗ owns c (st0_5 t) fullShare ((dats m 0 c).after 5 t)
    ∗ owns c (st0_6 t) fullShare ((dats m 0 c).after 6 t)
    ∗ owns c (st0_7 t) fullShare ((dats m 0 c).after 7 t)
    ∗ owns c (st0_8 t) fullShare ((dats m 0 c).after 8 t)
    ∗ owns c (st0_9 t) fullShare ((dats m 0 c).after 9 t)
    ∗ owns c (st0_10 t) fullShare ((dats m 0 c).after 10 t)
    ∗ owns c (st0_11 t) fullShare ((dats m 0 c).after 11 t)
    ∗ owns c (st0_12 t) fullShare ((dats m 0 c).after 12 t)
    ∗ owns c (st0_13 t) fullShare ((dats m 0 c).after 13 t)
    ∗ owns c (st0_14 t) fullShare ((dats m 0 c).after 14 t)
    ∗ owns c (st0_15 t) fullShare ((dats m 0 c).after 15 t)
    ∗ owns c (st0_16 t) fullShare ((dats m 0 c).after 16 t)
    ∗ owns c (st0_17 t) fullShare ((dats m 0 c).after 17 t)
    ∗ owns c (st0_18 t) fullShare ((dats m 0 c).after 18 t))
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))
end Cert.Kernel8Ideal.Gen
end
-- ==== Proof.InProjSTab.lean ====
module
public import proofs.«01_k».proof.Defs
public import proofs.«01_k».proof.Proof.InProjSRef
public import proofs.«01_k».proof.Proof.InProjSFrame
public import Idealize.ShloMosaic.Lib.StableHlo.ReadAt
@[expose] public section
set_option maxRecDepth 16384
noncomputable section
open Idealize.ShloMosaic Idealize.ShloMosaic.TcCoe Idealize.SL.Sem
namespace Cert.Kernel8Ideal.InP
open Cert.Kernel8Ideal Cert.Kernel8Ideal.Gen InProjMath
open Cert.Reference8Ideal.InP (hr pr ang16 ang8 REFK REFV REFI REFK_at REFV_at REFI_at)
variable (m : (ℓ : Loc nD τ sig) → Buf (Elt Ideal) ℓ) (c : Dev nD)
theorem lit0_eq (i) : lit0 i = Cert.Reference8Ideal.lit0 i := rfl
theorem lit1_eq (i) : lit1 i = Cert.Reference8Ideal.lit1 i := rfl
def four : BitVec 32 := Scalar.select (IntOp.cmpi .eq (4#32 : BitVec 32) 0#32) (1#32) (4#32)
def pos (r : Fin 128) : BitVec 32 :=
  IntOp.addi (16384#32) (Scalar.select
    (IntOp.andi (IntOp.cmpi .ne (IntOp.cmpi .slt (IntOp.remsi ArithUnit.host (BitVec.ofNat 32 r.val) four) 0#32) (IntOp.cmpi .slt four 0#32))
      (IntOp.cmpi .ne (IntOp.remsi ArithUnit.host (BitVec.ofNat 32 r.val) four) 0#32))
    (IntOp.addi (IntOp.remsi ArithUnit.host (BitVec.ofNat 32 r.val) four) four) (IntOp.remsi ArithUnit.host (BitVec.ofNat 32 r.val) four))
theorem pos_eq : ∀ r : Fin 128, IntOp.addi 16384#32 (BitVec.ofNat 32 (r.val % 4)) = pos r := by decide +kernel
theorem ang16_eq (r : Fin 128) (j : Fin 16) : ang16 (⟨r.val % 4, by omega⟩ : Fin 4) j
    = FloatOps.sitofp (F := Ideal) FTy.f32 (pos r) * Ideal.ofBits FTy.f32 (lit0 (S16.rowMajor (ix1 j))) := by
  rw [← pos_eq]; rfl
theorem ang8_eq (r : Fin 128) (j : Fin 8) : ang8 (⟨r.val % 4, by omega⟩ : Fin 4) j
    = FloatOps.sitofp (F := Ideal) FTy.f32 (pos r) * Ideal.ofBits FTy.f32 (lit1 (S8.rowMajor (ix1 j))) := by
  rw [← pos_eq]; rfl
theorem tc16_at (r : Fin 128) (l : Fin 128) :
    V m c main_v37 (ix3 (0 : Fin 3) r l) = tc16 (fun j => Ideal.cos (ang16 (⟨r.val % 4, by omega⟩ : Fin 4) j)) l := by
  suffices h : ∀ z : EReal, tc16 (fun j => Ideal.cos (ang16 (⟨r.val % 4, by omega⟩ : Fin 4) j)) l = z → V m c main_v37 (ix3 (0 : Fin 3) r l) = z from h _ rfl
  intro z hz
  unfold V V0; simp only [List.flatten_cons, List.flatten_nil, List.append_nil, List.cons_append, List.nil_append]
  after_reads_at
  after_reads_at
  after_reads_at
  rw [← hz]
  simp only [ang16_eq]; rfl
theorem ta16_at (r : Fin 128) (l : Fin 128) :
    V m c main_v37 (ix3 (1 : Fin 3) r l) = ta16 (fun j => Ideal.sin (ang16 (⟨r.val % 4, by omega⟩ : Fin 4) j)) l := by
  suffices h : ∀ z : EReal, ta16 (fun j => Ideal.sin (ang16 (⟨r.val % 4, by omega⟩ : Fin 4) j)) l = z → V m c main_v37 (ix3 (1 : Fin 3) r l) = z from h _ rfl
  intro z hz
  unfold V V0; simp only [List.flatten_cons, List.flatten_nil, List.append_nil, List.cons_append, List.nil_append]
  after_reads_at
  after_reads_at
  after_reads_at
  rw [← hz]
  simp only [ang16_eq]; rfl
theorem tb16_at (r : Fin 128) (l : Fin 128) :
    V m c main_v37 (ix3 (2 : Fin 3) r l) = tb16 (fun j => Ideal.sin (ang16 (⟨r.val % 4, by omega⟩ : Fin 4) j)) l := by
  suffices h : ∀ z : EReal, tb16 (fun j => Ideal.sin (ang16 (⟨r.val % 4, by omega⟩ : Fin 4) j)) l = z → V m c main_v37 (ix3 (2 : Fin 3) r l) = z from h _ rfl
  intro z hz
  unfold V V0; simp only [List.flatten_cons, List.flatten_nil, List.append_nil, List.cons_append, List.nil_append]
  after_reads_at
  after_reads_at
  after_reads_at
  rw [← hz]
  simp only [ang16_eq]; rfl
theorem tc8_at (r : Fin 128) (l : Fin 128) :
    V m c main_v65 (ix3 (0 : Fin 3) r l) = tc8 (fun j => Ideal.cos (ang8 (⟨r.val % 4, by omega⟩ : Fin 4) j)) l := by
  suffices h : ∀ z : EReal, tc8 (fun j => Ideal.cos (ang8 (⟨r.val % 4, by omega⟩ : Fin 4) j)) l = z → V m c main_v65 (ix3 (0 : Fin 3) r l) = z from h _ rfl
  intro z hz
  unfold V V0; simp only [List.flatten_cons, List.flatten_nil, List.append_nil, List.cons_append, List.nil_append]
  after_reads_at
  after_reads_at
  after_reads_at
  rw [← hz]
  simp only [ang8_eq]; rfl
theorem ta8_at (r : Fin 128) (l : Fin 128) :
    V m c main_v65 (ix3 (1 : Fin 3) r l) = ta8 (fun j => Ideal.sin (ang8 (⟨r.val % 4, by omega⟩ : Fin 4) j)) l := by
  suffices h : ∀ z : EReal, ta8 (fun j => Ideal.sin (ang8 (⟨r.val % 4, by omega⟩ : Fin 4) j)) l = z → V m c main_v65 (ix3 (1 : Fin 3) r l) = z from h _ rfl
  intro z hz
  unfold V V0; simp only [List.flatten_cons, List.flatten_nil, List.append_nil, List.cons_append, List.nil_append]
  after_reads_at
  after_reads_at
  after_reads_at
  rw [← hz]
  simp only [ang8_eq]; rfl
theorem tb8_at (r : Fin 128) (l : Fin 128) :
    V m c main_v65 (ix3 (2 : Fin 3) r l) = tb8 (fun j => Ideal.sin (ang8 (⟨r.val % 4, by omega⟩ : Fin 4) j)) l := by
  suffices h : ∀ z : EReal, tb8 (fun j => Ideal.sin (ang8 (⟨r.val % 4, by omega⟩ : Fin 4) j)) l = z → V m c main_v65 (ix3 (2 : Fin 3) r l) = z from h _ rfl
  intro z hz
  unfold V V0; simp only [List.flatten_cons, List.flatten_nil, List.append_nil, List.cons_append, List.nil_append]
  after_reads_at
  after_reads_at
  after_reads_at
  rw [← hz]
  simp only [ang8_eq]; rfl
def hb (x : FVec Ideal S128x2048 .f32) (g : FVec Ideal S1x2048 .f32) (r : Fin 128) (k : Fin 2048) : EReal :=
  x (ix2 r k) * Ideal.rsqrt (Ideal.div (∑ q : Fin 2048, x (ix2 r q) * x (ix2 r q)) (Ideal.ofBits FTy.f32 1157627904#32)
    + Ideal.ofBits FTy.f32 897988541#32) * g (ix2 0 k)
theorem lt_N (t : Fin cfg0.N) : t.val < 1 := lt_of_lt_of_eq t.isLt N_0
theorem idx : ∀ t : Fin cfg0.N, win0_0.index t = ![t.val, 0] ∧ win0_1.index t = ![0, 0] ∧ win0_2.index t = ![0, 0] ∧ win0_3.index t = ![0, 0] ∧ win0_6.index t = ![0, 0] ∧ win0_7.index t = ![0, 0, 0] ∧ win0_8.index t = ![0, 0, 0] ∧ win0_10.index t = ![t.val, 0] ∧ win0_11.index t = ![t.val, 0] ∧ win0_15.index t = ![t.val, 0] :=
  (by decide +kernel : ∀ t : Fin grid0.N, _)
theorem vx_at (R : Fin 128) (k : Fin 2048) : V m c main_v66 (ix2 R k) = (m ((c : Thread nD τ).loc main_arg0)) (ix3 (⟨R.val / 4, by omega⟩ : Fin 32) (⟨R.val % 4, by omega⟩ : Fin 4) k) := by
  suffices h : ∀ z : EReal, (m ((c : Thread nD τ).loc main_arg0)) (ix3 (⟨R.val / 4, by omega⟩ : Fin 32) (⟨R.val % 4, by omega⟩ : Fin 4) k) = z → V m c main_v66 (ix2 R k) = z from h _ rfl
  intro z hz
  unfold V V0; simp only [List.flatten_cons, List.flatten_nil, List.append_nil, List.cons_append, List.nil_append]
  after_reads_at
  rw [← hz]
theorem vg_at (k : Fin 2048) : V m c main_v67 (ix2 (0 : Fin 1) k) = (m ((c : Thread nD τ).loc main_arg1)) (ix1 k) := by
  suffices h : ∀ z : EReal, (m ((c : Thread nD τ).loc main_arg1)) (ix1 k) = z → V m c main_v67 (ix2 (0 : Fin 1) k) = z from h _ rfl
  intro z hz
  unfold V V0; simp only [List.flatten_cons, List.flatten_nil, List.append_nil, List.cons_append, List.nil_append]
  after_reads_at
  rw [← hz]
theorem vw_at (k : Fin 2048) (l : Fin 1536) : V m c main_v69 (ix2 k l) = (m ((c : Thread nD τ).loc main_arg2)) (ix2 k (⟨l.val, by omega⟩ : Fin 7248)) := by
  suffices h : ∀ z : EReal, (m ((c : Thread nD τ).loc main_arg2)) (ix2 k (⟨l.val, by omega⟩ : Fin 7248)) = z → V m c main_v69 (ix2 k l) = z from h _ rfl
  intro z hz
  unfold V V0; simp only [List.flatten_cons, List.flatten_nil, List.append_nil, List.cons_append, List.nil_append]
  after_reads_at
  rw [← hz]
theorem vi_at (k : Fin 2048) (l : Fin 64) : V m c main_v70 (ix2 k (⟨1024 + l.val, by omega⟩ : Fin 1280)) = (m ((c : Thread nD τ).loc main_arg2)) (ix2 k (⟨2560 + l.val, by omega⟩ : Fin 7248)) := by
  suffices h : ∀ z : EReal, (m ((c : Thread nD τ).loc main_arg2)) (ix2 k (⟨2560 + l.val, by omega⟩ : Fin 7248)) = z → V m c main_v70 (ix2 k (⟨1024 + l.val, by omega⟩ : Fin 1280)) = z from h _ rfl
  intro z hz
  unfold V V0; simp only [List.flatten_cons, List.flatten_nil, List.append_nil, List.cons_append, List.nil_append]
  after_reads_at
  after_reads_at
  rw [← hz]
theorem vk_at (k : Fin 128) : V m c main_v73 (ix2 (0 : Fin 1) k) = (m ((c : Thread nD τ).loc main_arg4)) (ix1 k) := by
  suffices h : ∀ z : EReal, (m ((c : Thread nD τ).loc main_arg4)) (ix1 k) = z → V m c main_v73 (ix2 (0 : Fin 1) k) = z from h _ rfl
  intro z hz
  unfold V V0; simp only [List.flatten_cons, List.flatten_nil, List.append_nil, List.cons_append, List.nil_append]
  after_reads_at
  rw [← hz]
theorem rd0 (t : Fin cfg0.N) (r : Fin 128) (k : Fin 2048) : iblk m c 0 t (ix2 r k) = (m ((c : Thread nD τ).loc main_arg0)) (ix3 (⟨(t.val * 128 + r.val) / 4, by have := lt_N t; omega⟩ : Fin 32) (⟨(t.val * 128 + r.val) % 4, by omega⟩ : Fin 4) k) := by
  have ht := lt_N t
  have e : ((cfg0.win 0).blk t).view.emb (ix2 r k) = ix2 (⟨t.val * 128 + r.val, by omega⟩ : Fin 128) k := by blk_ext [idx t]
  blk_simp [iblk]
  erw [e]; refine (vx_at m c (⟨t.val * 128 + r.val, by omega⟩ : Fin 128) k).trans (congrArg _ ?_); blk_ext []
theorem rd1 (t : Fin cfg0.N) (k : Fin 2048) : iblk m c 1 t (ix2 (0 : Fin 1) k) = (m ((c : Thread nD τ).loc main_arg1)) (ix1 k) := by
  have ht := lt_N t
  have e : ((cfg0.win 1).blk t).view.emb (ix2 (0 : Fin 1) k) = ix2 (0 : Fin 1) k := by blk_ext [idx t]
  blk_simp [iblk]
  erw [e]; exact vg_at m c k
theorem rd2 (t : Fin cfg0.N) (k : Fin 2048) (l : Fin 1536) : iblk m c 2 t (ix2 k l) = (m ((c : Thread nD τ).loc main_arg2)) (ix2 k (⟨l.val, by omega⟩ : Fin 7248)) := by
  have ht := lt_N t
  have e : ((cfg0.win 2).blk t).view.emb (ix2 k l) = ix2 k l := by blk_ext [idx t]
  blk_simp [iblk]
  erw [e]; exact vw_at m c k l
theorem rd3 (t : Fin cfg0.N) (k : Fin 2048) (l : Fin 64) : iblk m c 3 t (ix2 k (⟨1024 + l.val, by omega⟩ : Fin 1280)) = (m ((c : Thread nD τ).loc main_arg2)) (ix2 k (⟨2560 + l.val, by omega⟩ : Fin 7248)) := by
  have ht := lt_N t
  have e : ((cfg0.win 3).blk t).view.emb (ix2 k (⟨1024 + l.val, by omega⟩ : Fin 1280)) = ix2 k (⟨1024 + l.val, by omega⟩ : Fin 1280) := by blk_ext [idx t]
  blk_simp [iblk]
  erw [e]; exact vi_at m c k l
theorem rd6 (t : Fin cfg0.N) (k : Fin 128) : iblk m c 6 t (ix2 (0 : Fin 1) k) = (m ((c : Thread nD τ).loc main_arg4)) (ix1 k) := by
  have ht := lt_N t
  have e : ((cfg0.win 6).blk t).view.emb (ix2 (0 : Fin 1) k) = ix2 (0 : Fin 1) k := by blk_ext [idx t]
  blk_simp [iblk]
  erw [e]; exact vk_at m c k
theorem rd7 (t : Fin cfg0.N) (q : Fin 3) (r : Fin 128) (l : Fin 128) : iblk m c 7 t (ix3 q r l) = V m c main_v37 (ix3 q r l) := by
  have ht := lt_N t
  have e : ((cfg0.win 7).blk t).view.emb (ix3 q r l) = ix3 q r l := by blk_ext [idx t]
  blk_simp [iblk]
  erw [e]
theorem rd8 (t : Fin cfg0.N) (q : Fin 3) (r : Fin 128) (l : Fin 128) : iblk m c 8 t (ix3 q r l) = V m c main_v65 (ix3 q r l) := by
  have ht := lt_N t
  have e : ((cfg0.win 8).blk t).view.emb (ix3 q r l) = ix3 q r l := by blk_ext [idx t]
  blk_simp [iblk]
  erw [e]
theorem hb_eq (t : Fin cfg0.N) (r : Fin 128) (k : Fin 2048) : hb (iblk m c 0 t) (iblk m c 1 t) r k
    = hr (m ((c : Thread nD τ).loc main_arg0)) (m ((c : Thread nD τ).loc main_arg1)) (⟨(t.val * 128 + r.val) / 4, by have := lt_N t; omega⟩ : Fin 32) (⟨(t.val * 128 + r.val) % 4, by omega⟩ : Fin 4) k := by
  unfold hb hr
  simp only [rd0, rd1]
theorem pr2 (t : Fin cfg0.N) (r : Fin 128) (j : Fin 1536) : ∑ k : Fin 2048, hb (iblk m c 0 t) (iblk m c 1 t) r k * iblk m c 2 t (ix2 k j)
    = pr (m ((c : Thread nD τ).loc main_arg0)) (m ((c : Thread nD τ).loc main_arg1)) (m ((c : Thread nD τ).loc main_arg2)) (⟨(t.val * 128 + r.val) / 4, by have := lt_N t; omega⟩ : Fin 32) (⟨(t.val * 128 + r.val) % 4, by omega⟩ : Fin 4) (⟨j.val, by omega⟩ : Fin 7248) :=
  Finset.sum_congr rfl fun k _ => by rw [hb_eq, rd2]
theorem pr3 (t : Fin cfg0.N) (r : Fin 128) (j : Fin 64) : ∑ k : Fin 2048, hb (iblk m c 0 t) (iblk m c 1 t) r k * iblk m c 3 t (ix2 k (⟨1024 + j.val, by omega⟩ : Fin 1280))
    = pr (m ((c : Thread nD τ).loc main_arg0)) (m ((c : Thread nD τ).loc main_arg1)) (m ((c : Thread nD τ).loc main_arg2)) (⟨(t.val * 128 + r.val) / 4, by have := lt_N t; omega⟩ : Fin 32) (⟨(t.val * 128 + r.val) % 4, by omega⟩ : Fin 4) (⟨2560 + j.val, by omega⟩ : Fin 7248) :=
  Finset.sum_congr rfl fun k _ => by rw [hb_eq, rd3]
theorem pay5_at (x : FVec Ideal S128x2048 .f32) (g : FVec Ideal S1x2048 .f32) (r : Fin 128) (k : Fin 2048) :
    k0_pay5 (F := Ideal) x g (ix2 r k) = hb x g r k := by
  pointwise [k0_pay5, hb]
theorem pay6_at (x : FVec Ideal S128x2048 .f32) (g : FVec Ideal S1x2048 .f32) (w : FVec Ideal S2048x1536 .bf16) (r : Fin 128) (j : Fin 1536) :
    k0_pay6 (F := Ideal) x g w (ix2 r j) = ∑ k : Fin 2048, hb x g r k * w (ix2 k j) := by
  pointwise [k0_pay6, pay5_at]
theorem pay46_at (x : FVec Ideal S128x2048 .f32) (g : FVec Ideal S1x2048 .f32) (w : FVec Ideal S2048x1280 .bf16) (r : Fin 128) (j : Fin 1280) :
    k0_pay46 (F := Ideal) (k0_pay5 x g) w (ix2 r j) = ∑ k : Fin 2048, hb x g r k * w (ix2 k j) := by
  pointwise [k0_pay46, pay5_at]
theorem pay31_at (v : FVec Ideal S128x1536 .f32) (g : FVec Ideal S1x128 .f32) (r : Fin 128) (l : Fin 128) :
    k0_pay31 (F := Ideal) v g (ix2 r l) = nk (fun q => v (ix2 r (⟨1024 + q.val, by omega⟩ : Fin 1536))) (fun q => g (ix2 0 q)) l := by
  pointwise [k0_pay31, nk]
theorem pay39_at (v : FVec Ideal S128x1536 .f32) (g : FVec Ideal S1x128 .f32) (r : Fin 128) (l : Fin 128) :
    k0_pay39 (F := Ideal) v g (ix2 r l) = nk (fun q => v (ix2 r (⟨1152 + q.val, by omega⟩ : Fin 1536))) (fun q => g (ix2 0 q)) l := by
  pointwise [k0_pay39, nk]
theorem kev (v : FVec Ideal S128x1536 .f32) (g : FVec Ideal S1x128 .f32) (a b d : FVec Ideal S1x128x128 .f32) (C S : Fin 16 → EReal) (r : Fin 128)
    (ha : ∀ l, a (ix3 0 r l) = tc16 C l) (hb : ∀ l, b (ix3 0 r l) = ta16 S l) (hd : ∀ l, d (ix3 0 r l) = tb16 S l) (l : Fin 128) :
    k0_pay35 (F := Ideal) (k0_pay31 v g) (k0_pay32 v g a) (k0_pay33 v g) (k0_pay34 b) d (ix2 r l)
    = rot16 (nk (fun q => v (ix2 r (⟨1024 + q.val, by omega⟩ : Fin 1536))) (fun q => g (ix2 0 q))) C S l := by
  pointwise [k0_pay35, k0_pay32, k0_pay33, k0_pay34, pay31_at]
  rw [ha, hb, hd]
  exact rope16 _ C S l
theorem kod (v : FVec Ideal S128x1536 .f32) (g : FVec Ideal S1x128 .f32) (a b d : FVec Ideal S1x128x128 .f32) (C S : Fin 16 → EReal) (r : Fin 128)
    (ha : ∀ l, a (ix3 0 r l) = tc16 C l) (hb : ∀ l, b (ix3 0 r l) = ta16 S l) (hd : ∀ l, d (ix3 0 r l) = tb16 S l) (l : Fin 128) :
    k0_pay42 (F := Ideal) (k0_pay39 v g) (k0_pay40 v g a) (k0_pay41 v g) b d (ix2 r l)
    = rot16 (nk (fun q => v (ix2 r (⟨1152 + q.val, by omega⟩ : Fin 1536))) (fun q => g (ix2 0 q))) C S l := by
  pointwise [k0_pay42, k0_pay40, k0_pay41, pay39_at]
  rw [ha, hb, hd]
  exact rope16 _ C S l
theorem kix (v : FVec Ideal S128x1280 .f32) (a b d : FVec Ideal S1x128x128 .f32) (C S : Fin 8 → EReal) (r : Fin 128)
    (ha : ∀ l, a (ix3 0 r l) = tc8 C l) (hb : ∀ l, b (ix3 0 r l) = ta8 S l) (hd : ∀ l, d (ix3 0 r l) = tb8 S l) (l : Fin 64) (u : Fin 128) (hu : u.val = l.val) :
    k0_pay1 (F := Ideal) (k0_pay68 v a b) (k0_pay69 v) d (ix2 r u)
    = rot8 (fun q => v (ix2 r (⟨1024 + q.val, by omega⟩ : Fin 1280))) C S l := by
  pointwise [k0_pay1, k0_pay68, k0_pay69, k0_pay67]
  rw [ha, hb, hd]
  exact rope8 (fun q => v (ix2 r (⟨1024 + q.val, by omega⟩ : Fin 1280))) C S l u hu
theorem vev (v : FVec Ideal S128x1536 .f32) (r : Fin 128) (l : Fin 128) : k0_pay36 (F := Ideal) v (ix2 r l) = v (ix2 r (⟨1280 + l.val, by omega⟩ : Fin 1536)) := by
  pointwise [k0_pay36]
theorem vod (v : FVec Ideal S128x1536 .f32) (r : Fin 128) (l : Fin 128) : k0_pay43 (F := Ideal) v (ix2 r l) = v (ix2 r (⟨1408 + l.val, by omega⟩ : Fin 1536)) := by
  pointwise [k0_pay43]
theorem canon_pair (p q : FVec Ideal S128x128 .f32) (y : S256x128.Idx) (r : Fin 128) (l : Fin 128) (hl : (y 1).val = l.val) :
    ((y 0).val = 2 * r.val → View.canon ([⟨r0_17, p⟩, ⟨r0_15, q⟩] : List (View.Piece (Elt Ideal) S256x128 .f32)) y = q (ix2 r l))
    ∧ ((y 0).val = 2 * r.val + 1 → View.canon ([⟨r0_17, p⟩, ⟨r0_15, q⟩] : List (View.Piece (Elt Ideal) S256x128 .f32)) y = p (ix2 r l)) := by
  constructor
  · intro h
    have e : y = r0_15.emb (ix2 r l) := by
      funext a; apply Fin.ext; revert a
      exact Fin.forall_fin_two.2 ⟨by show (y 0).val = 0 + 2 * r.val; omega, by show (y 1).val = 0 + 1 * l.val; omega⟩
    refine (View.canon_cons_of_not_mem _ _ ?_).trans ?_
    · intro hm
      obtain ⟨j, _, hj⟩ := (LoadRect.mem_set _).1 hm 0
      have hj' : (y 0).val = 1 + 2 * j := hj
      omega
    · rw [e]; exact View.canon_cons_emb _ _ _ _
  · intro h
    have e : y = r0_17.emb (ix2 r l) := by
      funext a; apply Fin.ext; revert a
      exact Fin.forall_fin_two.2 ⟨by show (y 0).val = 1 + 2 * r.val; omega, by show (y 1).val = 0 + 1 * l.val; omega⟩
    rw [e]; exact View.canon_cons_emb _ _ _ _
theorem ld0 (x : Vec Ideal S128x2048 .f32) : View.ld x r0_0 = x := View.ld_unit_zero (by funext a; fin_cases a <;> rfl) _ _
theorem ld1 (x : Vec Ideal S1x2048 .f32) : View.ld x r0_1 = x := View.ld_unit_zero (by funext a; fin_cases a <;> rfl) _ _
theorem ld2 (x : Vec Ideal S2048x1536 .bf16) : View.ld x r0_2 = x := View.ld_unit_zero (by funext a; fin_cases a <;> rfl) _ _
theorem ld3 (x : Vec Ideal S1x128 .f32) : View.ld x r0_3 = x := View.ld_unit_zero (by funext a; fin_cases a <;> rfl) _ _
theorem ld19 (x : Vec Ideal S2048x1280 .bf16) : View.ld x r0_19 = x := View.ld_unit_zero (by funext a; fin_cases a <;> rfl) _ _
theorem ld4 (x : Vec Ideal S3x128x128 .f32) (r : Fin 128) (l : Fin 128) : View.ld x r0_4 (ix3 0 r l) = x (ix3 (0 : Fin 3) r l) :=
  View.ld_unit_apply_of x _ _ _ _ _ fun | 0 => rfl | 1 => (Nat.zero_add _).symm | 2 => (Nat.zero_add _).symm
theorem ld5 (x : Vec Ideal S3x128x128 .f32) (r : Fin 128) (l : Fin 128) : View.ld x r0_5 (ix3 0 r l) = x (ix3 (1 : Fin 3) r l) :=
  View.ld_unit_apply_of x _ _ _ _ _ fun | 0 => rfl | 1 => (Nat.zero_add _).symm | 2 => (Nat.zero_add _).symm
theorem ld6 (x : Vec Ideal S3x128x128 .f32) (r : Fin 128) (l : Fin 128) : View.ld x r0_6 (ix3 0 r l) = x (ix3 (2 : Fin 3) r l) :=
  View.ld_unit_apply_of x _ _ _ _ _ fun | 0 => rfl | 1 => (Nat.zero_add _).symm | 2 => (Nat.zero_add _).symm
end Cert.Kernel8Ideal.InP
end
-- ==== Proof.InProjSValue.lean ====
module
public import proofs.«01_k».proof.Defs
public import proofs.«01_k».proof.Proof.InProjSTab
@[expose] public section
set_option maxRecDepth 16384
noncomputable section
open Idealize.ShloMosaic Idealize.ShloMosaic.TcCoe Idealize.SL.Sem
namespace Cert.Kernel8Ideal.InP
open Cert.Kernel8Ideal Cert.Kernel8Ideal.Gen InProjMath
open Cert.Reference8Ideal.InP (hr pr ang16 ang8 REFK REFV REFI REFK_at REFV_at REFI_at)
variable (m : (ℓ : Loc nD τ sig) → Buf (Elt Ideal) ℓ) (c : Dev nD)
theorem v_at (t : Fin cfg0.N) (r : Fin 128) (j : Fin 1536) (b : Fin 32) (s : Fin 4) (hb : b.val = (t.val * 128 + r.val) / 4) (hs : s.val = (t.val * 128 + r.val) % 4) (J : Fin 7248) (hJ : J.val = j.val) :
    k0_pay71 (iblk m c 0 t) (iblk m c 1 t) (iblk m c 2 t) (ix2 r j) = pr (m ((c : Thread nD τ).loc main_arg0)) (m ((c : Thread nD τ).loc main_arg1)) (m ((c : Thread nD τ).loc main_arg2)) b s J := by
  unfold k0_pay71
  rw [ld0, ld1, ld2]
  refine ((pay6_at _ _ _ r j).trans (pr2 m c t r j)).trans ?_
  congr 1
  exacts [Fin.ext hb.symm, Fin.ext hs.symm, Fin.ext hJ.symm]
theorem i_at (t : Fin cfg0.N) (r : Fin 128) (q : Fin 64) (b : Fin 32) (s : Fin 4) (hb : b.val = (t.val * 128 + r.val) / 4) (hs : s.val = (t.val * 128 + r.val) % 4) :
    k0_pay79 (iblk m c 0 t) (iblk m c 1 t) (iblk m c 3 t) (ix2 r (⟨1024 + q.val, by omega⟩ : Fin 1280)) = pr (m ((c : Thread nD τ).loc main_arg0)) (m ((c : Thread nD τ).loc main_arg1)) (m ((c : Thread nD τ).loc main_arg2)) b s (⟨2560 + q.val, by omega⟩ : Fin 7248) := by
  unfold k0_pay79 k0_pay70
  rw [ld0, ld1, ld19]
  refine ((pay46_at _ _ _ r _).trans (pr3 m c t r q)).trans ?_
  congr 1
  exacts [Fin.ext hb.symm, Fin.ext hs.symm]
theorem tc16_rd (t : Fin cfg0.N) (r : Fin 128) (s : Fin 4) (hs : s.val = (t.val * 128 + r.val) % 4) (l : Fin 128) :
    View.ld (Val := Elt Ideal) (e' := .f32) (iblk m c 7 t) r0_4 (ix3 0 r l) = tc16 (fun j => Ideal.cos (ang16 s j)) l := by
  have ht := lt_N t
  have es : (⟨r.val % 4, by omega⟩ : Fin 4) = s := Fin.ext (by show r.val % 4 = s.val; omega)
  exact (ld4 _ r l).trans ((rd7 m c t 0 r l).trans ((tc16_at m c _ l).trans (by rw [es])))
theorem ta16_rd (t : Fin cfg0.N) (r : Fin 128) (s : Fin 4) (hs : s.val = (t.val * 128 + r.val) % 4) (l : Fin 128) :
    View.ld (Val := Elt Ideal) (e' := .f32) (iblk m c 7 t) r0_5 (ix3 0 r l) = ta16 (fun j => Ideal.sin (ang16 s j)) l := by
  have ht := lt_N t
  have es : (⟨r.val % 4, by omega⟩ : Fin 4) = s := Fin.ext (by show r.val % 4 = s.val; omega)
  exact (ld5 _ r l).trans ((rd7 m c t 1 r l).trans ((ta16_at m c _ l).trans (by rw [es])))
theorem tb16_rd (t : Fin cfg0.N) (r : Fin 128) (s : Fin 4) (hs : s.val = (t.val * 128 + r.val) % 4) (l : Fin 128) :
    View.ld (Val := Elt Ideal) (e' := .f32) (iblk m c 7 t) r0_6 (ix3 0 r l) = tb16 (fun j => Ideal.sin (ang16 s j)) l := by
  have ht := lt_N t
  have es : (⟨r.val % 4, by omega⟩ : Fin 4) = s := Fin.ext (by show r.val % 4 = s.val; omega)
  exact (ld6 _ r l).trans ((rd7 m c t 2 r l).trans ((tb16_at m c _ l).trans (by rw [es])))
theorem tc8_rd (t : Fin cfg0.N) (r : Fin 128) (s : Fin 4) (hs : s.val = (t.val * 128 + r.val) % 4) (l : Fin 128) :
    View.ld (Val := Elt Ideal) (e' := .f32) (iblk m c 8 t) r0_4 (ix3 0 r l) = tc8 (fun j => Ideal.cos (ang8 s j)) l := by
  have ht := lt_N t
  have es : (⟨r.val % 4, by omega⟩ : Fin 4) = s := Fin.ext (by show r.val % 4 = s.val; omega)
  exact (ld4 _ r l).trans ((rd8 m c t 0 r l).trans ((tc8_at m c _ l).trans (by rw [es])))
theorem ta8_rd (t : Fin cfg0.N) (r : Fin 128) (s : Fin 4) (hs : s.val = (t.val * 128 + r.val) % 4) (l : Fin 128) :
    View.ld (Val := Elt Ideal) (e' := .f32) (iblk m c 8 t) r0_5 (ix3 0 r l) = ta8 (fun j => Ideal.sin (ang8 s j)) l := by
  have ht := lt_N t
  have es : (⟨r.val % 4, by omega⟩ : Fin 4) = s := Fin.ext (by show r.val % 4 = s.val; omega)
  exact (ld5 _ r l).trans ((rd8 m c t 1 r l).trans ((ta8_at m c _ l).trans (by rw [es])))
theorem tb8_rd (t : Fin cfg0.N) (r : Fin 128) (s : Fin 4) (hs : s.val = (t.val * 128 + r.val) % 4) (l : Fin 128) :
    View.ld (Val := Elt Ideal) (e' := .f32) (iblk m c 8 t) r0_6 (ix3 0 r l) = tb8 (fun j => Ideal.sin (ang8 s j)) l := by
  have ht := lt_N t
  have es : (⟨r.val % 4, by omega⟩ : Fin 4) = s := Fin.ext (by show r.val % 4 = s.val; omega)
  exact (ld6 _ r l).trans ((rd8 m c t 2 r l).trans ((tb8_at m c _ l).trans (by rw [es])))
theorem point10 (t : Fin cfg0.N) (y : S256x128.Idx) : out0_10 (iblk m c 0 t) (iblk m c 1 t) (iblk m c 2 t) (iblk m c 6 t) (iblk m c 7 t) y
    = REFK (m ((c : Thread nD τ).loc main_arg0)) (m ((c : Thread nD τ).loc main_arg1)) (m ((c : Thread nD τ).loc main_arg2)) (m ((c : Thread nD τ).loc main_arg4)) (((cfg0.win 10).blk t).view.emb y) := by
  have hy0 : (y 0).val < 256 := (y 0).isLt
  have ht := lt_N t
  have he : ((cfg0.win 10).blk t).view.emb y = ix2 (⟨t.val * 256 + (y 0).val, by omega⟩ : Fin 256) (y 1) := by blk_ext [idx t]
  refine Eq.trans ?_ ((congrArg (REFK (m ((c : Thread nD τ).loc main_arg0)) (m ((c : Thread nD τ).loc main_arg1)) (m ((c : Thread nD τ).loc main_arg2)) (m ((c : Thread nD τ).loc main_arg4))) he).trans (REFK_at _ _ _ _ _ (y 1))).symm
  unfold out0_10
  rcases Nat.mod_two_eq_zero_or_one (y 0).val with h | h
  · have hr : (y 0).val = 2 * (⟨(y 0).val / 2, by omega⟩ : Fin 128).val := by show (y 0).val = 2 * ((y 0).val / 2); omega
    generalize (⟨(y 0).val / 2, by omega⟩ : Fin 128) = r at hr
    refine ((canon_pair _ _ y r (y 1) rfl).1 hr).trans ?_
    have hs : (⟨(t.val * 256 + (y 0).val) / 2 % 4, by omega⟩ : Fin 4).val = (t.val * 128 + r.val) % 4 := by show (t.val * 256 + (y 0).val) / 2 % 4 = _; omega
    unfold k0_pay72 k0_pay73 k0_pay74 k0_pay75
    rw [ld3]
    refine (kev _ _ _ _ _ _ _ r (tc16_rd m c t r _ hs) (ta16_rd m c t r _ hs) (tb16_rd m c t r _ hs) (y 1)).trans ?_
    refine congrArg₂ (fun p g => rot16 (nk p g) _ _ (y 1)) (funext fun q => ?_) (funext fun q => rd6 m c t q)
    exact v_at m c t r _ _ _ (by show (t.val * 256 + (y 0).val) / 8 = _; omega) (by show (t.val * 256 + (y 0).val) / 2 % 4 = _; omega) _ (by show 1024 + ((t.val * 256 + (y 0).val) % 2 * 128 + q.val) = 1024 + q.val; omega)
  · have hr : (y 0).val = 2 * (⟨(y 0).val / 2, by omega⟩ : Fin 128).val + 1 := by show (y 0).val = 2 * ((y 0).val / 2) + 1; omega
    generalize (⟨(y 0).val / 2, by omega⟩ : Fin 128) = r at hr
    refine ((canon_pair _ _ y r (y 1) rfl).2 hr).trans ?_
    have hs : (⟨(t.val * 256 + (y 0).val) / 2 % 4, by omega⟩ : Fin 4).val = (t.val * 128 + r.val) % 4 := by show (t.val * 256 + (y 0).val) / 2 % 4 = _; omega
    unfold k0_pay76 k0_pay77 k0_pay78
    rw [ld3]
    refine (kod _ _ _ _ _ _ _ r (tc16_rd m c t r _ hs) (ta16_rd m c t r _ hs) (tb16_rd m c t r _ hs) (y 1)).trans ?_
    refine congrArg₂ (fun p g => rot16 (nk p g) _ _ (y 1)) (funext fun q => ?_) (funext fun q => rd6 m c t q)
    exact v_at m c t r _ _ _ (by show (t.val * 256 + (y 0).val) / 8 = _; omega) (by show (t.val * 256 + (y 0).val) / 2 % 4 = _; omega) _ (by show 1024 + ((t.val * 256 + (y 0).val) % 2 * 128 + q.val) = 1152 + q.val; omega)
theorem final10 : (dats m 0 c).arrAt 10 (cfgs 0).N = REFK (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t _ y => ?_
  blk_simp
  rw [after0_10]
  exact point10 m c t y
theorem point11 (t : Fin cfg0.N) (y : S256x128.Idx) : out0_11 (iblk m c 0 t) (iblk m c 1 t) (iblk m c 2 t) y
    = REFV (m ((c : Thread nD τ).loc main_arg0)) (m ((c : Thread nD τ).loc main_arg1)) (m ((c : Thread nD τ).loc main_arg2)) (((cfg0.win 11).blk t).view.emb y) := by
  have hy0 : (y 0).val < 256 := (y 0).isLt
  have ht := lt_N t
  have he : ((cfg0.win 11).blk t).view.emb y = ix2 (⟨t.val * 256 + (y 0).val, by omega⟩ : Fin 256) (y 1) := by blk_ext [idx t]
  refine Eq.trans ?_ ((congrArg (REFV (m ((c : Thread nD τ).loc main_arg0)) (m ((c : Thread nD τ).loc main_arg1)) (m ((c : Thread nD τ).loc main_arg2))) he).trans (REFV_at _ _ _ _ (y 1))).symm
  unfold out0_11
  rcases Nat.mod_two_eq_zero_or_one (y 0).val with h | h
  · have hr : (y 0).val = 2 * (⟨(y 0).val / 2, by omega⟩ : Fin 128).val := by show (y 0).val = 2 * ((y 0).val / 2); omega
    generalize (⟨(y 0).val / 2, by omega⟩ : Fin 128) = r at hr
    refine ((canon_pair _ _ y r (y 1) rfl).1 hr).trans ?_
    refine (vev _ r (y 1)).trans ?_
    exact v_at m c t r _ _ _ (by show (t.val * 256 + (y 0).val) / 8 = _; omega) (by show (t.val * 256 + (y 0).val) / 2 % 4 = _; omega) _ (by show 1280 + ((t.val * 256 + (y 0).val) % 2 * 128 + (y 1).val) = 1280 + (y 1).val; omega)
  · have hr : (y 0).val = 2 * (⟨(y 0).val / 2, by omega⟩ : Fin 128).val + 1 := by show (y 0).val = 2 * ((y 0).val / 2) + 1; omega
    generalize (⟨(y 0).val / 2, by omega⟩ : Fin 128) = r at hr
    refine ((canon_pair _ _ y r (y 1) rfl).2 hr).trans ?_
    refine (vod _ r (y 1)).trans ?_
    exact v_at m c t r _ _ _ (by show (t.val * 256 + (y 0).val) / 8 = _; omega) (by show (t.val * 256 + (y 0).val) / 2 % 4 = _; omega) _ (by show 1280 + ((t.val * 256 + (y 0).val) % 2 * 128 + (y 1).val) = 1408 + (y 1).val; omega)
theorem final11 : (dats m 0 c).arrAt 11 (cfgs 0).N = REFV (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  exact point11 m c t y
def o15 (t : Fin cfg0.N) : FVec Ideal S128x128 .f32 := out0_15 (iblk m c 0 t) (iblk m c 1 t) (iblk m c 3 t) (iblk m c 8 t)
theorem canon20 (p : FVec Ideal S128x128 .f32) : View.canon ([⟨r0_20, p⟩] : List (View.Piece (Elt Ideal) S128x128 .f32)) = p := by
  funext y
  have e : y = r0_20.emb y := by
    funext a; apply Fin.ext; revert a
    exact Fin.forall_fin_two.2 ⟨by show (y 0).val = 0 + 1 * (y 0).val; omega, by show (y 1).val = 0 + 1 * (y 1).val; omega⟩
  refine (congrArg _ e).trans ?_
  exact View.canon_cons_emb _ _ _ _
theorem o15_at (t : Fin cfg0.N) (r : Fin 128) (l : Fin 64) (u : Fin 128) (hu : u.val = l.val) (R : Fin 128) (hR : R.val = t.val * 128 + r.val) :
    o15 m c t (ix2 r u) = REFI (m ((c : Thread nD τ).loc main_arg0)) (m ((c : Thread nD τ).loc main_arg1)) (m ((c : Thread nD τ).loc main_arg2)) (ix2 R l) := by
  refine Eq.trans ?_ (REFI_at _ _ _ R l).symm
  unfold o15 out0_15
  rw [canon20]
  have hb : (⟨R.val / 4, by omega⟩ : Fin 32).val = (t.val * 128 + r.val) / 4 := by show R.val / 4 = _; rw [hR]
  have hs : (⟨R.val % 4, by omega⟩ : Fin 4).val = (t.val * 128 + r.val) % 4 := by show R.val % 4 = _; rw [hR]
  unfold k0_pay80 k0_pay81
  refine (kix _ _ _ _ _ _ r (tc8_rd m c t r _ hs) (ta8_rd m c t r _ hs) (tb8_rd m c t r _ hs) l u hu).trans ?_
  exact congrArg (fun p => rot8 p _ _ l) (funext fun q => i_at m c t r q _ _ hb hs)
theorem div_lt (i : S128x128.Idx) : (i 0).val / 128 < cfg0.N := by
  have h : (i 0).val < 128 := (i 0).isLt
  exact lt_of_lt_of_eq (by omega : (i 0).val / 128 < 1) N_0.symm
def g15 : FVec Ideal S128x128 .f32 := fun i => o15 m c ⟨(i 0).val / 128, div_lt i⟩ (ix2 (⟨(i 0).val % 128, by omega⟩ : Fin 128) (i 1))
theorem g15_at (t : Fin cfg0.N) (r : Fin 128) (u : Fin 128) (i : S128x128.Idx) (h0 : (i 0).val = t.val * 128 + r.val) (h1 : i 1 = u) :
    g15 m c i = o15 m c t (ix2 r u) := by
  have et : (⟨(i 0).val / 128, div_lt i⟩ : Fin cfg0.N) = t := Fin.ext (by show (i 0).val / 128 = t.val; omega)
  have er : (⟨(i 0).val % 128, by omega⟩ : Fin 128) = r := Fin.ext (by show (i 0).val % 128 = r.val; omega)
  unfold g15
  rw [et, er, h1]
theorem point15 (t : Fin cfg0.N) (y : S128x128.Idx) : o15 m c t y = g15 m c (((cfg0.win 15).blk t).view.emb y) := by
  have hy0 : (y 0).val < 128 := (y 0).isLt
  have ht := lt_N t
  have he : ((cfg0.win 15).blk t).view.emb y = ix2 (⟨t.val * 128 + (y 0).val, by omega⟩ : Fin 128) (y 1) := by blk_ext [idx t]
  have hy : y = ix2 (y 0) (y 1) := by blk_ext []
  refine Eq.trans ?_ (congrArg (g15 m c) he).symm
  have hg := g15_at m c t (y 0) (y 1) (ix2 (⟨t.val * 128 + (y 0).val, by omega⟩ : Fin 128) (y 1)) rfl rfl
  exact Eq.trans (congrArg (o15 m c t) hy) hg.symm
theorem final15 : (dats m 0 c).arrAt 15 (cfgs 0).N = g15 m c := by
  refine (dats m 0 c).arrAt_eq_of_covers 15 _ (by decide +kernel) fun t _ y => ?_
  blk_simp
  rw [after0_15]
  exact point15 m c t y
theorem fin15_at (R : Fin 128) (l : Fin 64) (u : Fin 128) (hu : u.val = l.val) :
    (dats m 0 c).arrAt 15 (cfgs 0).N (ix2 R u) = REFI (m ((c : Thread nD τ).loc main_arg0)) (m ((c : Thread nD τ).loc main_arg1)) (m ((c : Thread nD τ).loc main_arg2)) (ix2 R l) := by
  refine (congrFun (final15 m c) (ix2 R u)).trans ?_
  refine (g15_at m c ⟨R.val / 128, div_lt (ix2 R u)⟩ (⟨R.val % 128, by omega⟩ : Fin 128) u _ (by show R.val = R.val / 128 * 128 + R.val % 128; omega) rfl).trans ?_
  exact o15_at m c _ _ l u hu R (by show R.val = R.val / 128 * 128 + R.val % 128; omega)
theorem tail : Pipeline.afterTail₀ cfgs (dats m) 0 (V0 m) [hostOps1] c main_v75 = REFI (m ((c.tc : Thread nD τ).loc main_arg0)) (m ((c.tc : Thread nD τ).loc main_arg1)) (m ((c.tc : Thread nD τ).loc main_arg2)) := by
  have ew : Pipeline.withArrays (cfgs 0).spec c (V0 m c) (fun w => (dats m 0 c).arrAt w (cfgs 0).N) (Proc.devRef .tc main_v74_6) = (dats m 0 c).arrAt 15 (cfgs 0).N :=
    Pipeline.withArrays_arr (cfgs 0).spec (by decide) c (V0 m c) (fun w => (dats m 0 c).arrAt w (cfgs 0).N) 15
  have e : Pipeline.afterTail₀ cfgs (dats m) 0 (V0 m) [hostOps1] c main_v75
      = extractStridedSlice S128x64 ![0, 0] (Pipeline.withArrays (cfgs 0).spec c (V0 m c) (fun w => (dats m 0 c).arrAt w (cfgs 0).N) (Proc.devRef .tc main_v74_6) : FVec Ideal S128x128 .f32) slices_S128x128_S128x64_0_0 := by
    unfold Pipeline.afterTail₀
    simp only [List.flatten_cons, List.flatten_nil, List.append_nil]
    after_results
  rw [e, ew]
  funext j
  have hj : (j 1).val < 64 := (j 1).isLt
  have ej : j = ix2 (j 0) (j 1) := by blk_ext []
  refine Eq.trans ?_ ((fin15_at m c (j 0) (j 1) (⟨(j 1).val, by omega⟩ : Fin 128) rfl).trans (congrArg _ ej.symm))
  pointwise
theorem run (ρ : Dev nD → PrngReg) : θ_run defs (onTc (τ := τ) (main (F := Ideal))) ⟨m, fun _ => 0, ρ⟩ fun r => ∀ c : Dev nD,
      r.2.mem ((c.tc : Thread nD τ).loc main_v74_1) = REFK (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v74_2) = REFV (m ((c.tc : Thread nD τ).loc main_arg0)) (m ((c.tc : Thread nD τ).loc main_arg1)) (m ((c.tc : Thread nD τ).loc main_arg2))
      ∧ r.2.mem ((c.tc : Thread nD τ).loc main_v75) = REFI (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 10).trans (final10 m c), ((h.1 c).1 11).trans (final11 m c),
      ((h.1 c).2 main_v75 (by decide)).trans (tail m c), h.2 c⟩)
    (θ_run_and (run_main m ρ) (unchanged m ρ))
end Cert.Kernel8Ideal.InP
theorem Cert.algebraic8 : Cert.algebraic_Kernel8Ideal_Reference8Ideal := by
  intro m g m' g' hpre hagree
  refine ⟨fun c => Cert.Reference8Ideal.InP.REFK (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg4)),
    fun c => Cert.Reference8Ideal.InP.REFV (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    fun c => Cert.Reference8Ideal.InP.REFI (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    Cert.Kernel8Ideal.InP.run m g, ?_⟩
  refine (θ_run _ _ _).mono (fun r h c => ?_) (Cert.Reference8Ideal.InP.run m' g')
  obtain ⟨e0, e1, e2, e3, e4⟩ := hagree c
  obtain ⟨hk, hv, hi, ha⟩ := h c
  rw [e0, e1, e2, e4] at hk
  rw [e0, e1, e2] at hv hi
  exact ⟨hk, hv, hi, ha⟩
end
-- ==== Proof.Ssm.lean ====
module
public import proofs.«01_k».proof.Defs
public import Idealize.ShloMosaic.Lib.Claim
public import proofs.«01_k».proof.Proof.Gen.ReferenceIdeal.Run
@[expose] public section
noncomputable section
open Idealize.ShloMosaic Idealize.ShloMosaic.TcCoe Idealize.SL.Sem
theorem Cert.frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
end
-- ==== Proof.lean ====
module

public import proofs.«01_k».proof.Proof.Gen.ReferenceIdeal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Reference4Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel5Ideal.Value
public import proofs.«01_k».proof.Proof.Gen.Reference5Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6Ideal.Value
public import proofs.«01_k».proof.Proof.Gen.Reference6Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Ple
public import proofs.«01_k».proof.Proof.Merge6
public import proofs.«01_k».proof.Proof.Ple5
public import proofs.«01_k».proof.Proof.Merge
public import proofs.«01_k».proof.Proof.ConvValue
public import proofs.«01_k».proof.Proof.BitConvFrame
public import proofs.«01_k».proof.Proof.InProjValue
public import proofs.«01_k».proof.Proof.InProjSValue
public import proofs.«01_k».proof.Proof.InProjBits
public import proofs.«01_k».proof.Proof.InProjSBits
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Ssm
public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m ρ _ => Cert.Kernel.Gen.frame m ρ, fun m ρ _ => Cert.KernelIdeal.Gen.frame m ρ, Cert.frame_reference,
  fun m ρ _ => Cert.Kernel2.Gen.frame m ρ, fun m ρ _ => Cert.Kernel2Ideal.Gen.frame m ρ, Cert.frame_reference2,
  fun m ρ _ => Cert.Kernel3.Gen.frame m ρ, fun m ρ _ => Cert.Kernel3Ideal.Gen.frame m ρ, Cert.frame_reference3,
  fun m ρ _ => Cert.Kernel4.Gen.frame m ρ, fun m ρ _ => Cert.Kernel4Ideal.Gen.frame m ρ, Cert.frame_reference4,
  fun m ρ _ => Cert.Kernel5.Gen.frame m ρ, fun m ρ _ => Cert.Kernel5Ideal.Gen.frame m ρ, Cert.frame_reference5,
  fun m ρ _ => Cert.Kernel6.Gen.frame m ρ, fun m ρ _ => Cert.Kernel6Ideal.Gen.frame m ρ, Cert.frame_reference6,
  fun m ρ _ => Cert.Kernel7.Gen.frame m ρ, fun m ρ _ => Cert.Kernel7Ideal.Gen.frame m ρ, Cert.frame_reference7,
  fun m ρ _ => Cert.Kernel8.Gen.frame m ρ, fun m ρ _ => Cert.Kernel8Ideal.Gen.frame m ρ, Cert.frame_reference8,
  trivial, trivial, Cert.algebraic2, trivial, Cert.algebraic3, trivial, Cert.algebraic4, trivial, Cert.algebraic5, trivial, Cert.algebraic6, trivial, Cert.algebraic7, trivial, Cert.algebraic8⟩

end Cert.Proof

end
